-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontReferenceIdeal (m : (ℓ : Loc Cert.FrontReferenceIdeal.nD Cert.FrontReferenceIdeal.τ Cert.FrontReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7)
      ∧ r.2.mem ((c.tc : Thread Cert.FrontReferenceIdeal.nD Cert.FrontReferenceIdeal.τ).loc Cert.FrontReferenceIdeal.main_arg8) = m ((c.tc : Thread Cert.FrontReferenceIdeal.nD Cert.FrontReferenceIdeal.τ).loc Cert.FrontReferenceIdeal.main_arg8)
      ∧ r.2.mem ((c.tc : Thread Cert.FrontReferenceIdeal.nD Cert.FrontReferenceIdeal.τ).loc Cert.FrontReferenceIdeal.main_arg9) = m ((c.tc : Thread Cert.FrontReferenceIdeal.nD Cert.FrontReferenceIdeal.τ).loc Cert.FrontReferenceIdeal.main_arg9))
      ∧ r.2.sem = fun _ => 0)

def preserves_Kernel_KernelIdeal : Prop :=
  IdealRules.named_const.Statement Cert.KernelIdeal.κ "inv127" .f32 0x3C010204#32 ((1 / 127 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Front_FrontIdeal : Prop :=
  IdealRules.named_const.Statement Cert.FrontIdeal.κ "inv127" .f32 0x3C010204#32 ((1 / 127 : ℝ) : EReal)

def algebraic_FrontIdeal_FrontReferenceIdeal [hFrontIdeal : Cert.FrontIdeal.Facts] [hFrontReferenceIdeal : Cert.FrontReferenceIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)
      ∧ m' ((c.tc : Thread Cert.FrontReferenceIdeal.nD Cert.FrontReferenceIdeal.τ).loc Cert.FrontReferenceIdeal.main_arg5) = m ((c.tc : Thread Cert.FrontIdeal.nD Cert.FrontIdeal.τ).loc Cert.FrontIdeal.main_arg5)
      ∧ m' ((c.tc : Thread Cert.FrontReferenceIdeal.nD Cert.FrontReferenceIdeal.τ).loc Cert.FrontReferenceIdeal.main_arg6) = m ((c.tc : Thread Cert.FrontIdeal.nD Cert.FrontIdeal.τ).loc Cert.FrontIdeal.main_arg6)
      ∧ m' ((c.tc : Thread Cert.FrontReferenceIdeal.nD Cert.FrontReferenceIdeal.τ).loc Cert.FrontReferenceIdeal.main_arg7) = m ((c.tc : Thread Cert.FrontIdeal.nD Cert.FrontIdeal.τ).loc Cert.FrontIdeal.main_arg7)
      ∧ m' ((c.tc : Thread Cert.FrontReferenceIdeal.nD Cert.FrontReferenceIdeal.τ).loc Cert.FrontReferenceIdeal.main_arg8) = m ((c.tc : Thread Cert.FrontIdeal.nD Cert.FrontIdeal.τ).loc Cert.FrontIdeal.main_arg8)
      ∧ m' ((c.tc : Thread Cert.FrontReferenceIdeal.nD Cert.FrontReferenceIdeal.τ).loc Cert.FrontReferenceIdeal.main_arg9) = m ((c.tc : Thread Cert.FrontIdeal.nD Cert.FrontIdeal.τ).loc Cert.FrontIdeal.main_arg9)) →
    ∃ (v0 : (c : Dev Cert.FrontIdeal.nD) → Buf (Elt Ideal) ((c.tc : Thread Cert.FrontIdeal.nD Cert.FrontIdeal.τ).loc Cert.FrontIdeal.main_v0_2)) (v1 : (c : Dev Cert.FrontIdeal.nD) → Buf (Elt Ideal) ((c.tc : Thread Cert.FrontIdeal.nD Cert.FrontIdeal.τ).loc Cert.FrontIdeal.main_v0_3)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v0_2) = v0 c
          ∧ r.2.mem ((c.tc : Thread Cert.FrontIdeal.nD Cert.FrontIdeal.τ).loc Cert.FrontIdeal.main_v0_3) = v1 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v0_0) = v0 c
          ∧ r.2.mem ((c.tc : Thread Cert.FrontReferenceIdeal.nD Cert.FrontReferenceIdeal.τ).loc Cert.FrontReferenceIdeal.main_v1) = v1 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4)
          ∧ r.2.mem ((c.tc : Thread Cert.FrontReferenceIdeal.nD Cert.FrontReferenceIdeal.τ).loc Cert.FrontReferenceIdeal.main_arg5) = m' ((c.tc : Thread Cert.FrontReferenceIdeal.nD Cert.FrontReferenceIdeal.τ).loc Cert.FrontReferenceIdeal.main_arg5)
          ∧ r.2.mem ((c.tc : Thread Cert.FrontReferenceIdeal.nD Cert.FrontReferenceIdeal.τ).loc Cert.FrontReferenceIdeal.main_arg6) = m' ((c.tc : Thread Cert.FrontReferenceIdeal.nD Cert.FrontReferenceIdeal.τ).loc Cert.FrontReferenceIdeal.main_arg6)
          ∧ r.2.mem ((c.tc : Thread Cert.FrontReferenceIdeal.nD Cert.FrontReferenceIdeal.τ).loc Cert.FrontReferenceIdeal.main_arg7) = m' ((c.tc : Thread Cert.FrontReferenceIdeal.nD Cert.FrontReferenceIdeal.τ).loc Cert.FrontReferenceIdeal.main_arg7)
          ∧ r.2.mem ((c.tc : Thread Cert.FrontReferenceIdeal.nD Cert.FrontReferenceIdeal.τ).loc Cert.FrontReferenceIdeal.main_arg8) = m' ((c.tc : Thread Cert.FrontReferenceIdeal.nD Cert.FrontReferenceIdeal.τ).loc Cert.FrontReferenceIdeal.main_arg8)
          ∧ r.2.mem ((c.tc : Thread Cert.FrontReferenceIdeal.nD Cert.FrontReferenceIdeal.τ).loc Cert.FrontReferenceIdeal.main_arg9) = m' ((c.tc : Thread Cert.FrontReferenceIdeal.nD Cert.FrontReferenceIdeal.τ).loc Cert.FrontReferenceIdeal.main_arg9))

def Claim : Prop :=
  ∃ (hKernel : Cert.Kernel.Facts) (hKernelIdeal : Cert.KernelIdeal.Facts) (hReferenceIdeal : Cert.ReferenceIdeal.Facts) (hFront : Cert.Front.Facts) (hFrontIdeal : Cert.FrontIdeal.Facts) (hFrontReferenceIdeal : Cert.FrontReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Front (hFront := hFront)
    ∧ quiescent_FrontIdeal (hFrontIdeal := hFrontIdeal)
    ∧ quiescent_FrontReferenceIdeal (hFrontReferenceIdeal := hFrontReferenceIdeal)
    ∧ preserves_Kernel_KernelIdeal
    ∧ algebraic_KernelIdeal_ReferenceIdeal (hKernelIdeal := hKernelIdeal) (hReferenceIdeal := hReferenceIdeal)
    ∧ preserves_Front_FrontIdeal
    ∧ algebraic_FrontIdeal_FrontReferenceIdeal (hFrontIdeal := hFrontIdeal) (hFrontReferenceIdeal := hFrontReferenceIdeal)
-- ==== Kernel.lean ====
abbrev S7680x2048 : Shape := ⟨2, ![7680, 2048]⟩
abbrev S7680 : Shape := ⟨1, ![7680]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S15x4x128 : Shape := ⟨3, ![15, 4, 128]⟩
abbrev S1x8192 : Shape := ⟨2, ![1, 8192]⟩
abbrev S1x2048 : Shape := ⟨2, ![1, 2048]⟩
abbrev S7680x8192 : Shape := ⟨2, ![7680, 8192]⟩
abbrev S512x2048 : Shape := ⟨2, ![512, 2048]⟩
abbrev S1x4x128 : Shape := ⟨3, ![1, 4, 128]⟩
abbrev S2048x1024 : Shape := ⟨2, ![2048, 1024]⟩
abbrev S1x1024 : Shape := ⟨2, ![1, 1024]⟩
abbrev S2048x2048 : Shape := ⟨2, ![2048, 2048]⟩
abbrev S512x128 : Shape := ⟨2, ![512, 128]⟩
abbrev S512x8192 : Shape := ⟨2, ![512, 8192]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩
abbrev S512x1 : Shape := ⟨2, ![512, 1]⟩
abbrev S2048x512 : Shape := ⟨2, ![2048, 512]⟩
abbrev S512x512 : Shape := ⟨2, ![512, 512]⟩
abbrev S1x512 : Shape := ⟨2, ![1, 512]⟩
abbrev S512 : Shape := ⟨1, ![512]⟩

abbrev nBuf : Space → Nat
  | .hbm => 16
  | .vmem => 28
  | .smem => 0
  | _ => 0

abbrev bufTy : (tb : Table) → Fin (tcTables nBuf tb) → BufTy
  | .hbm, ⟨0, _⟩ => ⟨S7680x2048, .i8⟩
  | .hbm, ⟨1, _⟩ => ⟨S7680, .f32⟩
  | .hbm, ⟨2, _⟩ => ⟨S7680x2048, .f32⟩
  | .hbm, ⟨3, _⟩ => ⟨S2048x8192, .i8⟩
  | .hbm, ⟨4, _⟩ => ⟨S8192, .f32⟩
  | .hbm, ⟨5, _⟩ => ⟨S2048x8192, .i8⟩
  | .hbm, ⟨6, _⟩ => ⟨S8192, .f32⟩
  | .hbm, ⟨7, _⟩ => ⟨S8192x2048, .i8⟩
  | .hbm, ⟨8, _⟩ => ⟨S2048, .f32⟩
  | .hbm, ⟨9, _⟩ => ⟨S15x4x128, .f32⟩
  | .hbm, ⟨10, _⟩ => ⟨S1x8192, .f32⟩
  | .hbm, ⟨11, _⟩ => ⟨S1x8192, .f32⟩
  | .hbm, ⟨12, _⟩ => ⟨S1x2048, .f32⟩
  | .hbm, ⟨13, _⟩ => ⟨S7680x2048, .bf16⟩
  | .hbm, ⟨14, _⟩ => ⟨S7680x8192, .i8⟩
  | .hbm, ⟨15, _⟩ => ⟨S15x4x128, .f32⟩
  | .local _ .vmem, ⟨0, _⟩ => ⟨S512x2048, .i8⟩
  | .local _ .vmem, ⟨1, _⟩ => ⟨S512x2048, .i8⟩
  | .local _ .vmem, ⟨2, _⟩ => ⟨S1x4x128, .f32⟩
  | .local _ .vmem, ⟨3, _⟩ => ⟨S1x4x128, .f32⟩
  | .local _ .vmem, ⟨4, _⟩ => ⟨S512x2048, .f32⟩
  | .local _ .vmem, ⟨5, _⟩ => ⟨S512x2048, .f32⟩
  | .local _ .vmem, ⟨6, _⟩ => ⟨S2048x1024, .i8⟩
  | .local _ .vmem, ⟨7, _⟩ => ⟨S2048x1024, .i8⟩
  | .local _ .vmem, ⟨8, _⟩ => ⟨S1x1024, .f32⟩
  | .local _ .vmem, ⟨9, _⟩ => ⟨S1x1024, .f32⟩
  | .local _ .vmem, ⟨10, _⟩ => ⟨S2048x1024, .i8⟩
  | .local _ .vmem, ⟨11, _⟩ => ⟨S2048x1024, .i8⟩
  | .local _ .vmem, ⟨12, _⟩ => ⟨S1x1024, .f32⟩
  | .local _ .vmem, ⟨13, _⟩ => ⟨S1x1024, .f32⟩
  | .local _ .vmem, ⟨14, _⟩ => ⟨S2048x2048, .i8⟩
  | .local _ .vmem, ⟨15, _⟩ => ⟨S2048x2048, .i8⟩
  | .local _ .vmem, ⟨16, _⟩ => ⟨S1x2048, .f32⟩
  | .local _ .vmem, ⟨17, _⟩ => ⟨S512x2048, .bf16⟩
  | .local _ .vmem, ⟨18, _⟩ => ⟨S512x2048, .bf16⟩
  | .local _ .vmem, ⟨19, _⟩ => ⟨S512x2048, .i8⟩
  | .local _ .vmem, ⟨20, _⟩ => ⟨S512x2048, .i8⟩
  | .local _ .vmem, ⟨21, _⟩ => ⟨S1x4x128, .f32⟩
  | .local _ .vmem, ⟨22, _⟩ => ⟨S1x4x128, .f32⟩
  | .local _ .vmem, ⟨23, _⟩ => ⟨S512x2048, .bf16⟩
  | .local _ .vmem, ⟨24, _⟩ => ⟨S512x128, .f32⟩
  | .local _ .vmem, ⟨25, _⟩ => ⟨S512x8192, .f32⟩
  | .local _ .vmem, ⟨26, _⟩ => ⟨S512x128, .f32⟩
  | .local _ .vmem, ⟨27, _⟩ => ⟨S512x2048, .f32⟩
  | _, _ => ⟨S7680x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![15, 12], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c1024_i32 : BitVec 32 := 1024#32
  let v45 : BitVec 32 := Scalar.muli arg1 c1024_i32
  let c0_i32_24 : BitVec 32 := 0#32
  let v46 : BitVec 32 := Scalar.addi v45 c0_i32_24
  v46
def k0_off1 (i : grid0.Coords) (c0_i32_24 : BitVec 32) : Fin 2 → Nat :=
  let c0_25 : Index := 0#32
  let arg1 : BitVec 32 := BitVec.ofNat 32 (i 1).val
  let c1024_i32 : BitVec 32 := 1024#32
  let v45 : BitVec 32 := Scalar.muli arg1 c1024_i32
  let v46 : BitVec 32 := Scalar.addi v45 c0_i32_24
  let v47 : BitVec 32 := v46
  let v48 : Index := Scalar.indexCast v47
  ![0, v48.toNat]
def k0_mult2 (i : grid0.Coords) : BitVec 32 :=
  let arg1 : BitVec 32 := BitVec.ofNat 32 (i 1).val
  let c1024_i32_38 : BitVec 32 := 1024#32
  let v88 : BitVec 32 := Scalar.muli arg1 c1024_i32_38
  let c512_i32 : BitVec 32 := 512#32
  let v89 : BitVec 32 := Scalar.addi v88 c512_i32
  v89
def k0_cond4 (i : grid0.Coords) : BitVec 1 :=
  let arg1 : BitVec 32 := BitVec.ofNat 32 (i 1).val
  let c8_i32_4 : BitVec 32 := 8#32
  let v9 : BitVec 1 := Scalar.cmpi .sge arg1 c8_i32_4
  let v10 : BitVec 32 := Scalar.extui v9
  let c0_i32_5 : BitVec 32 := 0#32
  let v11 : BitVec 1 := Scalar.cmpi .ne v10 c0_i32_5
  v11

def k0_mult3 (i : grid0.Coords) : BitVec 32 :=
  let arg1 : BitVec 32 := BitVec.ofNat 32 (i 1).val
  let c8_i32_8 : BitVec 32 := 8#32
  let v16 : BitVec 32 := Scalar.subi arg1 c8_i32_8
  let c2048_i32 : BitVec 32 := 2048#32
  let v17 : BitVec 32 := Scalar.muli v16 c2048_i32
  v17
def k0_off2 (i : grid0.Coords) : Fin 2 → Nat :=
  let c0_9 : Index := 0#32
  let arg1 : BitVec 32 := BitVec.ofNat 32 (i 1).val
  let c8_i32_8 : BitVec 32 := 8#32
  let v16 : BitVec 32 := Scalar.subi arg1 c8_i32_8
  let c2048_i32 : BitVec 32 := 2048#32
  let v17 : BitVec 32 := Scalar.muli v16 c2048_i32
  let v18 : BitVec 32 := v17
  let v19 : Index := Scalar.indexCast v18
  ![0, v19.toNat]
def k0_cond5 (i : grid0.Coords) : BitVec 1 :=
  let arg1 : BitVec 32 := BitVec.ofNat 32 (i 1).val
  let c11_i32 : BitVec 32 := 11#32
  let v12 : BitVec 1 := Scalar.cmpi .eq arg1 c11_i32
  let v13 : BitVec 32 := Scalar.extui v12
  let c0_i32_6 : BitVec 32 := 0#32
  let v14 : BitVec 1 := Scalar.cmpi .ne v13 c0_i32_6
  v14

def k0_cond3 (i : grid0.Coords) : BitVec 1 :=
  let arg1 : BitVec 32 := BitVec.ofNat 32 (i 1).val
  let c8_i32_2 : BitVec 32 := 8#32
  let v6 : BitVec 1 := Scalar.cmpi .eq arg1 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x2048 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "inv127" => some ((1 / 127 : ℝ) : EReal)
  | _ => none
-- ==== ReferenceIdeal.lean ====
abbrev S7680x2048 : Shape := ⟨2, ![7680, 2048]⟩
abbrev S7680 : Shape := ⟨1, ![7680]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S7680x1 : Shape := ⟨2, ![7680, 1]⟩
abbrev S1x8192 : Shape := ⟨2, ![1, 8192]⟩
abbrev S1x2048 : Shape := ⟨2, ![1, 2048]⟩
abbrev S7680x8192 : Shape := ⟨2, ![7680, 8192]⟩
abbrev S15x4x128 : Shape := ⟨3, ![15, 4, 128]⟩

abbrev nBuf : Space → Nat
  | .hbm => 17
  | .vmem => 12
  | .smem => 0
  | _ => 0

abbrev bufTy : (tb : Table) → Fin (tcTables nBuf tb) → BufTy
  | .hbm, ⟨0, _⟩ => ⟨S7680x2048, .i8⟩
  | .hbm, ⟨1, _⟩ => ⟨S7680, .f32⟩
  | .hbm, ⟨2, _⟩ => ⟨S7680x2048, .f32⟩
  | .hbm, ⟨3, _⟩ => ⟨S2048x8192, .i8⟩
  | .hbm, ⟨4, _⟩ => ⟨S8192, .f32⟩
  | .hbm, ⟨5, _⟩ => ⟨S2048x8192, .i8⟩
  | .hbm, ⟨6, _⟩ => ⟨S8192, .f32⟩
  | .hbm, ⟨7, _⟩ => ⟨S8192x2048, .i8⟩
  | .hbm, ⟨8, _⟩ => ⟨S2048, .f32⟩
  | .hbm, ⟨9, _⟩ => ⟨S7680x1, .f32⟩
  | .hbm, ⟨10, _⟩ => ⟨S1x8192, .f32⟩
  | .hbm, ⟨11, _⟩ => ⟨S1x8192, .f32⟩
  | .hbm, ⟨12, _⟩ => ⟨S1x2048, .f32⟩
  | .hbm, ⟨13, _⟩ => ⟨S7680x2048, .bf16⟩
  | .hbm, ⟨14, _⟩ => ⟨S7680x8192, .i8⟩
  | .hbm, ⟨15, _⟩ => ⟨S7680x1, .f32⟩
  | .hbm, ⟨16, _⟩ => ⟨S15x4x128, .f32⟩
  | .local _ .vmem, ⟨0, _⟩ => ⟨S7680x2048, .i8⟩
  | .local _ .vmem, ⟨1, _⟩ => ⟨S7680x1, .f32⟩
  | .local _ .vmem, ⟨2, _⟩ => ⟨S7680x2048, .f32⟩
  | .local _ .vmem, ⟨3, _⟩ => ⟨S2048x8192, .i8⟩
  | .local _ .vmem, ⟨4, _⟩ => ⟨S1x8192, .f32⟩
  | .local _ .vmem, ⟨5, _⟩ => ⟨S2048x8192, .i8⟩
  | .local _ .vmem, ⟨6, _⟩ => ⟨S1x8192, .f32⟩
  | .local _ .vmem, ⟨7, _⟩ => ⟨S8192x2048, .i8⟩
  | .local _ .vmem, ⟨8, _⟩ => ⟨S1x2048, .f32⟩
  | .local _ .vmem, ⟨9, _⟩ => ⟨S7680x2048, .bf16⟩
  | .local _ .vmem, ⟨10, _⟩ => ⟨S7680x8192, .i8⟩
  | .local _ .vmem, ⟨11, _⟩ => ⟨S7680x1, .f32⟩
  | _, _ => ⟨S7680x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S7680x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x8192 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x2048 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7680x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7680x8192 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7680x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Front.lean ====
abbrev S7680x2048 : Shape := ⟨2, ![7680, 2048]⟩
abbrev S41 : Shape := ⟨1, ![41]⟩
abbrev S1x128 : Shape := ⟨2, ![1, 128]⟩
abbrev S1x2048 : Shape := ⟨2, ![1, 2048]⟩
abbrev S2048x6144 : Shape := ⟨2, ![2048, 6144]⟩
abbrev S1x6144 : Shape := ⟨2, ![1, 6144]⟩
abbrev S3x2048 : Shape := ⟨2, ![3, 2048]⟩
abbrev S2048x2048 : Shape := ⟨2, ![2048, 2048]⟩
abbrev S40x2x2048 : Shape := ⟨3, ![40, 2, 2048]⟩
abbrev S15x4x128 : Shape := ⟨3, ![15, 4, 128]⟩
abbrev S512x2048 : Shape := ⟨2, ![512, 2048]⟩
abbrev S1x4x128 : Shape := ⟨3, ![1, 4, 128]⟩
abbrev S520x2048 : Shape := ⟨2, ![520, 2048]⟩
abbrev S8x2048 : Shape := ⟨2, ![8, 2048]⟩
abbrev S512x128 : Shape := ⟨2, ![512, 128]⟩
abbrev S128x128 : Shape := ⟨2, ![128, 128]⟩
abbrev S8x128 : Shape := ⟨2, ![8, 128]⟩
abbrev S512x1 : Shape := ⟨2, ![512, 1]⟩
abbrev S512 : Shape := ⟨1, ![512]⟩
abbrev S128x1 : Shape := ⟨2, ![128, 1]⟩
abbrev S128 : Shape := ⟨1, ![128]⟩
abbrev S1x1x128 : Shape := ⟨3, ![1, 1, 128]⟩
abbrev S512x512 : Shape := ⟨2, ![512, 512]⟩
abbrev S2048x512 : Shape := ⟨2, ![2048, 512]⟩
abbrev S1x512 : Shape := ⟨2, ![1, 512]⟩
abbrev S8x512 : Shape := ⟨2, ![8, 512]⟩
abbrev S2x512 : Shape := ⟨2, ![2, 512]⟩
abbrev S1 : Shape := ⟨1, ![1]⟩
abbrev S1x1x2048 : Shape := ⟨3, ![1, 1, 2048]⟩

abbrev nBuf : Space → Nat
  | .hbm => 17
  | .vmem => 29
  | .smem => 1
  | _ => 0

abbrev bufTy : (tb : Table) → Fin (tcTables nBuf tb) → BufTy
  | .hbm, ⟨0, _⟩ => ⟨S7680x2048, .bf16⟩
  | .hbm, ⟨1, _⟩ => ⟨S1x128, .i32⟩
  | .hbm, ⟨2, _⟩ => ⟨S1x2048, .f32⟩
  | .hbm, ⟨3, _⟩ => ⟨S2048x6144, .i8⟩
  | .hbm, ⟨4, _⟩ => ⟨S1x6144, .f32⟩
  | .hbm, ⟨5, _⟩ => ⟨S3x2048, .f32⟩
  | .hbm, ⟨6, _⟩ => ⟨S2048x2048, .i8⟩
  | .hbm, ⟨7, _⟩ => ⟨S1x2048, .f32⟩
  | .hbm, ⟨8, _⟩ => ⟨S1x2048, .f32⟩
  | .hbm, ⟨9, _⟩ => ⟨S7680x2048, .f32⟩
  | .hbm, ⟨10, _⟩ => ⟨S40x2x2048, .f32⟩
  | .hbm, ⟨11, _⟩ => ⟨S7680x2048, .i8⟩
  | .hbm, ⟨12, _⟩ => ⟨S15x4x128, .f32⟩
  | .hbm, ⟨13, _⟩ => ⟨S7680x2048, .i8⟩
  | .hbm, ⟨14, _⟩ => ⟨S15x4x128, .f32⟩
  | .hbm, ⟨15, _⟩ => ⟨S7680x2048, .i8⟩
  | .hbm, ⟨16, _⟩ => ⟨S15x4x128, .f32⟩
  | .local _ .vmem, ⟨0, _⟩ => ⟨S512x2048, .bf16⟩
  | .local _ .vmem, ⟨1, _⟩ => ⟨S512x2048, .bf16⟩
  | .local _ .vmem, ⟨2, _⟩ => ⟨S1x128, .i32⟩
  | .local _ .vmem, ⟨3, _⟩ => ⟨S1x2048, .f32⟩
  | .local _ .vmem, ⟨4, _⟩ => ⟨S2048x6144, .i8⟩
  | .local _ .vmem, ⟨5, _⟩ => ⟨S1x6144, .f32⟩
  | .local _ .vmem, ⟨6, _⟩ => ⟨S3x2048, .f32⟩
  | .local _ .vmem, ⟨7, _⟩ => ⟨S2048x2048, .i8⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S40x2x2048, .f32⟩
  | .local _ .vmem, ⟨13, _⟩ => ⟨S512x2048, .i8⟩
  | .local _ .vmem, ⟨14, _⟩ => ⟨S512x2048, .i8⟩
  | .local _ .vmem, ⟨15, _⟩ => ⟨S1x4x128, .f32⟩
  | .local _ .vmem, ⟨16, _⟩ => ⟨S1x4x128, .f32⟩
  | .local _ .vmem, ⟨17, _⟩ => ⟨S512x2048, .i8⟩
  | .local _ .vmem, ⟨18, _⟩ => ⟨S512x2048, .i8⟩
  | .local _ .vmem, ⟨19, _⟩ => ⟨S1x4x128, .f32⟩
  | .local _ .vmem, ⟨20, _⟩ => ⟨S1x4x128, .f32⟩
  | .local _ .vmem, ⟨21, _⟩ => ⟨S512x2048, .i8⟩
  | .local _ .vmem, ⟨22, _⟩ => ⟨S512x2048, .i8⟩
  | .local _ .vmem, ⟨23, _⟩ => ⟨S1x4x128, .f32⟩
  | .local _ .vmem, ⟨24, _⟩ => ⟨S1x4x128, .f32⟩
  | .local _ .vmem, ⟨25, _⟩ => ⟨S512x2048, .bf16⟩
  | .local _ .vmem, ⟨26, _⟩ => ⟨S520x2048, .f32⟩
  | .local _ .vmem, ⟨27, _⟩ => ⟨S512x2048, .f32⟩
  | .local _ .vmem, ⟨28, _⟩ => ⟨S8x2048, .f32⟩
  | .local _ .smem, ⟨0, _⟩ => ⟨S41, .i32⟩
  | _, _ => ⟨S7680x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![15], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_297 : BitVec 32 := 0#32
  let c40_i32 : BitVec 32 := 40#32
  let v1048 : BitVec 32 := Scalar.addi c0_i32_297 c40_i32
  let c1_i32_298 : BitVec 32 := 1#32
  ⟨c0_i32_297, v1048, c1_i32_298⟩
def k0_off1 (k0_t1 : Fin k0_t1_loop.trips) : Fin 1 → Nat :=
  let c0_i32_297 : BitVec 32 := 0#32
  let c1_i32_298 : BitVec 32 := 1#32
  let arg23 : BitVec 32 := Scf.iv c0_i32_297 c1_i32_298 k0_t1
  let v1049 : Index := Scalar.indexCast arg23
  ![v1049.toNat]
def k0_off2 (k0_t1 : Fin k0_t1_loop.trips) : Fin 1 → Nat :=
  let c0_i32_297 : BitVec 32 := 0#32
  let c1_i32_298 : BitVec 32 := 1#32
  let arg23 : BitVec 32 := Scf.iv c0_i32_297 c1_i32_298 k0_t1
  let c1_i32_300 : BitVec 32 := 1#32
  let v1051 : BitVec 32 := Scalar.addi arg23 c1_i32_300
  let v1052 : Index := Scalar.indexCast v1051
  ![v1052.toNat]
def k0_off3 (i : grid0.Coords) (v1053 : BitVec 32) : Fin 2 → Nat :=
  let c2_i32_301 : BitVec 32 := 2#32
  let v1054 : BitVec 32 := Scalar.subi v1053 c2_i32_301
  let c0_i32_302 : BitVec 32 := 0#32
  let v1055 : BitVec 32 := Scalar.addi v1054 c0_i32_302
  let arg0 : BitVec 32 := BitVec.ofNat 32 (i 0).val
  let c512_i32_313 : BitVec 32 := 512#32
  let v1078 : BitVec 32 := Scalar.muli arg0 c512_i32_313
  let v1079 : BitVec 32 := Scalar.subi v1055 v1078
  let c2_i32_314 : BitVec 32 := 2#32
  let v1080 : BitVec 32 := Scalar.addi v1079 c2_i32_314
  let v1081 : Index := Scalar.indexCast v1080
  let c0_315 : Index := 0#32
  ![v1081.toNat, 0]
def k0_cond2 (i : grid0.Coords) (v1050 : BitVec 32) (v1053 : BitVec 32) : BitVec 1 :=
  let c2_i32_301 : BitVec 32 := 2#32
  let v1054 : BitVec 32 := Scalar.subi v1053 c2_i32_301
  let c0_i32_302 : BitVec 32 := 0#32
  let v1055 : BitVec 32 := Scalar.addi v1054 c0_i32_302
  let v1056 : BitVec 1 := Scalar.cmpi .sge v1055 v1050
  let arg0 : BitVec 32 := BitVec.ofNat 32 (i 0).val
  let c512_i32_303 : BitVec 32 := 512#32
  let v1057 : BitVec 32 := Scalar.muli arg0 c512_i32_303
  let v1058 : BitVec 1 := Scalar.cmpi .sge v1055 v1057
  let v1059 : BitVec 1 := Scalar.andi v1056 v1058
  let c1_i32_304 : BitVec 32 := 1#32
  let v1060 : BitVec 32 := Scalar.addi arg0 c1_i32_304
  let c512_i32_305 : BitVec 32 := 512#32
  let v1061 : BitVec 32 := Scalar.muli v1060 c512_i32_305
  let v1062 : BitVec 1 := Scalar.cmpi .slt v1055 v1061
  let v1063 : BitVec 1 := Scalar.andi v1059 v1062
  let v1064 : BitVec 32 := Scalar.extui v1063
  let c0_i32_306 : BitVec 32 := 0#32
  let v1065 : BitVec 1 := Scalar.cmpi .ne v1064 c0_i32_306
  v1065

def k0_off4 (k0_t1 : Fin k0_t1_loop.trips) : Fin 3 → Nat :=
  let c0_i32_297 : BitVec 32 := 0#32
  let c1_i32_298 : BitVec 32 := 1#32
  let arg23 : BitVec 32 := Scf.iv c0_i32_297 c1_i32_298 k0_t1
  let v1083 : Index := Scalar.indexCast arg23
  let c0_316 : Index := 0#32
  let c0_317 : Index := 0#32
  ![v1083.toNat, 0, 0]
def k0_off5 (i : grid0.Coords) (v1053 : BitVec 32) : Fin 2 → Nat :=
  let c2_i32_307 : BitVec 32 := 2#32
  let v1066 : BitVec 32 := Scalar.subi v1053 c2_i32_307
  let c1_i32_308 : BitVec 32 := 1#32
  let v1067 : BitVec 32 := Scalar.addi v1066 c1_i32_308
  let arg0 : BitVec 32 := BitVec.ofNat 32 (i 0).val
  let c512_i32_313 : BitVec 32 := 512#32
  let v1078 : BitVec 32 := Scalar.muli arg0 c512_i32_313
  let v1079 : BitVec 32 := Scalar.subi v1067 v1078
  let c2_i32_314 : BitVec 32 := 2#32
  let v1080 : BitVec 32 := Scalar.addi v1079 c2_i32_314
  let v1081 : Index := Scalar.indexCast v1080
  let c0_315 : Index := 0#32
  ![v1081.toNat, 0]
def k0_cond3 (i : grid0.Coords) (v1050 : BitVec 32) (v1053 : BitVec 32) : BitVec 1 :=
  let c2_i32_307 : BitVec 32 := 2#32
  let v1066 : BitVec 32 := Scalar.subi v1053 c2_i32_307
  let c1_i32_308 : BitVec 32 := 1#32
  let v1067 : BitVec 32 := Scalar.addi v1066 c1_i32_308
  let v1068 : BitVec 1 := Scalar.cmpi .sge v1067 v1050
  let arg0 : BitVec 32 := BitVec.ofNat 32 (i 0).val
  let c512_i32_309 : BitVec 32 := 512#32
  let v1069 : BitVec 32 := Scalar.muli arg0 c512_i32_309
  let v1070 : BitVec 1 := Scalar.cmpi .sge v1067 v1069
  let v1071 : BitVec 1 := Scalar.andi v1068 v1070
  let c1_i32_310 : BitVec 32 := 1#32
  let v1072 : BitVec 32 := Scalar.addi arg0 c1_i32_310
  let c512_i32_311 : BitVec 32 := 512#32
  let v1073 : BitVec 32 := Scalar.muli v1072 c512_i32_311
  let v1074 : BitVec 1 := Scalar.cmpi .slt v1067 v1073
  let v1075 : BitVec 1 := Scalar.andi v1071 v1074
  let v1076 : BitVec 32 := Scalar.extui v1075
  let c0_i32_312 : BitVec 32 := 0#32
  let v1077 : BitVec 1 := Scalar.cmpi .ne v1076 c0_i32_312
  v1077

def k0_chk1 (i : grid0.Coords) (v1050 : BitVec 32) (v1053 : BitVec 32) : Prop :=
  (∀ (k0_h2 : k0_cond2 i v1050 v1053 = 1#1), ∀ a, (k0_off3 i v1053) a + S1x2048.size a ≤ S520x2048.size a) ∧
  (∀ (k0_h3 : k0_cond3 i v1050 v1053 = 1#1), ∀ a, (k0_off5 i v1053) a + S1x2048.size a ≤ S520x2048.size a)
theorem k0_off3_inb : ∀ (i : grid0.Coords) (v1050 : BitVec 32) (v1053 : BitVec 32) (k0_hw1 : k0_chk1 i v1050 v1053), ∀ (k0_h2 : k0_cond2 i v1050 v1053 = 1#1), ∀ a, (k0_off3 i v1053) a + S1x2048.size a ≤ S520x2048.size a := fun i v1050 v1053 k0_hw1 k0_h2 => k0_hw1.1 k0_h2
theorem k0_off5_inb : ∀ (i : grid0.Coords) (v1050 : BitVec 32) (v1053 : BitVec 32) (k0_hw1 : k0_chk1 i v1050 v1053), ∀ (k0_h3 : k0_cond3 i v1050 v1053 = 1#1), ∀ a, (k0_off5 i v1053) a + S1x2048.size a ≤ S520x2048.size a := fun i v1050 v1053 k0_hw1 k0_h3 => k0_hw1.2 k0_h3

def k0_off6 (k0_t1 : Fin k0_t1_loop.trips) : Fin 3 → Nat :=
  let c0_i32_297 : BitVec 32 := 0#32
  let c1_i32_298 : BitVec 32 := 1#32
  let arg23 : BitVec 32 := Scf.iv c0_i32_297 c1_i32_298 k0_t1
  let v1083 : Index := Scalar.indexCast arg23
  let c1_316 : Index := 1#32
  let c0_317 : Index := 0#32
  ![v1083.toNat, 1, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x6144 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S40x2x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FrontIdeal.lean ====
variable {F : FTy → Type} [FloatOps F] [Named F]
def κ : String → Option EReal := fun
  | "inv127" => some ((1 / 127 : ℝ) : EReal)
  | _ => none
-- ==== FrontReferenceIdeal.lean ====
abbrev S7680x2048 : Shape := ⟨2, ![7680, 2048]⟩
abbrev S41 : Shape := ⟨1, ![41]⟩
abbrev S1x128 : Shape := ⟨2, ![1, 128]⟩
abbrev S1x2048 : Shape := ⟨2, ![1, 2048]⟩
abbrev S2048x6144 : Shape := ⟨2, ![2048, 6144]⟩
abbrev S1x6144 : Shape := ⟨2, ![1, 6144]⟩
abbrev S3x2048 : Shape := ⟨2, ![3, 2048]⟩
abbrev S2048x2048 : Shape := ⟨2, ![2048, 2048]⟩
abbrev S7680x1 : Shape := ⟨2, ![7680, 1]⟩
abbrev S7680 : Shape := ⟨1, ![7680]⟩
abbrev S15x4x128 : Shape := ⟨3, ![15, 4, 128]⟩

abbrev nBuf : Space → Nat
  | .hbm => 13
  | .vmem => 4
  | .smem => 0
  | _ => 0

abbrev bufTy : (tb : Table) → Fin (tcTables nBuf tb) → BufTy
  | .hbm, ⟨0, _⟩ => ⟨S7680x2048, .bf16⟩
  | .hbm, ⟨1, _⟩ => ⟨S41, .i32⟩
  | .hbm, ⟨2, _⟩ => ⟨S1x128, .i32⟩
  | .hbm, ⟨3, _⟩ => ⟨S1x2048, .f32⟩
  | .hbm, ⟨4, _⟩ => ⟨S2048x6144, .i8⟩
  | .hbm, ⟨5, _⟩ => ⟨S1x6144, .f32⟩
  | .hbm, ⟨6, _⟩ => ⟨S3x2048, .f32⟩
  | .hbm, ⟨7, _⟩ => ⟨S2048x2048, .i8⟩
  | .hbm, ⟨8, _⟩ => ⟨S1x2048, .f32⟩
  | .hbm, ⟨9, _⟩ => ⟨S1x2048, .f32⟩
  | .hbm, ⟨10, _⟩ => ⟨S7680x2048, .i8⟩
  | .hbm, ⟨11, _⟩ => ⟨S7680x1, .f32⟩
  | .hbm, ⟨12, _⟩ => ⟨S15x4x128, .f32⟩
  | .local _ .vmem, ⟨0, _⟩ => ⟨S7680x2048, .bf16⟩
  | .local _ .vmem, ⟨1, _⟩ => ⟨S1x2048, .f32⟩
  | .local _ .vmem, ⟨2, _⟩ => ⟨S7680x2048, .i8⟩
  | .local _ .vmem, ⟨3, _⟩ => ⟨S7680x1, .f32⟩
  | _, _ => ⟨S7680x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S7680x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7680x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Mlp.Step.lean ====
module

public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ReadBack
public import Idealize.ShloMosaic.Lib.VecWindow
public import Idealize.ShloMosaic.Lib.Tactic

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

local notation "𝕄" => MT nD τ sig Unit (Elt F) ℕ (UR sig nD τ) ℕ

/-! ## What one point computes, over vectors -/

/-- The tile's row scales as the first point spreads them over 128 lanes, from the tile's block of scales. -/
def col0 (x1 : Vec F S1x4x128 .f32) : Vec F S512x128 .f32 :=
  k0_pay1 k0_pay11 (k0_pay12 (window x1 ![0, 0, 0] S1x1x128.size inb_S1x4x128_S1x1x128_0_0_0)) (k0_pay13 (window x1 ![0, 1, 0] S1x1x128.size inb_S1x4x128_S1x1x128_0_1_0))
    (k0_pay14 (window x1 ![0, 2, 0] S1x1x128.size inb_S1x4x128_S1x1x128_0_2_0)) (Scalar.ofBits .f32 0x00000000#32)
    (k0_pay15 (window x1 ![0, 3, 0] S1x1x128.size inb_S1x4x128_S1x1x128_0_3_0))

/-- The first lane of a spread column. -/
abbrev lane0 (x : Vec F S512x128 .f32) : Vec F S512x1 .f32 := window x ![0, 0] S512x1.size inb_S512x128_S512x1_0_0

/-- The left half of a weight block, and of its scales; the right half. -/
abbrev wL (x : Vec F S2048x1024 .i8) : Vec F S2048x512 .i8 := window x ![0, 0] S2048x512.size inb_S2048x1024_S2048x512_0_0
abbrev wR (x : Vec F S2048x1024 .i8) : Vec F S2048x512 .i8 := window x ![0, 512] S2048x512.size inb_S2048x1024_S2048x512_0_512
abbrev sL (x : Vec F S1x1024 .f32) : Vec F S1x512 .f32 := window x ![0, 0] S1x512.size inb_S1x1024_S1x512_0_0
abbrev sR (x : Vec F S1x1024 .f32) : Vec F S1x512 .f32 := window x ![0, 512] S1x512.size inb_S1x1024_S1x512_0_512

/-- The activations of one point's left half, and of its right half. -/
def actL (a : Vec F S512x2048 .bf16) (l : Vec F S512x128 .f32) (x3 : Vec F S2048x1024 .i8) (x4 : Vec F S1x1024 .f32) (x5 : Vec F S2048x1024 .i8) (x6 : Vec F S1x1024 .f32) : Vec F S512x512 .f32 :=
  k0_pay17 a (lane0 l) (wL x3) (sL x4) (wL x5) (sL x6)
/-- The right half of the activations a gate and up point computes. -/
def actR (a : Vec F S512x2048 .bf16) (l : Vec F S512x128 .f32) (x3 : Vec F S2048x1024 .i8) (x4 : Vec F S1x1024 .f32) (x5 : Vec F S2048x1024 .i8) (x6 : Vec F S1x1024 .f32) : Vec F S512x512 .f32 :=
  k0_pay20 a (lane0 l) (wR x3) (sR x4) (wR x5) (sR x6)

/-- The activations' buffer after a point with both halves put in place. -/
def actPut (i : grid0.Coords) (s2 : Vec F S512x8192 .f32) (a : Vec F S512x2048 .bf16) (l : Vec F S512x128 .f32) (x3 : Vec F S2048x1024 .i8) (x4 : Vec F S1x1024 .f32) (x5 : Vec F S2048x1024 .i8) (x6 : Vec F S1x1024 .f32) : Vec F S512x8192 .f32 :=
  put (put s2 (k0_off1 i 0#32) S512x512.size (actL a l x3 x4 x5 x6)) (k0_off1 i 512#32) S512x512.size (actR a l x3 x4 x5 x6)

/-- The running row maxima (128 lanes a row) after a point. -/
def amaxStep (s3 : Vec F S512x128 .f32) (a : Vec F S512x2048 .bf16) (l : Vec F S512x128 .f32) (x3 : Vec F S2048x1024 .i8) (x4 : Vec F S1x1024 .f32) (x5 : Vec F S2048x1024 .i8) (x6 : Vec F S1x1024 .f32) : Vec F S512x128 .f32 :=
  k0_pay4 (k0_pay18 s3 (k0_pay16 a (lane0 l) (wL x3) (sL x4) (wL x5) (sL x6))) (k0_pay19 a (lane0 l) (wR x3) (sR x4) (wR x5) (sR x6))

/-- The block of activation scales as the tile's ninth point writes it, from the row maxima. -/
def actsBlk (y11 : Vec F S1x4x128 .f32) (s3 : Vec F S512x128 .f32) : Vec F S1x4x128 .f32 :=
  put (put (put (put y11 ![0, 0, 0] S1x1x128.size (k0_pay24 s3)) ![0, 1, 0] S1x1x128.size (k0_pay25 s3))
    ![0, 2, 0] S1x1x128.size (k0_pay5 k0_pay23 (k0_pay26 s3) (Scalar.ofBits .f32 0x00000000#32))) ![0, 3, 0] S1x1x128.size (k0_pay6 (k0_pay21 s3) k0_pay23)

/-- The slice of the activations that a down-projection point reads. -/
abbrev slab (i : grid0.Coords) (h : k0_cond4 i = 1#1) (s2 : Vec F S512x8192 .f32) : Vec F S512x2048 .f32 :=
  window s2 (k0_off2 i) S512x2048.size (k0_off2_inb i h)

/-- A load at a unit-stride rectangle reads a window of what the view reads. -/
theorem readAt_window {sig : RefSig} {κ : Kind} {sp : Space} {s : Shape} {e : EltTy} {Val : EltTy → Type} (v : View sig κ sp s e) (f : v.ty.Contents Val)
    {off size : Fin s.rank → ℕ} (inb : ∀ a, off a + size a ≤ s.size a) :
    v.readAt Val (Rect.unit off size inb).toLoadRect f = window (v.read Val f) off size inb := rfl

/-- A window of the shape's own sizes is the whole vector. -/
theorem window_full {α : Type} {s : Shape} (x : s.Idx → α) {off : Fin s.rank → ℕ} (inb : ∀ a, off a + s.size a ≤ s.size a) :
    window x off (no_index s.size) inb = x :=
  funext fun y => congrArg x (Rect.emb_unit_full inb y)

/-- A put of the shape's own sizes leaves the payload. -/
theorem put_full {α : Type} {s : Shape} (x : s.Idx → α) {off : Fin s.rank → ℕ} (w : s.Idx → α) (h : ∀ a, off a = 0) :
    put x off (no_index s.size) w = w :=
  funext fun y => (dif_pos fun a => ⟨by rw [h a]; exact Nat.zero_le _, by rw [h a, Nat.zero_add]; exact (y a).isLt⟩).trans
    (congrArg w (funext fun a => Fin.ext (by show (y a).val - off a = (y a).val; rw [h a, Nat.sub_zero])))

/-- A store over earlier stores puts its payload in what those leave. -/
theorem read_put {sig : RefSig} {κ : Kind} {sp : Space} {s : Shape} {e : EltTy} {Val : EltTy → Type} (v : View sig κ sp s e) (f : v.ty.Contents Val)
    {off size : Fin s.rank → ℕ} (inb : ∀ a, off a + size a ≤ s.size a) (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

/-- The library's read of a vector through a unit-stride rectangle is a window of it. -/
theorem ld_window {Val : EltTy → Type} {e : EltTy} {s : Shape} (x : s.Idx → Val e) (off size : Fin s.rank → ℕ) (inb : ∀ a, off a + size a ≤ s.size a) :
    View.ld (Val := Val) x (Rect.unit off size inb) = window x off size inb := rfl

/-- The body's seventeen memrefs, each held whole at a vector. -/
def held (c : Dev nD) (arg2 : Memref sig .tc .vmem S512x2048 .i8) (arg3 : Memref sig .tc .vmem S1x4x128 .f32) (arg4 : Memref sig .tc .vmem S512x2048 .f32) (arg5 : Memref sig .tc .vmem S2048x1024 .i8) (arg6 : Memref sig .tc .vmem S1x1024 .f32) (arg7 : Memref sig .tc .vmem S2048x1024 .i8) (arg8 : Memref sig .tc .vmem S1x1024 .f32) (arg9 : Memref sig .tc .vmem S2048x2048 .i8) (arg10 : Memref sig .tc .vmem S1x2048 .f32) (arg11 : Memref sig .tc .vmem S512x2048 .bf16) (arg12 : Memref sig .tc .vmem S512x2048 .i8) (arg13 : Memref sig .tc .vmem S1x4x128 .f32) (arg14 : Memref sig .tc .vmem S512x2048 .bf16) (arg15 : Memref sig .tc .vmem S512x128 .f32) (arg16 : Memref sig .tc .vmem S512x8192 .f32) (arg17 : Memref sig .tc .vmem S512x128 .f32) (arg18 : Memref sig .tc .vmem S512x2048 .f32)
    (x0 : Vec F S512x2048 .i8) (x1 : Vec F S1x4x128 .f32) (x2 : Vec F S512x2048 .f32) (x3 : Vec F S2048x1024 .i8) (x4 : Vec F S1x1024 .f32) (x5 : Vec F S2048x1024 .i8) (x6 : Vec F S1x1024 .f32) (x7 : Vec F S2048x2048 .i8) (x8 : Vec F S1x2048 .f32) (y9 : Vec F S512x2048 .bf16) (y10 : Vec F S512x2048 .i8) (y11 : Vec F S1x4x128 .f32) (s0 : Vec F S512x2048 .bf16) (s1 : Vec F S512x128 .f32) (s2 : Vec F S512x8192 .f32) (s3 : Vec F S512x128 .f32) (s4 : Vec F S512x2048 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ owns (c : Thread nD τ) arg14 fullShare s0 ∗ owns (c : Thread nD τ) arg15 fullShare s1 ∗ owns (c : Thread nD τ) arg16 fullShare s2 ∗ owns (c : Thread nD τ) arg17 fullShare s3 ∗ owns (c : Thread nD τ) arg18 fullShare s4)

/-- The condition under which the body's first `if` is taken. -/
abbrev cond1 (i : grid0.Coords) : Prop := (Scalar.cmpi .ne (Scalar.extui (Scalar.cmpi .eq (BitVec.ofNat 32 (i 1).val) 0#32)) 0#32 : BitVec 1) = 1#1

end Cert.KernelIdeal.Mlp

end
-- ==== Proof.Mlp.RunA.lean ====
module

public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ReadBack
public import Idealize.ShloMosaic.Lib.VecWindow
public import Idealize.ShloMosaic.Lib.Tactic
public import proofs.«01_k».proof.Proof.Mlp.Step

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The tile's first point: the codes and the scales are set up, then the first gate and up block. -/
theorem run_A (c : Dev nD) (i : grid0.Coords) (arg2 : Memref sig .tc .vmem S512x2048 .i8) (harg2 : arg2.IsWhole) (arg3 : Memref sig .tc .vmem S1x4x128 .f32) (harg3 : arg3.IsWhole) (arg4 : Memref sig .tc .vmem S512x2048 .f32) (harg4 : arg4.IsWhole) (arg5 : Memref sig .tc .vmem S2048x1024 .i8) (harg5 : arg5.IsWhole) (arg6 : Memref sig .tc .vmem S1x1024 .f32) (harg6 : arg6.IsWhole) (arg7 : Memref sig .tc .vmem S2048x1024 .i8) (harg7 : arg7.IsWhole) (arg8 : Memref sig .tc .vmem S1x1024 .f32) (harg8 : arg8.IsWhole) (arg9 : Memref sig .tc .vmem S2048x2048 .i8) (harg9 : arg9.IsWhole) (arg10 : Memref sig .tc .vmem S1x2048 .f32) (harg10 : arg10.IsWhole) (arg11 : Memref sig .tc .vmem S512x2048 .bf16) (harg11 : arg11.IsWhole) (arg12 : Memref sig .tc .vmem S512x2048 .i8) (harg12 : arg12.IsWhole) (arg13 : Memref sig .tc .vmem S1x4x128 .f32) (harg13 : arg13.IsWhole) (arg14 : Memref sig .tc .vmem S512x2048 .bf16) (harg14 : arg14.IsWhole) (arg15 : Memref sig .tc .vmem S512x128 .f32) (harg15 : arg15.IsWhole) (arg16 : Memref sig .tc .vmem S512x8192 .f32) (harg16 : arg16.IsWhole) (arg17 : Memref sig .tc .vmem S512x128 .f32) (harg17 : arg17.IsWhole) (arg18 : Memref sig .tc .vmem S512x2048 .f32) (harg18 : arg18.IsWhole)
    (hc0 : cond1 i) (hc1 : k0_cond2 i = 1#1) (hc2 : ¬ k0_cond3 i = 1#1) (hc3 : ¬ k0_cond4 i = 1#1) (hc4 : ¬ k0_cond5 i = 1#1)
    (x0 : Vec F S512x2048 .i8) (x1 : Vec F S1x4x128 .f32) (x2 : Vec F S512x2048 .f32) (x3 : Vec F S2048x1024 .i8) (x4 : Vec F S1x1024 .f32) (x5 : Vec F S2048x1024 .i8) (x6 : Vec F S1x1024 .f32) (x7 : Vec F S2048x2048 .i8) (x8 : Vec F S1x2048 .f32) (y9 : Vec F S512x2048 .bf16) (y10 : Vec F S512x2048 .i8) (y11 : Vec F S1x4x128 .f32) (s0 : Vec F S512x2048 .bf16) (s1 : Vec F S512x128 .f32) (s2 : Vec F S512x8192 .f32) (s3 : Vec F S512x128 .f32) (s4 : Vec F S512x2048 .f32) (E : Set ℕ) (K : PUnit → sProp 𝕄) :
    iprop(held c arg2 arg3 arg4 arg5 arg6 arg7 arg8 arg9 arg10 arg11 arg12 arg13 arg14 arg15 arg16 arg17 arg18 x0 x1 x2 x3 x4 x5 x6 x7 x8 y9 y10 y11 s0 s1 s2 s3 s4
      ∗ (held c arg2 arg3 arg4 arg5 arg6 arg7 arg8 arg9 arg10 arg11 arg12 arg13 arg14 arg15 arg16 arg17 arg18 x0 x1 x2 x3 x4 x5 x6 x7 x8 y9 y10 y11 (k0_pay10 x0) (col0 x1) (actPut i s2 (k0_pay10 x0) (col0 x1) x3 x4 x5 x6) (amaxStep k0_pay2 (k0_pay10 x0) (col0 x1) x3 x4 x5 x6) (k0_pay3) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mlp_eq_skeleton]; unfold cc0_mlp_skel
  simp only [k0_part1_eq_skeleton, k0_part2_eq_skeleton, k0_part3_eq_skeleton, k0_part4_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2 | sl_exact hc3 | sl_exact hc4)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; exact harg12.read_unread _
  isplitl [H13]
  · iexists _; isplitr
    swap; · iexact H13
    ipureintro; exact harg13.read_unread _
  isplitl [H14]
  · iexists _; isplitr
    swap; · iexact H14
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H15]
  · iexists _; isplitr
    swap; · iexact H15
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H16]
  · iexists _; isplitr
    swap; · iexact H16
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H17]
  · iexists _; isplitr
    swap; · iexact H17
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  iexists _; isplitr
  swap; · iexact H18
  ipureintro; (try sl_unfold_run_names); simp (disch := decide) only [col0, actL, actR, actPut, amaxStep, actsBlk, View.readCov_full, View.readCov_fill, ld_window, readAt_window, read_put, View.writes_nil, Memref.IsWhole.read_unread, window_full, put_full]; try rfl

end Cert.KernelIdeal.Mlp

end
-- ==== Proof.Mlp.RunB.lean ====
module

public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ReadBack
public import Idealize.ShloMosaic.Lib.VecWindow
public import Idealize.ShloMosaic.Lib.Tactic
public import proofs.«01_k».proof.Proof.Mlp.Step

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- A later gate and up point. -/
theorem run_B (c : Dev nD) (i : grid0.Coords) (arg2 : Memref sig .tc .vmem S512x2048 .i8) (harg2 : arg2.IsWhole) (arg3 : Memref sig .tc .vmem S1x4x128 .f32) (harg3 : arg3.IsWhole) (arg4 : Memref sig .tc .vmem S512x2048 .f32) (harg4 : arg4.IsWhole) (arg5 : Memref sig .tc .vmem S2048x1024 .i8) (harg5 : arg5.IsWhole) (arg6 : Memref sig .tc .vmem S1x1024 .f32) (harg6 : arg6.IsWhole) (arg7 : Memref sig .tc .vmem S2048x1024 .i8) (harg7 : arg7.IsWhole) (arg8 : Memref sig .tc .vmem S1x1024 .f32) (harg8 : arg8.IsWhole) (arg9 : Memref sig .tc .vmem S2048x2048 .i8) (harg9 : arg9.IsWhole) (arg10 : Memref sig .tc .vmem S1x2048 .f32) (harg10 : arg10.IsWhole) (arg11 : Memref sig .tc .vmem S512x2048 .bf16) (harg11 : arg11.IsWhole) (arg12 : Memref sig .tc .vmem S512x2048 .i8) (harg12 : arg12.IsWhole) (arg13 : Memref sig .tc .vmem S1x4x128 .f32) (harg13 : arg13.IsWhole) (arg14 : Memref sig .tc .vmem S512x2048 .bf16) (harg14 : arg14.IsWhole) (arg15 : Memref sig .tc .vmem S512x128 .f32) (harg15 : arg15.IsWhole) (arg16 : Memref sig .tc .vmem S512x8192 .f32) (harg16 : arg16.IsWhole) (arg17 : Memref sig .tc .vmem S512x128 .f32) (harg17 : arg17.IsWhole) (arg18 : Memref sig .tc .vmem S512x2048 .f32) (harg18 : arg18.IsWhole)
    (hc0 : ¬ cond1 i) (hc1 : k0_cond2 i = 1#1) (hc2 : ¬ k0_cond3 i = 1#1) (hc3 : ¬ k0_cond4 i = 1#1) (hc4 : ¬ k0_cond5 i = 1#1)
    (x0 : Vec F S512x2048 .i8) (x1 : Vec F S1x4x128 .f32) (x2 : Vec F S512x2048 .f32) (x3 : Vec F S2048x1024 .i8) (x4 : Vec F S1x1024 .f32) (x5 : Vec F S2048x1024 .i8) (x6 : Vec F S1x1024 .f32) (x7 : Vec F S2048x2048 .i8) (x8 : Vec F S1x2048 .f32) (y9 : Vec F S512x2048 .bf16) (y10 : Vec F S512x2048 .i8) (y11 : Vec F S1x4x128 .f32) (s0 : Vec F S512x2048 .bf16) (s1 : Vec F S512x128 .f32) (s2 : Vec F S512x8192 .f32) (s3 : Vec F S512x128 .f32) (s4 : Vec F S512x2048 .f32) (E : Set ℕ) (K : PUnit → sProp 𝕄) :
    iprop(held c arg2 arg3 arg4 arg5 arg6 arg7 arg8 arg9 arg10 arg11 arg12 arg13 arg14 arg15 arg16 arg17 arg18 x0 x1 x2 x3 x4 x5 x6 x7 x8 y9 y10 y11 s0 s1 s2 s3 s4
      ∗ (held c arg2 arg3 arg4 arg5 arg6 arg7 arg8 arg9 arg10 arg11 arg12 arg13 arg14 arg15 arg16 arg17 arg18 x0 x1 x2 x3 x4 x5 x6 x7 x8 y9 y10 y11 s0 s1 (actPut i s2 s0 s1 x3 x4 x5 x6) (amaxStep s3 s0 s1 x3 x4 x5 x6) s4 -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mlp_eq_skeleton]; unfold cc0_mlp_skel
  simp only [k0_part1_eq_skeleton, k0_part2_eq_skeleton, k0_part3_eq_skeleton, k0_part4_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2 | sl_exact hc3 | sl_exact hc4)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; exact harg12.read_unread _
  isplitl [H13]
  · iexists _; isplitr
    swap; · iexact H13
    ipureintro; exact harg13.read_unread _
  isplitl [H14]
  · iexists _; isplitr
    swap; · iexact H14
    ipureintro; exact harg14.read_unread _
  isplitl [H15]
  · iexists _; isplitr
    swap; · iexact H15
    ipureintro; exact harg15.read_unread _
  isplitl [H16]
  · iexists _; isplitr
    swap; · iexact H16
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H17]
  · iexists _; isplitr
    swap; · iexact H17
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  iexists _; isplitr
  swap; · iexact H18
  ipureintro; exact harg18.read_unread _

end Cert.KernelIdeal.Mlp

end
-- ==== Proof.Mlp.RunC.lean ====
module

public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ReadBack
public import Idealize.ShloMosaic.Lib.VecWindow
public import Idealize.ShloMosaic.Lib.Tactic
public import proofs.«01_k».proof.Proof.Mlp.Step

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The ninth point: the activation scales, then the first down block. -/
theorem run_C (c : Dev nD) (i : grid0.Coords) (arg2 : Memref sig .tc .vmem S512x2048 .i8) (harg2 : arg2.IsWhole) (arg3 : Memref sig .tc .vmem S1x4x128 .f32) (harg3 : arg3.IsWhole) (arg4 : Memref sig .tc .vmem S512x2048 .f32) (harg4 : arg4.IsWhole) (arg5 : Memref sig .tc .vmem S2048x1024 .i8) (harg5 : arg5.IsWhole) (arg6 : Memref sig .tc .vmem S1x1024 .f32) (harg6 : arg6.IsWhole) (arg7 : Memref sig .tc .vmem S2048x1024 .i8) (harg7 : arg7.IsWhole) (arg8 : Memref sig .tc .vmem S1x1024 .f32) (harg8 : arg8.IsWhole) (arg9 : Memref sig .tc .vmem S2048x2048 .i8) (harg9 : arg9.IsWhole) (arg10 : Memref sig .tc .vmem S1x2048 .f32) (harg10 : arg10.IsWhole) (arg11 : Memref sig .tc .vmem S512x2048 .bf16) (harg11 : arg11.IsWhole) (arg12 : Memref sig .tc .vmem S512x2048 .i8) (harg12 : arg12.IsWhole) (arg13 : Memref sig .tc .vmem S1x4x128 .f32) (harg13 : arg13.IsWhole) (arg14 : Memref sig .tc .vmem S512x2048 .bf16) (harg14 : arg14.IsWhole) (arg15 : Memref sig .tc .vmem S512x128 .f32) (harg15 : arg15.IsWhole) (arg16 : Memref sig .tc .vmem S512x8192 .f32) (harg16 : arg16.IsWhole) (arg17 : Memref sig .tc .vmem S512x128 .f32) (harg17 : arg17.IsWhole) (arg18 : Memref sig .tc .vmem S512x2048 .f32) (harg18 : arg18.IsWhole)
    (hc0 : ¬ cond1 i) (hc1 : ¬ k0_cond2 i = 1#1) (hc2 : k0_cond3 i = 1#1) (hc3 : k0_cond4 i = 1#1) (hc4 : ¬ k0_cond5 i = 1#1)
    (x0 : Vec F S512x2048 .i8) (x1 : Vec F S1x4x128 .f32) (x2 : Vec F S512x2048 .f32) (x3 : Vec F S2048x1024 .i8) (x4 : Vec F S1x1024 .f32) (x5 : Vec F S2048x1024 .i8) (x6 : Vec F S1x1024 .f32) (x7 : Vec F S2048x2048 .i8) (x8 : Vec F S1x2048 .f32) (y9 : Vec F S512x2048 .bf16) (y10 : Vec F S512x2048 .i8) (y11 : Vec F S1x4x128 .f32) (s0 : Vec F S512x2048 .bf16) (s1 : Vec F S512x128 .f32) (s2 : Vec F S512x8192 .f32) (s3 : Vec F S512x128 .f32) (s4 : Vec F S512x2048 .f32) (E : Set ℕ) (K : PUnit → sProp 𝕄) :
    iprop(held c arg2 arg3 arg4 arg5 arg6 arg7 arg8 arg9 arg10 arg11 arg12 arg13 arg14 arg15 arg16 arg17 arg18 x0 x1 x2 x3 x4 x5 x6 x7 x8 y9 y10 y11 s0 s1 s2 s3 s4
      ∗ (held c arg2 arg3 arg4 arg5 arg6 arg7 arg8 arg9 arg10 arg11 arg12 arg13 arg14 arg15 arg16 arg17 arg18 x0 x1 x2 x3 x4 x5 x6 x7 x8 y9 (k0_pay7 (lane0 (k0_pay22 s3)) (slab i hc3 s2)) (actsBlk y11 s3) s0 (k0_pay22 s3) s2 s3 (k0_pay8 (lane0 (k0_pay22 s3)) (slab i hc3 s2) s4 x7) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mlp_eq_skeleton]; unfold cc0_mlp_skel
  simp only [k0_part1_eq_skeleton, k0_part2_eq_skeleton, k0_part3_eq_skeleton, k0_part4_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2 | sl_exact hc3 | sl_exact hc4)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H13]
  · iexists _; isplitr
    swap; · iexact H13
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H14]
  · iexists _; isplitr
    swap; · iexact H14
    ipureintro; exact harg14.read_unread _
  isplitl [H15]
  · iexists _; isplitr
    swap; · iexact H15
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H16]
  · iexists _; isplitr
    swap; · iexact H16
    ipureintro; exact harg16.read_unread _
  isplitl [H17]
  · iexists _; isplitr
    swap; · iexact H17
    ipureintro; exact harg17.read_unread _
  iexists _; isplitr
  swap; · iexact H18
  ipureintro; (try sl_unfold_run_names); simp (disch := decide) only [col0, actL, actR, actPut, amaxStep, actsBlk, View.readCov_full, View.readCov_fill, ld_window, readAt_window, read_put, View.writes_nil, Memref.IsWhole.read_unread, window_full, put_full]; try rfl

end Cert.KernelIdeal.Mlp

end
-- ==== Proof.Mlp.RunD.lean ====
module

public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ReadBack
public import Idealize.ShloMosaic.Lib.VecWindow
public import Idealize.ShloMosaic.Lib.Tactic
public import proofs.«01_k».proof.Proof.Mlp.Step

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- A middle down point. -/
theorem run_D (c : Dev nD) (i : grid0.Coords) (arg2 : Memref sig .tc .vmem S512x2048 .i8) (harg2 : arg2.IsWhole) (arg3 : Memref sig .tc .vmem S1x4x128 .f32) (harg3 : arg3.IsWhole) (arg4 : Memref sig .tc .vmem S512x2048 .f32) (harg4 : arg4.IsWhole) (arg5 : Memref sig .tc .vmem S2048x1024 .i8) (harg5 : arg5.IsWhole) (arg6 : Memref sig .tc .vmem S1x1024 .f32) (harg6 : arg6.IsWhole) (arg7 : Memref sig .tc .vmem S2048x1024 .i8) (harg7 : arg7.IsWhole) (arg8 : Memref sig .tc .vmem S1x1024 .f32) (harg8 : arg8.IsWhole) (arg9 : Memref sig .tc .vmem S2048x2048 .i8) (harg9 : arg9.IsWhole) (arg10 : Memref sig .tc .vmem S1x2048 .f32) (harg10 : arg10.IsWhole) (arg11 : Memref sig .tc .vmem S512x2048 .bf16) (harg11 : arg11.IsWhole) (arg12 : Memref sig .tc .vmem S512x2048 .i8) (harg12 : arg12.IsWhole) (arg13 : Memref sig .tc .vmem S1x4x128 .f32) (harg13 : arg13.IsWhole) (arg14 : Memref sig .tc .vmem S512x2048 .bf16) (harg14 : arg14.IsWhole) (arg15 : Memref sig .tc .vmem S512x128 .f32) (harg15 : arg15.IsWhole) (arg16 : Memref sig .tc .vmem S512x8192 .f32) (harg16 : arg16.IsWhole) (arg17 : Memref sig .tc .vmem S512x128 .f32) (harg17 : arg17.IsWhole) (arg18 : Memref sig .tc .vmem S512x2048 .f32) (harg18 : arg18.IsWhole)
    (hc0 : ¬ cond1 i) (hc1 : ¬ k0_cond2 i = 1#1) (hc2 : ¬ k0_cond3 i = 1#1) (hc3 : k0_cond4 i = 1#1) (hc4 : ¬ k0_cond5 i = 1#1)
    (x0 : Vec F S512x2048 .i8) (x1 : Vec F S1x4x128 .f32) (x2 : Vec F S512x2048 .f32) (x3 : Vec F S2048x1024 .i8) (x4 : Vec F S1x1024 .f32) (x5 : Vec F S2048x1024 .i8) (x6 : Vec F S1x1024 .f32) (x7 : Vec F S2048x2048 .i8) (x8 : Vec F S1x2048 .f32) (y9 : Vec F S512x2048 .bf16) (y10 : Vec F S512x2048 .i8) (y11 : Vec F S1x4x128 .f32) (s0 : Vec F S512x2048 .bf16) (s1 : Vec F S512x128 .f32) (s2 : Vec F S512x8192 .f32) (s3 : Vec F S512x128 .f32) (s4 : Vec F S512x2048 .f32) (E : Set ℕ) (K : PUnit → sProp 𝕄) :
    iprop(held c arg2 arg3 arg4 arg5 arg6 arg7 arg8 arg9 arg10 arg11 arg12 arg13 arg14 arg15 arg16 arg17 arg18 x0 x1 x2 x3 x4 x5 x6 x7 x8 y9 y10 y11 s0 s1 s2 s3 s4
      ∗ (held c arg2 arg3 arg4 arg5 arg6 arg7 arg8 arg9 arg10 arg11 arg12 arg13 arg14 arg15 arg16 arg17 arg18 x0 x1 x2 x3 x4 x5 x6 x7 x8 y9 (k0_pay7 (lane0 s1) (slab i hc3 s2)) y11 s0 s1 s2 s3 (k0_pay8 (lane0 s1) (slab i hc3 s2) s4 x7) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mlp_eq_skeleton]; unfold cc0_mlp_skel
  simp only [k0_part1_eq_skeleton, k0_part2_eq_skeleton, k0_part3_eq_skeleton, k0_part4_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2 | sl_exact hc3 | sl_exact hc4)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H13]
  · iexists _; isplitr
    swap; · iexact H13
    ipureintro; exact harg13.read_unread _
  isplitl [H14]
  · iexists _; isplitr
    swap; · iexact H14
    ipureintro; exact harg14.read_unread _
  isplitl [H15]
  · iexists _; isplitr
    swap; · iexact H15
    ipureintro; exact harg15.read_unread _
  isplitl [H16]
  · iexists _; isplitr
    swap; · iexact H16
    ipureintro; exact harg16.read_unread _
  isplitl [H17]
  · iexists _; isplitr
    swap; · iexact H17
    ipureintro; exact harg17.read_unread _
  iexists _; isplitr
  swap; · iexact H18
  ipureintro; (try sl_unfold_run_names); simp (disch := decide) only [col0, actL, actR, actPut, amaxStep, actsBlk, View.readCov_full, View.readCov_fill, ld_window, readAt_window, read_put, View.writes_nil, Memref.IsWhole.read_unread, window_full, put_full]; try rfl

end Cert.KernelIdeal.Mlp

end
-- ==== Proof.Mlp.RunE.lean ====
module

public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ReadBack
public import Idealize.ShloMosaic.Lib.VecWindow
public import Idealize.ShloMosaic.Lib.Tactic
public import proofs.«01_k».proof.Proof.Mlp.Step

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The tile's last point: the last down block and the result. -/
theorem run_E (c : Dev nD) (i : grid0.Coords) (arg2 : Memref sig .tc .vmem S512x2048 .i8) (harg2 : arg2.IsWhole) (arg3 : Memref sig .tc .vmem S1x4x128 .f32) (harg3 : arg3.IsWhole) (arg4 : Memref sig .tc .vmem S512x2048 .f32) (harg4 : arg4.IsWhole) (arg5 : Memref sig .tc .vmem S2048x1024 .i8) (harg5 : arg5.IsWhole) (arg6 : Memref sig .tc .vmem S1x1024 .f32) (harg6 : arg6.IsWhole) (arg7 : Memref sig .tc .vmem S2048x1024 .i8) (harg7 : arg7.IsWhole) (arg8 : Memref sig .tc .vmem S1x1024 .f32) (harg8 : arg8.IsWhole) (arg9 : Memref sig .tc .vmem S2048x2048 .i8) (harg9 : arg9.IsWhole) (arg10 : Memref sig .tc .vmem S1x2048 .f32) (harg10 : arg10.IsWhole) (arg11 : Memref sig .tc .vmem S512x2048 .bf16) (harg11 : arg11.IsWhole) (arg12 : Memref sig .tc .vmem S512x2048 .i8) (harg12 : arg12.IsWhole) (arg13 : Memref sig .tc .vmem S1x4x128 .f32) (harg13 : arg13.IsWhole) (arg14 : Memref sig .tc .vmem S512x2048 .bf16) (harg14 : arg14.IsWhole) (arg15 : Memref sig .tc .vmem S512x128 .f32) (harg15 : arg15.IsWhole) (arg16 : Memref sig .tc .vmem S512x8192 .f32) (harg16 : arg16.IsWhole) (arg17 : Memref sig .tc .vmem S512x128 .f32) (harg17 : arg17.IsWhole) (arg18 : Memref sig .tc .vmem S512x2048 .f32) (harg18 : arg18.IsWhole)
    (hc0 : ¬ cond1 i) (hc1 : ¬ k0_cond2 i = 1#1) (hc2 : ¬ k0_cond3 i = 1#1) (hc3 : k0_cond4 i = 1#1) (hc4 : k0_cond5 i = 1#1)
    (x0 : Vec F S512x2048 .i8) (x1 : Vec F S1x4x128 .f32) (x2 : Vec F S512x2048 .f32) (x3 : Vec F S2048x1024 .i8) (x4 : Vec F S1x1024 .f32) (x5 : Vec F S2048x1024 .i8) (x6 : Vec F S1x1024 .f32) (x7 : Vec F S2048x2048 .i8) (x8 : Vec F S1x2048 .f32) (y9 : Vec F S512x2048 .bf16) (y10 : Vec F S512x2048 .i8) (y11 : Vec F S1x4x128 .f32) (s0 : Vec F S512x2048 .bf16) (s1 : Vec F S512x128 .f32) (s2 : Vec F S512x8192 .f32) (s3 : Vec F S512x128 .f32) (s4 : Vec F S512x2048 .f32) (E : Set ℕ) (K : PUnit → sProp 𝕄) :
    iprop(held c arg2 arg3 arg4 arg5 arg6 arg7 arg8 arg9 arg10 arg11 arg12 arg13 arg14 arg15 arg16 arg17 arg18 x0 x1 x2 x3 x4 x5 x6 x7 x8 y9 y10 y11 s0 s1 s2 s3 s4
      ∗ (held c arg2 arg3 arg4 arg5 arg6 arg7 arg8 arg9 arg10 arg11 arg12 arg13 arg14 arg15 arg16 arg17 arg18 x0 x1 x2 x3 x4 x5 x6 x7 x8 (k0_pay9 x2 (k0_pay8 (lane0 s1) (slab i hc3 s2) s4 x7) (lane0 s1) x8) (k0_pay7 (lane0 s1) (slab i hc3 s2)) y11 s0 s1 s2 s3 (k0_pay8 (lane0 s1) (slab i hc3 s2) s4 x7) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mlp_eq_skeleton]; unfold cc0_mlp_skel
  simp only [k0_part1_eq_skeleton, k0_part2_eq_skeleton, k0_part3_eq_skeleton, k0_part4_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2 | sl_exact hc3 | sl_exact hc4)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H12]
  · iexists _; isplitr
    swap; · iexact H12
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H13]
  · iexists _; isplitr
    swap; · iexact H13
    ipureintro; exact harg13.read_unread _
  isplitl [H14]
  · iexists _; isplitr
    swap; · iexact H14
    ipureintro; exact harg14.read_unread _
  isplitl [H15]
  · iexists _; isplitr
    swap; · iexact H15
    ipureintro; exact harg15.read_unread _
  isplitl [H16]
  · iexists _; isplitr
    swap; · iexact H16
    ipureintro; exact harg16.read_unread _
  isplitl [H17]
  · iexists _; isplitr
    swap; · iexact H17
    ipureintro; exact harg17.read_unread _
  iexists _; isplitr
  swap; · iexact H18
  ipureintro; (try sl_unfold_run_names); simp (disch := decide) only [col0, actL, actR, actPut, amaxStep, actsBlk, View.readCov_full, View.readCov_fill, ld_window, readAt_window, read_put, View.writes_nil, Memref.IsWhole.read_unread, window_full, put_full]; try rfl

end Cert.KernelIdeal.Mlp

end
-- ==== Proof.Mlp.Vals.lean ====
module

public import proofs.«01_k».proof.Proof.Gen.KernelIdeal.Frame
public import proofs.«01_k».proof.Proof.Mlp.Step
public import Idealize.ShloMosaic.Lib.ValueIdx

@[expose] public section

set_option maxRecDepth 16384

noncomputable section

namespace Cert.KernelIdeal.Mlp

open Cert.KernelIdeal Cert.KernelIdeal.Gen
open Idealize.ShloMosaic Idealize.ShloMosaic.TcCoe Idealize.ShloMosaic.ValueIdx
open Idealize.ShloMosaic.VecWindow (window put)
open Idealize.ShloMosaic.Pipeline (Dat Cfg Window)

variable {F : FTy → Type} [FloatOps F] [Named F]
variable (m : (ℓ : Loc nD τ sig) → Buf (Elt F) ℓ) (c : Dev nD)

/-! ## The input blocks, point by point -/

/-- Input 0's block at a point. -/
abbrev X0 (t : Fin grid0.N) : Vec F S512x2048 .i8 := iblk m c 0 t
/-- Input 1's block at a point. -/
abbrev X1 (t : Fin grid0.N) : Vec F S1x4x128 .f32 := iblk m c 1 t
/-- Input 2's block at a point. -/
abbrev X2 (t : Fin grid0.N) : Vec F S512x2048 .f32 := iblk m c 2 t
/-- Input 3's block at a point. -/
abbrev X3 (t : Fin grid0.N) : Vec F S2048x1024 .i8 := iblk m c 3 t
/-- Input 4's block at a point. -/
abbrev X4 (t : Fin grid0.N) : Vec F S1x1024 .f32 := iblk m c 4 t
/-- Input 5's block at a point. -/
abbrev X5 (t : Fin grid0.N) : Vec F S2048x1024 .i8 := iblk m c 5 t
/-- Input 6's block at a point. -/
abbrev X6 (t : Fin grid0.N) : Vec F S1x1024 .f32 := iblk m c 6 t
/-- Input 7's block at a point. -/
abbrev X7 (t : Fin grid0.N) : Vec F S2048x2048 .i8 := iblk m c 7 t
/-- Input 8's block at a point. -/
abbrev X8 (t : Fin grid0.N) : Vec F S1x2048 .f32 := iblk m c 8 t

/-- Point `j` of tile `i`. -/
def pt (i j : ℕ) : Fin grid0.N := ⟨(12 * i + j) % 180, lt_of_lt_of_eq (Nat.mod_lt _ (by norm_num)) N_0.symm⟩

/-- A point is the one of its tile and its place in the tile. -/
theorem pt_self (t : Fin grid0.N) : pt (t.val / 12) (t.val % 12) = t :=
  Fin.ext (by have : t.val < 180 := lt_of_lt_of_eq t.isLt N_0; show (12 * (t.val / 12) + t.val % 12) % 180 = t.val; omega)

/-! ## What a tile's points leave -/

/-- The tile's codes as bf16, and its spread row scales. -/
def aT (i : ℕ) : Vec F S512x2048 .bf16 := k0_pay10 (X0 m c (pt i 0))
/-- The tile's row scales, one per row, repeated along the lanes. -/
def lT (i : ℕ) : Vec F S512x128 .f32 := col0 (X1 m c (pt i 0))

/-- The two halves of the activations that gate and up point `j` computes. -/
def hL (i j : ℕ) : Vec F S512x512 .f32 := actL (aT m c i) (lT m c i) (X3 m c (pt i j)) (X4 m c (pt i j)) (X5 m c (pt i j)) (X6 m c (pt i j))
/-- The right half. -/
def hR (i j : ℕ) : Vec F S512x512 .f32 := actR (aT m c i) (lT m c i) (X3 m c (pt i j)) (X4 m c (pt i j)) (X5 m c (pt i j)) (X6 m c (pt i j))

/-- The tile's activations: 1024 columns a point, in two halves. -/
def actT (i : ℕ) : Vec F S512x8192 .f32 := fun y =>
  if h : (y 1).val % 1024 < 512 then hL m c i ((y 1).val / 1024) (ix2 (y 0) ⟨(y 1).val % 1024, h⟩)
  else hR m c i ((y 1).val / 1024) (ix2 (y 0) ⟨(y 1).val % 1024 - 512, by omega⟩)

/-- The running row maxima after the first `n` gate and up points. -/
def amaxT (i : ℕ) : ℕ → Vec F S512x128 .f32
  | 0 => k0_pay2
  | n + 1 => amaxStep (amaxT i n) (aT m c i) (lT m c i) (X3 m c (pt i n)) (X4 m c (pt i n)) (X5 m c (pt i n)) (X6 m c (pt i n))

/-- The spread activation scales of the tile. -/
def colT (i : ℕ) : Vec F S512x128 .f32 := k0_pay22 (amaxT m c i 8)

/-- The `n`-th slice of 2048 columns of the tile's activations. -/
def slabT (i n : ℕ) : Vec F S512x2048 .f32 := fun y => actT m c i (ix2 (y 0) ⟨(2048 * n + (y 1).val) % 8192, Nat.mod_lt _ (by norm_num)⟩)

/-- The down projection's accumulator after its first `n` points. -/
def accT (i : ℕ) : ℕ → Vec F S512x2048 .f32
  | 0 => k0_pay3
  | n + 1 => k0_pay8 (lane0 (colT m c i)) (slabT m c i n) (accT i n) (X7 m c (pt i (8 + n)))

/-- What the tile writes: its codes, its scales and its rows of the result. -/
def codesT (i n : ℕ) : Vec F S512x2048 .i8 := k0_pay7 (lane0 (colT m c i)) (slabT m c i n)
/-- The tile's scales. -/
def actsT (i : ℕ) : Vec F S1x4x128 .f32 := actsBlk (fun _ => Scalar.ofBits .f32 0x00000000#32) (amaxT m c i 8)
/-- The tile's rows of the result. -/
def outT (i : ℕ) : Vec F S512x2048 .bf16 := k0_pay9 (X2 m c (pt i 11)) (accT m c i 4) (lane0 (colT m c i)) (X8 m c (pt i 11))

/-! ## The invariant of the scratch between points -/

/-- What the five scratch buffers hold before point `n`, as far as the points to come read them. -/
structure Inv (n : ℕ) (s0 : Vec F S512x2048 .bf16) (s1 : Vec F S512x128 .f32) (s2 : Vec F S512x8192 .f32) (s3 : Vec F S512x128 .f32) (s4 : Vec F S512x2048 .f32) : Prop where
  a : 1 ≤ n % 12 → s0 = aT m c (n / 12)
  l : 1 ≤ n % 12 → n % 12 ≤ 8 → s1 = lT m c (n / 12)
  act : ∀ y : S512x8192.Idx, (y 1).val < 1024 * (n % 12) → s2 y = actT m c (n / 12) y
  mx : 1 ≤ n % 12 → n % 12 ≤ 8 → s3 = amaxT m c (n / 12) (n % 12)
  z : 1 ≤ n % 12 → n % 12 ≤ 8 → s4 = k0_pay3
  col : 9 ≤ n % 12 → s1 = colT m c (n / 12)
  acc : 9 ≤ n % 12 → s4 = accT m c (n / 12) (n % 12 - 8)

/-- Before a tile's first point nothing is asked. -/
theorem inv_tile {n : ℕ} (h : n % 12 = 0) (s0 : Vec F S512x2048 .bf16) (s1 : Vec F S512x128 .f32) (s2 : Vec F S512x8192 .f32) (s3 : Vec F S512x128 .f32) (s4 : Vec F S512x2048 .f32) :
    Inv m c n s0 s1 s2 s3 s4 :=
  ⟨fun h' => by omega, fun h' => by omega, fun y h' => by rw [h] at h'; omega, fun h' => by omega, fun h' => by omega, fun h' => by omega, fun h' => by omega⟩

/-- Where a gate and up point puts its two halves. -/
theorem off1_left : ∀ t : Fin grid0.N, t.val % 12 < 8 → k0_off1 (grid0.coords t) 0#32 = ![0, 1024 * (t.val % 12)] := by decide +kernel
/-- The right half goes 512 columns further. -/
theorem off1_right : ∀ t : Fin grid0.N, t.val % 12 < 8 → k0_off1 (grid0.coords t) 512#32 = ![0, 1024 * (t.val % 12) + 512] := by decide +kernel
/-- Where a down point reads. -/
theorem off2_eq : ∀ t : Fin grid0.N, 8 ≤ t.val % 12 → k0_off2 (grid0.coords t) = ![0, 2048 * (t.val % 12 - 8)] := by decide +kernel

/-- A put of 512 columns at column `b`, read inside and outside. -/
theorem put_in (x : Vec F S512x8192 .f32) (w : Vec F S512x512 .f32) (b : ℕ) (y : S512x8192.Idx) (h1 : b ≤ (y 1).val) (h2 : (y 1).val - b < 512) :
    put x ![0, b] S512x512.size w y = w (ix2 (y 0) ⟨(y 1).val - b, h2⟩) := by
  unfold put
  rw [dif_pos fun a => by
    match a with
    | 0 => exact ⟨Nat.zero_le _, by have : (y 0).val < 512 := (y 0).isLt; show (y 0).val < 0 + 512; omega⟩
    | 1 => exact ⟨h1, by show (y 1).val < b + 512; omega⟩]
  exact congrArg w (funext fun a => Fin.ext (by
    match a with
    | 0 => show (y 0).val - 0 = (y 0).val; omega
    | 1 => rfl))
/-- Outside the columns written, a stored block changes nothing. -/
theorem put_out (x : Vec F S512x8192 .f32) (w : Vec F S512x512 .f32) (b : ℕ) (y : S512x8192.Idx) (h : (y 1).val < b ∨ b + 512 ≤ (y 1).val) :
    put x ![0, b] S512x512.size w y = x y := by
  unfold put
  exact dif_neg fun hall => by have := hall 1; have h1 : b ≤ (y 1).val := this.1; have h2 : (y 1).val < b + 512 := this.2; omega

/-- The first column's spread is what the two halves make of the activations. -/
theorem actT_left (i j : ℕ) (y : S512x8192.Idx) (h1 : 1024 * j ≤ (y 1).val) (h2 : (y 1).val - 1024 * j < 512) :
    actT m c i y = hL m c i j (ix2 (y 0) ⟨(y 1).val - 1024 * j, h2⟩) := by
  have e1 : (y 1).val / 1024 = j := by omega
  have e2 : (y 1).val % 1024 = (y 1).val - 1024 * j := by omega
  unfold actT
  rw [dif_pos (by omega)]
  simp only [e1, e2]
/-- In a point's right half, the tile's activations are the right half it computed. -/
theorem actT_right (i j : ℕ) (y : S512x8192.Idx) (h1 : 1024 * j + 512 ≤ (y 1).val) (h2 : (y 1).val - (1024 * j + 512) < 512) :
    actT m c i y = hR m c i j (ix2 (y 0) ⟨(y 1).val - (1024 * j + 512), h2⟩) := by
  have e1 : (y 1).val / 1024 = j := by omega
  have e2 : (y 1).val % 1024 - 512 = (y 1).val - (1024 * j + 512) := by omega
  unfold actT
  rw [dif_neg (by omega)]
  simp only [e1, e2]

/-- A gate and up point extends the activations by its 1024 columns. -/
theorem act_step (t : Fin grid0.N) (hj : t.val % 12 < 8) (s2 : Vec F S512x8192 .f32)
    (h : ∀ y : S512x8192.Idx, (y 1).val < 1024 * (t.val % 12) → s2 y = actT m c (t.val / 12) y) (y : S512x8192.Idx) (hy : (y 1).val < 1024 * (t.val % 12 + 1)) :
    actPut (grid0.coords t) s2 (aT m c (t.val / 12)) (lT m c (t.val / 12)) (X3 m c t) (X4 m c t) (X5 m c t) (X6 m c t) y = actT m c (t.val / 12) y := by
  unfold actPut
  rw [off1_left t hj, off1_right t hj]
  by_cases hr : 1024 * (t.val % 12) + 512 ≤ (y 1).val
  · rw [put_in _ _ _ y hr (by omega), actT_right m c _ (t.val % 12) y hr (by omega)]
    unfold hR; rw [pt_self]
  · rw [put_out _ _ _ y (by omega)]
    by_cases hl : 1024 * (t.val % 12) ≤ (y 1).val
    · rw [put_in _ _ _ y hl (by omega), actT_left m c _ (t.val % 12) y hl (by omega)]
      unfold hL; rw [pt_self]
    · rw [put_out _ _ _ y (by omega)]
      exact h y (by omega)

/-- A down point's slice of the activations. -/
theorem slab_eq (t : Fin grid0.N) (hj : 8 ≤ t.val % 12) (hc : k0_cond4 (grid0.coords t) = 1#1) (s2 : Vec F S512x8192 .f32)
    (h : ∀ y : S512x8192.Idx, (y 1).val < 1024 * (t.val % 12) → s2 y = actT m c (t.val / 12) y) :
    slab (grid0.coords t) hc s2 = slabT m c (t.val / 12) (t.val % 12 - 8) := by
  funext y
  have hy : (y 1).val < 2048 := (y 1).isLt
  have e := off2_eq t hj
  show s2 ((Rect.unit (s := S512x8192) (k0_off2 (grid0.coords t)) S512x2048.size (k0_off2_inb _ hc)).emb y) = _
  have hv0 : (((Rect.unit (s := S512x8192) (k0_off2 (grid0.coords t)) S512x2048.size (k0_off2_inb _ hc)).emb y) 0).val = (y 0).val := by
    show k0_off2 (grid0.coords t) 0 + 1 * (y 0).val = _
    rw [e]; show 0 + 1 * (y 0).val = _; omega
  have hv1 : (((Rect.unit (s := S512x8192) (k0_off2 (grid0.coords t)) S512x2048.size (k0_off2_inb _ hc)).emb y) 1).val = 2048 * (t.val % 12 - 8) + (y 1).val := by
    show k0_off2 (grid0.coords t) 1 + 1 * (y 1).val = _
    rw [e]; show 2048 * (t.val % 12 - 8) + 1 * (y 1).val = _; omega
  rw [h _ (by rw [hv1]; omega)]
  unfold slabT
  refine congrArg (actT m c (t.val / 12)) (funext fun a => Fin.ext ?_)
  match a with
  | 0 => exact hv0
  | 1 => refine hv1.trans ?_; show _ = (2048 * (t.val % 12 - 8) + (y 1).val) % 8192; omega

/-- The block of scales does not depend on what the buffer held. -/
theorem actsBlk_any (y11 z : Vec F S1x4x128 .f32) (s3 : Vec F S512x128 .f32) : actsBlk y11 s3 = actsBlk z s3 := by
  funext y
  have h0 : (y 0).val < 1 := (y 0).isLt
  have h1 : (y 1).val < 4 := (y 1).isLt
  have h2 : (y 2).val < 128 := (y 2).isLt
  unfold actsBlk put
  have key : ∀ k : ℕ, (y 1).val = k → ∀ a : Fin 3, (![0, k, 0] : Fin 3 → ℕ) a ≤ (y a).val ∧ (y a).val < (![0, k, 0] : Fin 3 → ℕ) a + S1x1x128.size a := fun k hk a => by
    match a with
    | 0 => exact ⟨Nat.zero_le _, by show (y 0).val < 0 + 1; omega⟩
    | 1 => exact ⟨by show k ≤ (y 1).val; omega, by show (y 1).val < k + 1; omega⟩
    | 2 => exact ⟨Nat.zero_le _, by show (y 2).val < 0 + 128; omega⟩
  by_cases k3 : (y 1).val = 3
  · rw [dif_pos (key 3 k3), dif_pos (key 3 k3)]
  have n3 := fun hall : (∀ a : Fin 3, (![0, 3, 0] : Fin 3 → ℕ) a ≤ (y a).val ∧ (y a).val < (![0, 3, 0] : Fin 3 → ℕ) a + S1x1x128.size a) => k3 (by have := (hall 1).1; have : 3 ≤ (y 1).val := this; omega)
  rw [dif_neg n3, dif_neg n3]
  by_cases k2 : (y 1).val = 2
  · rw [dif_pos (key 2 k2), dif_pos (key 2 k2)]
  have n2 := fun hall : (∀ a : Fin 3, (![0, 2, 0] : Fin 3 → ℕ) a ≤ (y a).val ∧ (y a).val < (![0, 2, 0] : Fin 3 → ℕ) a + S1x1x128.size a) => k2 (by have := (hall 1).1; have : 2 ≤ (y 1).val := this; omega)
  rw [dif_neg n2, dif_neg n2]
  by_cases k1 : (y 1).val = 1
  · rw [dif_pos (key 1 k1), dif_pos (key 1 k1)]
  have n1 := fun hall : (∀ a : Fin 3, (![0, 1, 0] : Fin 3 → ℕ) a ≤ (y a).val ∧ (y a).val < (![0, 1, 0] : Fin 3 → ℕ) a + S1x1x128.size a) => k1 (by have := (hall 1).1; have : 1 ≤ (y 1).val := this; omega)
  rw [dif_neg n1, dif_neg n1, dif_pos (key 0 (by omega)), dif_pos (key 0 (by omega))]

/-! ## The invariant, point by point -/

/-- After a tile's first point. -/
theorem inv_A (t : Fin grid0.N) (hj : t.val % 12 = 0) (s2 : Vec F S512x8192 .f32) :
    Inv m c (t.val + 1) (k0_pay10 (X0 m c t)) (col0 (X1 m c t)) (actPut (grid0.coords t) s2 (k0_pay10 (X0 m c t)) (col0 (X1 m c t)) (X3 m c t) (X4 m c t) (X5 m c t) (X6 m c t))
      (amaxStep k0_pay2 (k0_pay10 (X0 m c t)) (col0 (X1 m c t)) (X3 m c t) (X4 m c t) (X5 m c t) (X6 m c t)) k0_pay3 := by
  have e1 : (t.val + 1) % 12 = 1 := by omega
  have e2 : (t.val + 1) / 12 = t.val / 12 := by omega
  have hp : pt (t.val / 12) 0 = t := by have := pt_self t; rwa [hj] at this
  have ha : k0_pay10 (X0 m c t) = aT m c (t.val / 12) := by unfold aT; rw [hp]
  have hl : col0 (X1 m c t) = lT m c (t.val / 12) := by unfold lT; rw [hp]
  rw [ha, hl]
  refine ⟨fun _ => by rw [e2], fun _ _ => by rw [e2], fun y hy => ?_, fun _ _ => ?_, fun _ _ => rfl, fun h => by omega, fun h => by omega⟩
  · rw [e2]; exact act_step m c t (by omega) s2 (fun y hy => by rw [hj] at hy; omega) y (by omega)
  · rw [e1, e2]; show _ = amaxStep k0_pay2 _ _ _ _ _ _; rw [hp]

/-- After a later gate and up point. -/
theorem inv_B (t : Fin grid0.N) (hj : 1 ≤ t.val % 12) (hj' : t.val % 12 < 8) {s0 : Vec F S512x2048 .bf16} {s1 : Vec F S512x128 .f32} {s2 : Vec F S512x8192 .f32} {s3 : Vec F S512x128 .f32} {s4 : Vec F S512x2048 .f32}
    (h : Inv m c t.val s0 s1 s2 s3 s4) :
    Inv m c (t.val + 1) s0 s1 (actPut (grid0.coords t) s2 s0 s1 (X3 m c t) (X4 m c t) (X5 m c t) (X6 m c t)) (amaxStep s3 s0 s1 (X3 m c t) (X4 m c t) (X5 m c t) (X6 m c t)) s4 := by
  have e1 : (t.val + 1) % 12 = t.val % 12 + 1 := by omega
  have e2 : (t.val + 1) / 12 = t.val / 12 := by omega
  obtain ⟨ha, hl, hact, hmx, hz, -, -⟩ := h
  obtain rfl := ha hj; obtain rfl := hl hj (by omega); obtain rfl := hmx hj (by omega); obtain rfl := hz hj (by omega)
  refine ⟨fun _ => by rw [e2], fun _ _ => by rw [e2], fun y hy => ?_, fun _ _ => ?_, fun _ _ => rfl, fun h => by omega, fun h => by omega⟩
  · rw [e2]; exact act_step m c t hj' s2 hact y (by omega)
  · rw [e1, e2]; show _ = amaxStep _ _ _ _ _ _ _; rw [pt_self]

/-- After a down point, from the state as that point finds it. -/
theorem inv_down (t : Fin grid0.N) (hj : 8 ≤ t.val % 12) {s0 : Vec F S512x2048 .bf16} {s2 : Vec F S512x8192 .f32} (s3 : Vec F S512x128 .f32)
    (ha : s0 = aT m c (t.val / 12)) (hact : ∀ y : S512x8192.Idx, (y 1).val < 1024 * (t.val % 12) → s2 y = actT m c (t.val / 12) y) :
    Inv m c (t.val + 1) s0 (colT m c (t.val / 12)) s2 s3
      (k0_pay8 (lane0 (colT m c (t.val / 12))) (slabT m c (t.val / 12) (t.val % 12 - 8)) (accT m c (t.val / 12) (t.val % 12 - 8)) (X7 m c t)) := by
  by_cases h11 : t.val % 12 = 11
  · exact inv_tile m c (by omega) _ _ _ _ _
  have e1 : (t.val + 1) % 12 = t.val % 12 + 1 := by omega
  have e2 : (t.val + 1) / 12 = t.val / 12 := by omega
  have e3 : (t.val + 1) % 12 - 8 = (t.val % 12 - 8) + 1 := by omega
  refine ⟨fun _ => by rw [e2, ha], fun _ h => by omega, fun y hy => ?_, fun _ h => by omega, fun _ h => by omega, fun _ => by rw [e2], fun _ => ?_⟩
  · rw [e2]; exact hact y (by have : (y 1).val < 8192 := (y 1).isLt; omega)
  · rw [e2, e3]; show _ = k0_pay8 _ _ _ _
    rw [show pt (t.val / 12) (8 + (t.val % 12 - 8)) = t from (congrArg (pt (t.val / 12)) (by omega)).trans (pt_self t)]

end Cert.KernelIdeal.Mlp

end
-- ==== Proof.Mlp.Data.lean ====
module

public import proofs.«01_k».proof.Proof.Mlp.RunA
public import proofs.«01_k».proof.Proof.Mlp.RunB
public import proofs.«01_k».proof.Proof.Mlp.RunC
public import proofs.«01_k».proof.Proof.Mlp.RunD
public import proofs.«01_k».proof.Proof.Mlp.RunE
public import proofs.«01_k».proof.Proof.Mlp.Vals
public import Idealize.ShloMosaic.Lib.Claim

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging buffers and the scratch -/

abbrev ms0 (t : Fin cfg0.N) : Memref sig .tc .vmem S512x2048 .i8 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .i8 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x1024 .i8 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x2048 .i8 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2048 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x2048 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x2048 .i8 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x4x128 .f32 := win0_11.stage (cfg0.slots t 11)
abbrev hs11 (t : Fin cfg0.N) : (ms11 t).IsWhole := hstage0_11 ((cfg0.slots t 11).cast nbuf0_11)
abbrev sc0 : Memref sig .tc .vmem S512x2048 .bf16 := Memref.whole cc0_scratch0
abbrev sc1 : Memref sig .tc .vmem S512x128 .f32 := Memref.whole cc0_scratch1
abbrev sc2 : Memref sig .tc .vmem S512x8192 .f32 := Memref.whole cc0_scratch2
abbrev sc3 : Memref sig .tc .vmem S512x128 .f32 := Memref.whole cc0_scratch3
abbrev sc4 : Memref sig .tc .vmem S512x2048 .f32 := Memref.whole cc0_scratch4

/-- The scratch and the generator register, as the launch hands them over. -/
theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The region's invariant before point `n`: the five scratch buffers at contents the points before made (`Inv`), and the generator register. -/
def Phi (c : Dev nD) (n : ℕ) : sProp 𝕄 :=
  iprop((∃ s0 s1 s2 s3 s4, ⌜Inv m c n s0 s1 s2 s3 s4⌝ ∗ owns (c : Thread nD τ) sc0 fullShare s0 ∗ owns (c : Thread nD τ) sc1 fullShare s1 ∗ owns (c : Thread nD τ) sc2 fullShare s2 ∗ owns (c : Thread nD τ) sc3 fullShare s3 ∗ owns (c : Thread nD τ) sc4 fullShare s4) ∗ (∃ r, prngReg c r))

/-! ## The conditions and the idle points, in closed form -/

/-- The first condition holds exactly at the first point of a tile. -/
theorem c1_iff : ∀ t : Fin grid0.N, cond1 (grid0.coords t) ↔ t.val % 12 = 0 := by decide +kernel
/-- The second condition holds exactly at the gate and up points, the first eight of a tile. -/
theorem c2_iff : ∀ t : Fin grid0.N, k0_cond2 (grid0.coords t) = 1#1 ↔ t.val % 12 < 8 := by decide +kernel
/-- The third condition holds exactly at point 8 of a tile. -/
theorem c3_iff : ∀ t : Fin grid0.N, k0_cond3 (grid0.coords t) = 1#1 ↔ t.val % 12 = 8 := by decide +kernel
/-- The fourth condition holds exactly at the down points, from 8 on. -/
theorem c4_iff : ∀ t : Fin grid0.N, k0_cond4 (grid0.coords t) = 1#1 ↔ 8 ≤ t.val % 12 := by decide +kernel
/-- The fifth condition holds exactly at a tile's last point, 11. -/
theorem c5_iff : ∀ t : Fin grid0.N, k0_cond5 (grid0.coords t) = 1#1 ↔ t.val % 12 = 11 := by decide +kernel

/-- The rows of the result are left alone except at a tile's last point. -/
theorem idle9 : ∀ t : Fin cfg0.N, cfg0.idle 9 (grid0.coords t) = decide (t.val % 12 ≠ 11) :=
  (by decide +kernel : ∀ t : Fin grid0.N, cfg0.idle 9 (grid0.coords t) = decide (t.val % 12 ≠ 11))
/-- The codes are left alone at the gate and up points. -/
theorem idle10 : ∀ t : Fin cfg0.N, cfg0.idle 10 (grid0.coords t) = decide (t.val % 12 < 8) :=
  (by decide +kernel : ∀ t : Fin grid0.N, cfg0.idle 10 (grid0.coords t) = decide (t.val % 12 < 8))
/-- The scales are left alone except at point 8. -/
theorem idle11 : ∀ t : Fin cfg0.N, cfg0.idle 11 (grid0.coords t) = decide (t.val % 12 ≠ 8) :=
  (by decide +kernel : ∀ t : Fin grid0.N, cfg0.idle 11 (grid0.coords t) = decide (t.val % 12 ≠ 8))
/-- The codes are not written back at a gate and up point. -/
theorem noflush10 : ∀ t : Fin cfg0.N, t.val % 12 < 8 → (cfg0.win 10).flush t = false :=
  (by decide +kernel : ∀ t : Fin grid0.N, t.val % 12 < 8 → (cfg0.win 10).flush t = false)
/-- The rows of the result are not written back before a tile's last point. -/
theorem noflush9 (t : Fin cfg0.N) (h : t.val % 12 ≠ 11) : (cfg0.win 9).flush t = false :=
  Bool.eq_false_iff.mpr fun hf => h ((flush0_9 t).mp hf)
/-- The scales are not written back before a tile's last point. -/
theorem noflush11 (t : Fin cfg0.N) (h : t.val % 12 ≠ 11) : (cfg0.win 11).flush t = false :=
  Bool.eq_false_iff.mpr fun hf => h ((flush0_11 t).mp hf)

/-! ## The proof data -/

/-- The arrays as the region finds them; after a point, each input's buffer at its block, the codes at the point's slice, the scales and the rows of the result at the tile's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outT m c (t.val / 12)
    | ⟨10, _⟩ => codesT m c (t.val / 12) (t.val % 12 - 8)
    | ⟨11, _⟩ => actsT m c (t.val / 12)
  Φ t := Phi m c t.val
  q _ := fullShare
  owed _ := 0

/-- The array each operand starts from is the one the host leaves. -/
theorem A_eq (c : Dev nD) (w : Fin cfg0.W) : (dats m 0 c).A w = V m c (Pipeline.arrRef spec0 w) := by
  dsimp only [dats]

/-- The invariant's position as a natural number. -/
theorem Phi_castSucc (c : Dev nD) (t : Fin cfg0.N) : (dats m 0 c).Φ t.castSucc = Phi m c t.val := by
  dsimp only [dats]; exact Pipeline.Dat.Φ_castSucc (fun n _ => Phi m c n) t

/-- The contents named for the window of argument 0 after a point: its block. -/
theorem after0 (c : Dev nD) (t : Fin cfg0.N) : (dats m 0 c).after 0 t = iblk m c 0 t := by dsimp only [dats]
/-- The contents named for the window of argument 1 after a point: its block. -/
theorem after1 (c : Dev nD) (t : Fin cfg0.N) : (dats m 0 c).after 1 t = iblk m c 1 t := by dsimp only [dats]
/-- The contents named for the window of argument 2 after a point: its block. -/
theorem after2 (c : Dev nD) (t : Fin cfg0.N) : (dats m 0 c).after 2 t = iblk m c 2 t := by dsimp only [dats]
/-- The contents named for the window of argument 3 after a point: its block. -/
theorem after3 (c : Dev nD) (t : Fin cfg0.N) : (dats m 0 c).after 3 t = iblk m c 3 t := by dsimp only [dats]
/-- The contents named for the window of argument 4 after a point: its block. -/
theorem after4 (c : Dev nD) (t : Fin cfg0.N) : (dats m 0 c).after 4 t = iblk m c 4 t := by dsimp only [dats]
/-- The contents named for the window of argument 5 after a point: its block. -/
theorem after5 (c : Dev nD) (t : Fin cfg0.N) : (dats m 0 c).after 5 t = iblk m c 5 t := by dsimp only [dats]
/-- The contents named for the window of argument 6 after a point: its block. -/
theorem after6 (c : Dev nD) (t : Fin cfg0.N) : (dats m 0 c).after 6 t = iblk m c 6 t := by dsimp only [dats]
/-- The contents named for the window of argument 7 after a point: its block. -/
theorem after7 (c : Dev nD) (t : Fin cfg0.N) : (dats m 0 c).after 7 t = iblk m c 7 t := by dsimp only [dats]
/-- The contents named for the window of argument 8 after a point: its block. -/
theorem after8 (c : Dev nD) (t : Fin cfg0.N) : (dats m 0 c).after 8 t = iblk m c 8 t := by dsimp only [dats]
/-- The contents named for the window of the result: the tile's rows. -/
theorem after9 (c : Dev nD) (t : Fin cfg0.N) : (dats m 0 c).after 9 t = outT m c (t.val / 12) := by dsimp only [dats]
/-- The contents named for the window of the codes: the point's slab. -/
theorem after10 (c : Dev nD) (t : Fin cfg0.N) : (dats m 0 c).after 10 t = codesT m c (t.val / 12) (t.val % 12 - 8) := by dsimp only [dats]
/-- The contents named for the window of the scales: the tile's scales. -/
theorem after11 (c : Dev nD) (t : Fin cfg0.N) : (dats m 0 c).after 11 t = actsT m c (t.val / 12) := by dsimp only [dats]

/-- Before a point, the window of argument 0 holds its block for that point. -/
theorem before0 (c : Dev nD) (t : Fin cfg0.N) (d) : (dats m 0 c).before 0 t d = iblk m c 0 t := before0_0_of m (dats m 0 c) (A_eq m c 0) (after0 m c) t d
/-- Before a point, the window of argument 1 holds its block for that point. -/
theorem before1 (c : Dev nD) (t : Fin cfg0.N) (d) : (dats m 0 c).before 1 t d = iblk m c 1 t := before0_1_of m (dats m 0 c) (A_eq m c 1) (after1 m c) t d
/-- Before a point, the window of argument 2 holds its block for that point. -/
theorem before2 (c : Dev nD) (t : Fin cfg0.N) (d) : (dats m 0 c).before 2 t d = iblk m c 2 t := before0_2_of m (dats m 0 c) (A_eq m c 2) (after2 m c) t d
/-- Before a point, the window of argument 3 holds its block for that point. -/
theorem before3 (c : Dev nD) (t : Fin cfg0.N) (d) : (dats m 0 c).before 3 t d = iblk m c 3 t := before0_3_of m (dats m 0 c) (A_eq m c 3) (after3 m c) t d
/-- Before a point, the window of argument 4 holds its block for that point. -/
theorem before4 (c : Dev nD) (t : Fin cfg0.N) (d) : (dats m 0 c).before 4 t d = iblk m c 4 t := before0_4_of m (dats m 0 c) (A_eq m c 4) (after4 m c) t d
/-- Before a point, the window of argument 5 holds its block for that point. -/
theorem before5 (c : Dev nD) (t : Fin cfg0.N) (d) : (dats m 0 c).before 5 t d = iblk m c 5 t := before0_5_of m (dats m 0 c) (A_eq m c 5) (after5 m c) t d
/-- Before a point, the window of argument 6 holds its block for that point. -/
theorem before6 (c : Dev nD) (t : Fin cfg0.N) (d) : (dats m 0 c).before 6 t d = iblk m c 6 t := before0_6_of m (dats m 0 c) (A_eq m c 6) (after6 m c) t d
/-- Before a point, the window of argument 7 holds its block for that point. -/
theorem before7 (c : Dev nD) (t : Fin cfg0.N) (d) : (dats m 0 c).before 7 t d = iblk m c 7 t := before0_7_of m (dats m 0 c) (A_eq m c 7) (after7 m c) t d
/-- Before a point, the window of argument 8 holds its block for that point. -/
theorem before8 (c : Dev nD) (t : Fin cfg0.N) (d) : (dats m 0 c).before 8 t d = iblk m c 8 t := before0_8_of m (dats m 0 c) (A_eq m c 8) (after8 m c) t d

/-- The scales' buffer holds the tile's scales from the point after the one that stores them to the tile's end. -/
theorem before11 (c : Dev nD) (t : Fin cfg0.N) (h : 9 ≤ t.val % 12) (d) : (dats m 0 c).before 11 t d = actsT m c (t.val / 12) := by
  have hN : ∀ t : Fin cfg0.N, t.val < 180 := fun t => lt_of_lt_of_eq t.isLt N_0
  have step : ∀ k : ℕ, ∀ t : Fin cfg0.N, t.val % 12 = 9 + k → ∀ d, (dats m 0 c).before 11 t d = actsT m c (t.val / 12) := by
    intro k
    induction k with
    | zero =>
      intro t ht d
      rw [(dats m 0 c).before_of_pos 11 t (by omega) rfl, noflush11 _ (by show (t.val - 1) % 12 ≠ 11; omega), if_neg Bool.false_ne_true]
      unfold Dat.left
      rw [show cfg0.grid.coords = grid0.coords from rfl, idle11, decide_eq_false (by show ¬ (t.val - 1) % 12 ≠ 8; omega)]
      show (dats m 0 c).after 11 _ = _
      rw [after11]
      exact congrArg (actsT m c) (by show (t.val - 1) / 12 = t.val / 12; omega)
    | succ k ih =>
      intro t ht d
      rw [(dats m 0 c).before_of_pos 11 t (by omega) rfl, noflush11 _ (by show (t.val - 1) % 12 ≠ 11; omega), if_neg Bool.false_ne_true]
      unfold Dat.left
      rw [show cfg0.grid.coords = grid0.coords from rfl, idle11, decide_eq_true (by show (t.val - 1) % 12 ≠ 8; omega)]
      show (dats m 0 c).before 11 _ _ = _
      rw [ih _ (by show (t.val - 1) % 12 = 9 + k; omega)]
      exact congrArg (actsT m c) (by show (t.val - 1) / 12 = t.val / 12; omega)
  exact step (t.val % 12 - 9) t (by omega) d

/-! ## What a point leaves in its windows -/

/-- After a point, the window of argument 0 still holds that block. -/
theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
/-- After a point, the window of argument 1 still holds that block. -/
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
/-- After a point, the window of argument 2 still holds that block. -/
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
/-- After a point, the window of argument 3 still holds that block. -/
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
/-- After a point, the window of argument 4 still holds that block. -/
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after4]
/-- After a point, the window of argument 5 still holds that block. -/
theorem leaves5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after5]
/-- After a point, the window of argument 6 still holds that block. -/
theorem leaves6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after6]
/-- After a point, the window of argument 7 still holds that block. -/
theorem leaves7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, after7]
/-- After a point, the window of argument 8 still holds that block. -/
theorem leaves8 (c : Dev nD) (t : Fin cfg0.N) : (dats m 0 c).leavesExact 8 t = owns (c : Thread nD τ) (ms8 t) fullShare (iblk m c 8 t) := by
  unfold Dat.leavesExact; rw [show cfg0.idle 8 (cfg0.grid.coords t) = false from rfl, after8]
/-- At a tile's last point the window of the result holds the tile's rows. -/
theorem leaves9_live (c : Dev nD) (t : Fin cfg0.N) (h : t.val % 12 = 11) : (dats m 0 c).leavesExact 9 t = owns (c : Thread nD τ) (ms9 t) fullShare (outT m c (t.val / 12)) := by
  unfold Dat.leavesExact; rw [show cfg0.idle 9 (cfg0.grid.coords t) = false from (idle9 t).trans (decide_eq_false (not_not.mpr h)), after9]
/-- At the other points it holds what it held before. -/
theorem leaves9_idle (c : Dev nD) (t : Fin cfg0.N) (h : t.val % 12 ≠ 11) : (dats m 0 c).leavesExact 9 t = iprop(∃ d, owns (c : Thread nD τ) (ms9 t) fullShare ((dats m 0 c).before 9 t d)) :=
  Dat.leavesExact_idle (dats m 0 c) 9 t ((idle9 t).trans (decide_eq_true h)) (noflush9 t h)
/-- At a down point the window of the codes holds the point's slab of codes. -/
theorem leaves10_live (c : Dev nD) (t : Fin cfg0.N) (h : 8 ≤ t.val % 12) : (dats m 0 c).leavesExact 10 t = owns (c : Thread nD τ) (ms10 t) fullShare (codesT m c (t.val / 12) (t.val % 12 - 8)) := by
  unfold Dat.leavesExact; rw [show cfg0.idle 10 (cfg0.grid.coords t) = false from (idle10 t).trans (decide_eq_false (Nat.not_lt.mpr h)), after10]
/-- At a gate and up point it holds what it held before. -/
theorem leaves10_idle (c : Dev nD) (t : Fin cfg0.N) (h : t.val % 12 < 8) : (dats m 0 c).leavesExact 10 t = iprop(∃ d, owns (c : Thread nD τ) (ms10 t) fullShare ((dats m 0 c).before 10 t d)) :=
  Dat.leavesExact_idle (dats m 0 c) 10 t ((idle10 t).trans (decide_eq_true h)) (noflush10 t h)
/-- At point 8 the window of the scales holds the tile's scales. -/
theorem leaves11_live (c : Dev nD) (t : Fin cfg0.N) (h : t.val % 12 = 8) : (dats m 0 c).leavesExact 11 t = owns (c : Thread nD τ) (ms11 t) fullShare (actsT m c (t.val / 12)) := by
  unfold Dat.leavesExact; rw [show cfg0.idle 11 (cfg0.grid.coords t) = false from (idle11 t).trans (decide_eq_false (not_not.mpr h)), after11]
/-- At the points that neither store nor write back it holds what it held before. -/
theorem leaves11_idle (c : Dev nD) (t : Fin cfg0.N) (h : t.val % 12 ≠ 8) (h' : t.val % 12 ≠ 11) : (dats m 0 c).leavesExact 11 t = iprop(∃ d, owns (c : Thread nD τ) (ms11 t) fullShare ((dats m 0 c).before 11 t d)) :=
  Dat.leavesExact_idle (dats m 0 c) 11 t ((idle11 t).trans (decide_eq_true h)) (noflush11 t h')
/-- At a tile's last point it still holds the tile's scales. -/
theorem leaves11_last (c : Dev nD) (t : Fin cfg0.N) (h : t.val % 12 = 11) : (dats m 0 c).leavesExact 11 t = owns (c : Thread nD τ) (ms11 t) fullShare (actsT m c (t.val / 12)) := by
  unfold Dat.leavesExact; rw [show cfg0.idle 11 (cfg0.grid.coords t) = true from (idle11 t).trans (decide_eq_true (by omega)), (flush0_11 t).mpr h, after11]

/-! ## The body obligation -/

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))
/-- What the body leaves after a point: the invariant at the next point and every window's contents. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- Case A of the body, at a point. -/
theorem body_A (c : Dev nD) (t : Fin cfg0.N) (hj : t.val % 12 = 0) :
    bodyPre m c t ⊢ wp frame (wpE (defs₀ (F := F)) Variants.none c none) Set.univ (bodyAt0 t) (fun _ => bodyPost m c t) := by
  have hN : t.val < 180 := lt_of_lt_of_eq t.isLt N_0
  unfold bodyPre bodyPost bodyAt0
  simp only [before0, before1, before2, before3, before4, before5, before6, before7, before8]
  rw [show (dats m 0 c).owesAt () t.succ = (dats m 0 c).owesAt () t.castSucc from rfl, Phi_castSucc,
    show (dats m 0 c).Φ t.succ = Phi m c (t.val + 1) from rfl, leaves0, leaves1, leaves2, leaves3, leaves4, leaves5, leaves6, leaves7, leaves8, leaves9_idle m c t (by omega), leaves10_idle m c t (by omega), leaves11_idle m c t (by omega) (by omega)]
  unfold Phi
  iintro ⟨⟨⟨%s0, %s1, %s2, %s3, %s4, %hinv, S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) ((c1_iff t).mpr (by omega)) ((c2_iff t).mpr (by omega)) (fun h => by have := (c3_iff t).mp h; omega) (fun h => by have := (c4_iff t).mp h; omega) (fun h => by have := (c5_iff t).mp h; omega) (iblk m c 0 t) (iblk m c 1 t) (iblk m c 2 t) (iblk m c 3 t) (iblk m c 4 t) (iblk m c 5 t) (iblk m c 6 t) (iblk m c 7 t) (iblk m c 8 t) _ _ _ s0 s1 s2 s3 s4 Set.univ _)
  unfold held
  isplitl [H0 H1 H2 H3 H4 H5 H6 H7 H8 H9 H10 H11 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    iexact S4
  iintro ⟨H0, H1, H2, H3, H4, H5, H6, H7, H8, H9, H10, H11, S0, S1, S2, S3, S4⟩
  isplitl [S0 S1 S2 S3 S4 Hg]
  · isplitl [S0 S1 S2 S3 S4]
    · iexists _; iexists _; iexists _; iexists _; iexists _
      isplitr; swap
      · isplitl [S0]; · iexact S0
        isplitl [S1]; · iexact S1
        isplitl [S2]; · iexact S2
        isplitl [S3]; · iexact S3
        iexact S4
      ipureintro; exact inv_A m c t hj s2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; iexact H9
  isplitl [H10]
  · iexists _; iexact H10
  iexists _; iexact H11

set_option maxHeartbeats 4000000 in
/-- Case B of the body, at a point. -/
theorem body_B (c : Dev nD) (t : Fin cfg0.N) (hj : 1 ≤ t.val % 12) (hj' : t.val % 12 < 8) :
    bodyPre m c t ⊢ wp frame (wpE (defs₀ (F := F)) Variants.none c none) Set.univ (bodyAt0 t) (fun _ => bodyPost m c t) := by
  have hN : t.val < 180 := lt_of_lt_of_eq t.isLt N_0
  unfold bodyPre bodyPost bodyAt0
  simp only [before0, before1, before2, before3, before4, before5, before6, before7, before8]
  rw [show (dats m 0 c).owesAt () t.succ = (dats m 0 c).owesAt () t.castSucc from rfl, Phi_castSucc,
    show (dats m 0 c).Φ t.succ = Phi m c (t.val + 1) from rfl, leaves0, leaves1, leaves2, leaves3, leaves4, leaves5, leaves6, leaves7, leaves8, leaves9_idle m c t (by omega), leaves10_idle m c t (by omega), leaves11_idle m c t (by omega) (by omega)]
  unfold Phi
  iintro ⟨⟨⟨%s0, %s1, %s2, %s3, %s4, %hinv, S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hnext := inv_B m c t hj hj' hinv
  iapply (run_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (fun h => by have := (c1_iff t).mp h; omega) ((c2_iff t).mpr (by omega)) (fun h => by have := (c3_iff t).mp h; omega) (fun h => by have := (c4_iff t).mp h; omega) (fun h => by have := (c5_iff t).mp h; omega) (iblk m c 0 t) (iblk m c 1 t) (iblk m c 2 t) (iblk m c 3 t) (iblk m c 4 t) (iblk m c 5 t) (iblk m c 6 t) (iblk m c 7 t) (iblk m c 8 t) _ _ _ s0 s1 s2 s3 s4 Set.univ _)
  unfold held
  isplitl [H0 H1 H2 H3 H4 H5 H6 H7 H8 H9 H10 H11 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    iexact S4
  iintro ⟨H0, H1, H2, H3, H4, H5, H6, H7, H8, H9, H10, H11, S0, S1, S2, S3, S4⟩
  isplitl [S0 S1 S2 S3 S4 Hg]
  · isplitl [S0 S1 S2 S3 S4]
    · iexists _; iexists _; iexists _; iexists _; iexists _
      isplitr; swap
      · isplitl [S0]; · iexact S0
        isplitl [S1]; · iexact S1
        isplitl [S2]; · iexact S2
        isplitl [S3]; · iexact S3
        iexact S4
      ipureintro; exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; iexact H9
  isplitl [H10]
  · iexists _; iexact H10
  iexists _; iexact H11

set_option maxHeartbeats 4000000 in
/-- Case C of the body, at a point. -/
theorem body_C (c : Dev nD) (t : Fin cfg0.N) (hj : t.val % 12 = 8) :
    bodyPre m c t ⊢ wp frame (wpE (defs₀ (F := F)) Variants.none c none) Set.univ (bodyAt0 t) (fun _ => bodyPost m c t) := by
  have hN : t.val < 180 := lt_of_lt_of_eq t.isLt N_0
  unfold bodyPre bodyPost bodyAt0
  simp only [before0, before1, before2, before3, before4, before5, before6, before7, before8]
  rw [show (dats m 0 c).owesAt () t.succ = (dats m 0 c).owesAt () t.castSucc from rfl, Phi_castSucc,
    show (dats m 0 c).Φ t.succ = Phi m c (t.val + 1) from rfl, leaves0, leaves1, leaves2, leaves3, leaves4, leaves5, leaves6, leaves7, leaves8, leaves9_idle m c t (by omega), leaves10_live m c t (by omega), leaves11_live m c t (by omega)]
  unfold Phi
  iintro ⟨⟨⟨%s0, %s1, %s2, %s3, %s4, %hinv, S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hc4 := (c4_iff t).mpr (by omega)
  have hslab := slab_eq m c t (by omega) hc4 s2 hinv.act
  have hmx : s3 = amaxT m c (t.val / 12) 8 := (hinv.mx (by omega) (by omega)).trans (by rw [hj])
  have hcol : k0_pay22 s3 = colT m c (t.val / 12) := by rw [hmx]; rfl
  have hz : s4 = accT m c (t.val / 12) (t.val % 12 - 8) := (hinv.z (by omega) (by omega)).trans (by rw [hj]; rfl)
  have hnext := inv_down m c t (by omega) s3 (hinv.a (by omega)) hinv.act
  iapply (run_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (fun h => by have := (c1_iff t).mp h; omega) (fun h => by have := (c2_iff t).mp h; omega) ((c3_iff t).mpr (by omega)) ((c4_iff t).mpr (by omega)) (fun h => by have := (c5_iff t).mp h; omega) (iblk m c 0 t) (iblk m c 1 t) (iblk m c 2 t) (iblk m c 3 t) (iblk m c 4 t) (iblk m c 5 t) (iblk m c 6 t) (iblk m c 7 t) (iblk m c 8 t) _ _ _ s0 s1 s2 s3 s4 Set.univ _)
  unfold held
  isplitl [H0 H1 H2 H3 H4 H5 H6 H7 H8 H9 H10 H11 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    iexact S4
  iintro ⟨H0, H1, H2, H3, H4, H5, H6, H7, H8, H9, H10, H11, S0, S1, S2, S3, S4⟩
  isplitl [S0 S1 S2 S3 S4 Hg]
  · isplitl [S0 S1 S2 S3 S4]
    · iexists _; iexists _; iexists _; iexists _; iexists _
      isplitr; swap
      · isplitl [S0]; · iexact S0
        isplitl [S1]; · iexact S1
        isplitl [S2]; · iexact S2
        isplitl [S3]; · iexact S3
        iexact S4
      ipureintro; rw [hslab, hcol, hz]; exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; iexact H9
  isplitl [H10]
  · rw [hslab, hcol]; unfold codesT; iexact H10
  rw [actsBlk_any _ (fun _ => Scalar.ofBits .f32 0x00000000#32), hmx]; unfold actsT; iexact H11

set_option maxHeartbeats 4000000 in
/-- Case D of the body, at a point. -/
theorem body_D (c : Dev nD) (t : Fin cfg0.N) (hj : 9 ≤ t.val % 12) (hj' : t.val % 12 ≠ 11) :
    bodyPre m c t ⊢ wp frame (wpE (defs₀ (F := F)) Variants.none c none) Set.univ (bodyAt0 t) (fun _ => bodyPost m c t) := by
  have hN : t.val < 180 := lt_of_lt_of_eq t.isLt N_0
  unfold bodyPre bodyPost bodyAt0
  simp only [before0, before1, before2, before3, before4, before5, before6, before7, before8]
  rw [show (dats m 0 c).owesAt () t.succ = (dats m 0 c).owesAt () t.castSucc from rfl, Phi_castSucc,
    show (dats m 0 c).Φ t.succ = Phi m c (t.val + 1) from rfl, leaves0, leaves1, leaves2, leaves3, leaves4, leaves5, leaves6, leaves7, leaves8, leaves9_idle m c t (by omega), leaves10_live m c t (by omega), leaves11_idle m c t (by omega) (by omega)]
  unfold Phi
  iintro ⟨⟨⟨%s0, %s1, %s2, %s3, %s4, %hinv, S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hc4 := (c4_iff t).mpr (by omega)
  have hslab := slab_eq m c t (by omega) hc4 s2 hinv.act
  have hcol := hinv.col (by omega)
  have hz := hinv.acc (by omega)
  have hnext := inv_down m c t (by omega) s3 (hinv.a (by omega)) hinv.act
  iapply (run_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (fun h => by have := (c1_iff t).mp h; omega) (fun h => by have := (c2_iff t).mp h; omega) (fun h => by have := (c3_iff t).mp h; omega) ((c4_iff t).mpr (by omega)) (fun h => by have := (c5_iff t).mp h; omega) (iblk m c 0 t) (iblk m c 1 t) (iblk m c 2 t) (iblk m c 3 t) (iblk m c 4 t) (iblk m c 5 t) (iblk m c 6 t) (iblk m c 7 t) (iblk m c 8 t) _ _ _ s0 s1 s2 s3 s4 Set.univ _)
  unfold held
  isplitl [H0 H1 H2 H3 H4 H5 H6 H7 H8 H9 H10 H11 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    iexact S4
  iintro ⟨H0, H1, H2, H3, H4, H5, H6, H7, H8, H9, H10, H11, S0, S1, S2, S3, S4⟩
  isplitl [S0 S1 S2 S3 S4 Hg]
  · isplitl [S0 S1 S2 S3 S4]
    · iexists _; iexists _; iexists _; iexists _; iexists _
      isplitr; swap
      · isplitl [S0]; · iexact S0
        isplitl [S1]; · iexact S1
        isplitl [S2]; · iexact S2
        isplitl [S3]; · iexact S3
        iexact S4
      ipureintro; rw [hslab, hcol, hz]; exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; iexact H9
  isplitl [H10]
  · rw [hslab, hcol]; unfold codesT; iexact H10
  iexists _; iexact H11

set_option maxHeartbeats 4000000 in
/-- Case E of the body, at a point. -/
theorem body_E (c : Dev nD) (t : Fin cfg0.N) (hj : t.val % 12 = 11) :
    bodyPre m c t ⊢ wp frame (wpE (defs₀ (F := F)) Variants.none c none) Set.univ (bodyAt0 t) (fun _ => bodyPost m c t) := by
  have hN : t.val < 180 := lt_of_lt_of_eq t.isLt N_0
  unfold bodyPre bodyPost bodyAt0
  simp only [before0, before1, before2, before3, before4, before5, before6, before7, before8]
  rw [show (dats m 0 c).owesAt () t.succ = (dats m 0 c).owesAt () t.castSucc from rfl, Phi_castSucc,
    show (dats m 0 c).Φ t.succ = Phi m c (t.val + 1) from rfl, leaves0, leaves1, leaves2, leaves3, leaves4, leaves5, leaves6, leaves7, leaves8, leaves9_live m c t (by omega), leaves10_live m c t (by omega), leaves11_last m c t (by omega)]
  unfold Phi
  iintro ⟨⟨⟨%s0, %s1, %s2, %s3, %s4, %hinv, S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hc4 := (c4_iff t).mpr (by omega)
  have hslab := slab_eq m c t (by omega) hc4 s2 hinv.act
  have hcol := hinv.col (by omega)
  have hz := hinv.acc (by omega)
  have hnext := inv_down m c t (by omega) s3 (hinv.a (by omega)) hinv.act
  have hp11 : pt (t.val / 12) 11 = t := (congrArg (pt (t.val / 12)) hj.symm).trans (pt_self t)
  have hX2 : iblk m c 2 t = X2 m c (pt (t.val / 12) 11) := by rw [hp11]
  have hX8 : iblk m c 8 t = X8 m c (pt (t.val / 12) 11) := by rw [hp11]
  have h3 : accT m c (t.val / 12) 4 = k0_pay8 (lane0 (colT m c (t.val / 12))) (slabT m c (t.val / 12) (t.val % 12 - 8)) (accT m c (t.val / 12) (t.val % 12 - 8)) (iblk m c 7 t) := by
    rw [show iblk m c 7 t = X7 m c (pt (t.val / 12) (8 + 3)) from by rw [show pt (t.val / 12) (8 + 3) = t from hp11], hj]; rfl
  iapply (run_E c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (fun h => by have := (c1_iff t).mp h; omega) (fun h => by have := (c2_iff t).mp h; omega) (fun h => by have := (c3_iff t).mp h; omega) ((c4_iff t).mpr (by omega)) ((c5_iff t).mpr (by omega)) (iblk m c 0 t) (iblk m c 1 t) (iblk m c 2 t) (iblk m c 3 t) (iblk m c 4 t) (iblk m c 5 t) (iblk m c 6 t) (iblk m c 7 t) (iblk m c 8 t) _ _ _ s0 s1 s2 s3 s4 Set.univ _)
  unfold held
  isplitl [H0 H1 H2 H3 H4 H5 H6 H7 H8 H9 H10 H11 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    iexact S4
  iintro ⟨H0, H1, H2, H3, H4, H5, H6, H7, H8, H9, H10, H11, S0, S1, S2, S3, S4⟩
  isplitl [S0 S1 S2 S3 S4 Hg]
  · isplitl [S0 S1 S2 S3 S4]
    · iexists _; iexists _; iexists _; iexists _; iexists _
      isplitr; swap
      · isplitl [S0]; · iexact S0
        isplitl [S1]; · iexact S1
        isplitl [S2]; · iexact S2
        isplitl [S3]; · iexact S3
        iexact S4
      ipureintro; rw [hslab, hcol, hz]; exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · rw [hslab, hcol, hz, ← h3, hX2, hX8]; unfold outT; iexact H9
  isplitl [H10]
  · rw [hslab, hcol]; unfold codesT; iexact H10
  rw [before11 m c t (by omega)]; iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact body_A m c t h0
  by_cases h1 : t.val % 12 < 8
  · exact body_B m c t (by omega) h1
  by_cases h2 : t.val % 12 = 8
  · exact body_C m c t h2
  by_cases h3 : t.val % 12 = 11
  · exact body_E m c t h3
  exact body_D m c t (by omega) h3

/-- What the grid runs at a point is the body at that point. -/
theorem defs₀_row (t : Fin cfg0.N) :
    defs₀ (F := F) .tc cfg0.body (cfg0.bodyArgs t (cfg0.slots t)) = bodyAt0 t := by
  unfold defs₀; rw [Defs.onTc_tc]

/-- The body keeps the invariant and the window contents at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨⟨%s0, S0⟩, ⟨%s1, S1⟩, ⟨%s2, S2⟩, ⟨%s3, S3⟩, ⟨%s4, S4⟩⟩, Hg⟩
  isplitl [S0 S1 S2 S3 S4]
  · iexists _; iexists _; iexists _; iexists _; iexists _
    isplitr; swap
    · isplitl [S0]; · iexact S0
      isplitl [S1]; · iexact S1
      isplitl [S2]; · iexact S2
      isplitl [S3]; · iexact S3
      iexact S4
    ipureintro; exact inv_tile m c (Nat.zero_mod _) _ _ _ _ _
  iexact Hg

/-- After the last point the invariant gives the scratch back. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%s0, %s1, %s2, %s3, %s4, %hinv, S0, S1, S2, S3, S4⟩, Hg⟩
  isplitl [S0 S1 S2 S3 S4]
  · isplitl [S0]
    · iexists _; iexact S0
    isplitl [S1]
    · iexists _; iexact S1
    isplitl [S2]
    · iexists _; iexact S2
    isplitl [S3]
    · iexists _; iexact S3
    iexists _; iexact S4
  iexact Hg

/-! ## The run and the frame -/

set_option backward.isDefEq.respectTransparency.types false in
/-- Every weakly fair execution ends, with every array of the pipeline at what the proof data computes and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to completion and ends with the arrays that the pipeline's data names. -/
theorem run_main : θ_run defs (onTc (τ := τ) (main (F := F))) (s₀ m ρ) (Pipeline.FramePost cfgs (dats m) 0 (V m)) :=
  (θ_run defs _ _).mono (fun _ h => h.1) (run_main_quiescent m ρ)

/-- The frame: from any memory every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (frame_of m ρ (dats m) (A_eq m) (run_main m ρ)) ((θ_run defs _ _).mono (fun _ h => h.2) (run_main_quiescent m ρ))

end Cert.KernelIdeal.Mlp

end
-- ==== Proof.MlpBits.Step.lean ====
module

public import proofs.«01_k».proof.Proof.Gen.Kernel.Skeleton
public import proofs.«01_k».proof.Proof.Gen.Kernel.Points
public import Idealize.ShloMosaic.Lib.Pipeline.FrameBody
public import Idealize.ShloMosaic.Lib.Pipeline.ReadBack
public import Idealize.ShloMosaic.Lib.VecWindow
public import Idealize.ShloMosaic.Lib.Tactic

@[expose] public section

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

/-! ## What one point computes, over vectors -/

/-- The tile's row scales as the first point spreads them over 128 lanes, from the tile's block of scales. -/
def col0 (x1 : Vec F S1x4x128 .f32) : Vec F S512x128 .f32 :=
  k0_pay1 k0_pay11 (k0_pay12 (window x1 ![0, 0, 0] S1x1x128.size inb_S1x4x128_S1x1x128_0_0_0)) (k0_pay13 (window x1 ![0, 1, 0] S1x1x128.size inb_S1x4x128_S1x1x128_0_1_0))
    (k0_pay14 (window x1 ![0, 2, 0] S1x1x128.size inb_S1x4x128_S1x1x128_0_2_0)) (Scalar.ofBits .f32 0x00000000#32)
    (k0_pay15 (window x1 ![0, 3, 0] S1x1x128.size inb_S1x4x128_S1x1x128_0_3_0))

/-- The first lane of a spread column. -/
abbrev lane0 (x : Vec F S512x128 .f32) : Vec F S512x1 .f32 := window x ![0, 0] S512x1.size inb_S512x128_S512x1_0_0

/-- The left half of a weight block, and of its scales; the right half. -/
abbrev wL (x : Vec F S2048x1024 .i8) : Vec F S2048x512 .i8 := window x ![0, 0] S2048x512.size inb_S2048x1024_S2048x512_0_0
abbrev wR (x : Vec F S2048x1024 .i8) : Vec F S2048x512 .i8 := window x ![0, 512] S2048x512.size inb_S2048x1024_S2048x512_0_512
abbrev sL (x : Vec F S1x1024 .f32) : Vec F S1x512 .f32 := window x ![0, 0] S1x512.size inb_S1x1024_S1x512_0_0
abbrev sR (x : Vec F S1x1024 .f32) : Vec F S1x512 .f32 := window x ![0, 512] S1x512.size inb_S1x1024_S1x512_0_512

/-- The activations of one point's left half, and of its right half. -/
def actL (a : Vec F S512x2048 .bf16) (l : Vec F S512x128 .f32) (x3 : Vec F S2048x1024 .i8) (x4 : Vec F S1x1024 .f32) (x5 : Vec F S2048x1024 .i8) (x6 : Vec F S1x1024 .f32) : Vec F S512x512 .f32 :=
  k0_pay17 a (lane0 l) (wL x3) (sL x4) (wL x5) (sL x6)
/-- The right half of the activations a gate and up point computes. -/
def actR (a : Vec F S512x2048 .bf16) (l : Vec F S512x128 .f32) (x3 : Vec F S2048x1024 .i8) (x4 : Vec F S1x1024 .f32) (x5 : Vec F S2048x1024 .i8) (x6 : Vec F S1x1024 .f32) : Vec F S512x512 .f32 :=
  k0_pay20 a (lane0 l) (wR x3) (sR x4) (wR x5) (sR x6)

/-- The activations' buffer after a point with both halves put in place. -/
def actPut (i : grid0.Coords) (s2 : Vec F S512x8192 .f32) (a : Vec F S512x2048 .bf16) (l : Vec F S512x128 .f32) (x3 : Vec F S2048x1024 .i8) (x4 : Vec F S1x1024 .f32) (x5 : Vec F S2048x1024 .i8) (x6 : Vec F S1x1024 .f32) : Vec F S512x8192 .f32 :=
  put (put s2 (k0_off1 i 0#32) S512x512.size (actL a l x3 x4 x5 x6)) (k0_off1 i 512#32) S512x512.size (actR a l x3 x4 x5 x6)

/-- The running row maxima (128 lanes a row) after a point. -/
def amaxStep (s3 : Vec F S512x128 .f32) (a : Vec F S512x2048 .bf16) (l : Vec F S512x128 .f32) (x3 : Vec F S2048x1024 .i8) (x4 : Vec F S1x1024 .f32) (x5 : Vec F S2048x1024 .i8) (x6 : Vec F S1x1024 .f32) : Vec F S512x128 .f32 :=
  k0_pay4 (k0_pay18 s3 (k0_pay16 a (lane0 l) (wL x3) (sL x4) (wL x5) (sL x6))) (k0_pay19 a (lane0 l) (wR x3) (sR x4) (wR x5) (sR x6))

/-- The block of activation scales as the tile's ninth point writes it, from the row maxima. -/
def actsBlk (y11 : Vec F S1x4x128 .f32) (s3 : Vec F S512x128 .f32) : Vec F S1x4x128 .f32 :=
  put (put (put (put y11 ![0, 0, 0] S1x1x128.size (k0_pay24 s3)) ![0, 1, 0] S1x1x128.size (k0_pay25 s3))
    ![0, 2, 0] S1x1x128.size (k0_pay5 k0_pay23 (k0_pay26 s3) (Scalar.ofBits .f32 0x00000000#32))) ![0, 3, 0] S1x1x128.size (k0_pay6 (k0_pay21 s3) k0_pay23)

/-- The slice of the activations that a down-projection point reads. -/
abbrev slab (i : grid0.Coords) (h : k0_cond4 i = 1#1) (s2 : Vec F S512x8192 .f32) : Vec F S512x2048 .f32 :=
  window s2 (k0_off2 i) S512x2048.size (k0_off2_inb i h)

/-- A load at a unit-stride rectangle reads a window of what the view reads. -/
theorem readAt_window {sig : RefSig} {κ : Kind} {sp : Space} {s : Shape} {e : EltTy} {Val : EltTy → Type} (v : View sig κ sp s e) (f : v.ty.Contents Val)
    {off size : Fin s.rank → ℕ} (inb : ∀ a, off a + size a ≤ s.size a) :
    v.readAt Val (Rect.unit off size inb).toLoadRect f = window (v.read Val f) off size inb := rfl

/-- A window of the shape's own sizes is the whole vector. -/
theorem window_full {α : Type} {s : Shape} (x : s.Idx → α) {off : Fin s.rank → ℕ} (inb : ∀ a, off a + s.size a ≤ s.size a) :
    window x off (no_index s.size) inb = x :=
  funext fun y => congrArg x (Rect.emb_unit_full inb y)

/-- A put of the shape's own sizes leaves the payload. -/
theorem put_full {α : Type} {s : Shape} (x : s.Idx → α) {off : Fin s.rank → ℕ} (w : s.Idx → α) (h : ∀ a, off a = 0) :
    put x off (no_index s.size) w = w :=
  funext fun y => (dif_pos fun a => ⟨by rw [h a]; exact Nat.zero_le _, by rw [h a, Nat.zero_add]; exact (y a).isLt⟩).trans
    (congrArg w (funext fun a => Fin.ext (by show (y a).val - off a = (y a).val; rw [h a, Nat.sub_zero])))

/-- A store over earlier stores puts its payload in what those leave. -/
theorem read_put {sig : RefSig} {κ : Kind} {sp : Space} {s : Shape} {e : EltTy} {Val : EltTy → Type} (v : View sig κ sp s e) (f : v.ty.Contents Val)
    {off size : Fin s.rank → ℕ} (inb : ∀ a, off a + size a ≤ s.size a) (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

/-- The library's read of a vector through a unit-stride rectangle is a window of it. -/
theorem ld_window {Val : EltTy → Type} {e : EltTy} {s : Shape} (x : s.Idx → Val e) (off size : Fin s.rank → ℕ) (inb : ∀ a, off a + size a ≤ s.size a) :
    View.ld (Val := Val) x (Rect.unit off size inb) = window x off size inb := rfl

/-- The body's seventeen memrefs, each held whole at a vector. -/
def held (c : Dev nD) (arg2 : Memref sig .tc .vmem S512x2048 .i8) (arg3 : Memref sig .tc .vmem S1x4x128 .f32) (arg4 : Memref sig .tc .vmem S512x2048 .f32) (arg5 : Memref sig .tc .vmem S2048x1024 .i8) (arg6 : Memref sig .tc .vmem S1x1024 .f32) (arg7 : Memref sig .tc .vmem S2048x1024 .i8) (arg8 : Memref sig .tc .vmem S1x1024 .f32) (arg9 : Memref sig .tc .vmem S2048x2048 .i8) (arg10 : Memref sig .tc .vmem S1x2048 .f32) (arg11 : Memref sig .tc .vmem S512x2048 .bf16) (arg12 : Memref sig .tc .vmem S512x2048 .i8) (arg13 : Memref sig .tc .vmem S1x4x128 .f32) (arg14 : Memref sig .tc .vmem S512x2048 .bf16) (arg15 : Memref sig .tc .vmem S512x128 .f32) (arg16 : Memref sig .tc .vmem S512x8192 .f32) (arg17 : Memref sig .tc .vmem S512x128 .f32) (arg18 : Memref sig .tc .vmem S512x2048 .f32)
    (x0 : Vec F S512x2048 .i8) (x1 : Vec F S1x4x128 .f32) (x2 : Vec F S512x2048 .f32) (x3 : Vec F S2048x1024 .i8) (x4 : Vec F S1x1024 .f32) (x5 : Vec F S2048x1024 .i8) (x6 : Vec F S1x1024 .f32) (x7 : Vec F S2048x2048 .i8) (x8 : Vec F S1x2048 .f32) (y9 : Vec F S512x2048 .bf16) (y10 : Vec F S512x2048 .i8) (y11 : Vec F S1x4x128 .f32) (s0 : Vec F S512x2048 .bf16) (s1 : Vec F S512x128 .f32) (s2 : Vec F S512x8192 .f32) (s3 : Vec F S512x128 .f32) (s4 : Vec F S512x2048 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ owns (c : Thread nD τ) arg14 fullShare s0 ∗ owns (c : Thread nD τ) arg15 fullShare s1 ∗ owns (c : Thread nD τ) arg16 fullShare s2 ∗ owns (c : Thread nD τ) arg17 fullShare s3 ∗ owns (c : Thread nD τ) arg18 fullShare s4)

/-- The condition under which the body's first `if` is taken. -/
abbrev cond1 (i : grid0.Coords) : Prop := (Scalar.cmpi .ne (Scalar.extui (Scalar.cmpi .eq (BitVec.ofNat 32 (i 1).val) 0#32)) 0#32 : BitVec 1) = 1#1

end Cert.Kernel.Mlp

end
-- ==== Proof.MlpBits.RunA.lean ====
module

public import proofs.«01_k».proof.Proof.Gen.Kernel.Skeleton
public import proofs.«01_k».proof.Proof.Gen.Kernel.Points
public import Idealize.ShloMosaic.Lib.Pipeline.FrameBody
public import Idealize.ShloMosaic.Lib.Pipeline.ReadBack
public import Idealize.ShloMosaic.Lib.VecWindow
public import Idealize.ShloMosaic.Lib.Tactic
public import proofs.«01_k».proof.Proof.MlpBits.Step

@[expose] public section

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The tile's first point: the codes and the scales are set up, then the first gate and up block. -/
theorem run_A (c : Dev nD) (i : grid0.Coords) (arg2 : Memref sig .tc .vmem S512x2048 .i8) (harg2 : arg2.IsWhole) (arg3 : Memref sig .tc .vmem S1x4x128 .f32) (harg3 : arg3.IsWhole) (arg4 : Memref sig .tc .vmem S512x2048 .f32) (harg4 : arg4.IsWhole) (arg5 : Memref sig .tc .vmem S2048x1024 .i8) (harg5 : arg5.IsWhole) (arg6 : Memref sig .tc .vmem S1x1024 .f32) (harg6 : arg6.IsWhole) (arg7 : Memref sig .tc .vmem S2048x1024 .i8) (harg7 : arg7.IsWhole) (arg8 : Memref sig .tc .vmem S1x1024 .f32) (harg8 : arg8.IsWhole) (arg9 : Memref sig .tc .vmem S2048x2048 .i8) (harg9 : arg9.IsWhole) (arg10 : Memref sig .tc .vmem S1x2048 .f32) (harg10 : arg10.IsWhole) (arg11 : Memref sig .tc .vmem S512x2048 .bf16) (harg11 : arg11.IsWhole) (arg12 : Memref sig .tc .vmem S512x2048 .i8) (harg12 : arg12.IsWhole) (arg13 : Memref sig .tc .vmem S1x4x128 .f32) (harg13 : arg13.IsWhole) (arg14 : Memref sig .tc .vmem S512x2048 .bf16) (harg14 : arg14.IsWhole) (arg15 : Memref sig .tc .vmem S512x128 .f32) (harg15 : arg15.IsWhole) (arg16 : Memref sig .tc .vmem S512x8192 .f32) (harg16 : arg16.IsWhole) (arg17 : Memref sig .tc .vmem S512x128 .f32) (harg17 : arg17.IsWhole) (arg18 : Memref sig .tc .vmem S512x2048 .f32) (harg18 : arg18.IsWhole)
    (hc0 : cond1 i) (hc1 : k0_cond2 i = 1#1) (hc2 : ¬ k0_cond3 i = 1#1) (hc3 : ¬ k0_cond4 i = 1#1) (hc4 : ¬ k0_cond5 i = 1#1)
    (x0 : Vec F S512x2048 .i8) (x1 : Vec F S1x4x128 .f32) (x2 : Vec F S512x2048 .f32) (x3 : Vec F S2048x1024 .i8) (x4 : Vec F S1x1024 .f32) (x5 : Vec F S2048x1024 .i8) (x6 : Vec F S1x1024 .f32) (x7 : Vec F S2048x2048 .i8) (x8 : Vec F S1x2048 .f32) (y9 : Vec F S512x2048 .bf16) (y10 : Vec F S512x2048 .i8) (y11 : Vec F S1x4x128 .f32) (s0 : Vec F S512x2048 .bf16) (s1 : Vec F S512x128 .f32) (s2 : Vec F S512x8192 .f32) (s3 : Vec F S512x128 .f32) (s4 : Vec F S512x2048 .f32) (E : Set ℕ) (K : PUnit → sProp 𝕄) :
    iprop(held c arg2 arg3 arg4 arg5 arg6 arg7 arg8 arg9 arg10 arg11 arg12 arg13 arg14 arg15 arg16 arg17 arg18 x0 x1 x2 x3 x4 x5 x6 x7 x8 y9 y10 y11 s0 s1 s2 s3 s4
      ∗ (held c arg2 arg3 arg4 arg5 arg6 arg7 arg8 arg9 arg10 arg11 arg12 arg13 arg14 arg15 arg16 arg17 arg18 x0 x1 x2 x3 x4 x5 x6 x7 x8 y9 y10 y11 (k0_pay10 x0) (col0 x1) (actPut i s2 (k0_pay10 x0) (col0 x1) x3 x4 x5 x6) (amaxStep k0_pay2 (k0_pay10 x0) (col0 x1) x3 x4 x5 x6) (k0_pay3) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mlp_eq_skeleton]; unfold cc0_mlp_skel
  simp only [k0_part1_eq_skeleton, k0_part2_eq_skeleton, k0_part3_eq_skeleton, k0_part4_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2 | sl_exact hc3 | sl_exact hc4)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; exact harg12.read_unread _
  isplitl [H13]
  · iexists _; isplitr
    swap; · iexact H13
    ipureintro; exact harg13.read_unread _
  isplitl [H14]
  · iexists _; isplitr
    swap; · iexact H14
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H15]
  · iexists _; isplitr
    swap; · iexact H15
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H16]
  · iexists _; isplitr
    swap; · iexact H16
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H17]
  · iexists _; isplitr
    swap; · iexact H17
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  iexists _; isplitr
  swap; · iexact H18
  ipureintro; (try sl_unfold_run_names); simp (disch := decide) only [col0, actL, actR, actPut, amaxStep, actsBlk, View.readCov_full, View.readCov_fill, ld_window, readAt_window, read_put, View.writes_nil, Memref.IsWhole.read_unread, window_full, put_full]; try rfl

end Cert.Kernel.Mlp

end
-- ==== Proof.MlpBits.RunB.lean ====
module

public import proofs.«01_k».proof.Proof.Gen.Kernel.Skeleton
public import proofs.«01_k».proof.Proof.Gen.Kernel.Points
public import Idealize.ShloMosaic.Lib.Pipeline.FrameBody
public import Idealize.ShloMosaic.Lib.Pipeline.ReadBack
public import Idealize.ShloMosaic.Lib.VecWindow
public import Idealize.ShloMosaic.Lib.Tactic
public import proofs.«01_k».proof.Proof.MlpBits.Step

@[expose] public section

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A later gate and up point. -/
theorem run_B (c : Dev nD) (i : grid0.Coords) (arg2 : Memref sig .tc .vmem S512x2048 .i8) (harg2 : arg2.IsWhole) (arg3 : Memref sig .tc .vmem S1x4x128 .f32) (harg3 : arg3.IsWhole) (arg4 : Memref sig .tc .vmem S512x2048 .f32) (harg4 : arg4.IsWhole) (arg5 : Memref sig .tc .vmem S2048x1024 .i8) (harg5 : arg5.IsWhole) (arg6 : Memref sig .tc .vmem S1x1024 .f32) (harg6 : arg6.IsWhole) (arg7 : Memref sig .tc .vmem S2048x1024 .i8) (harg7 : arg7.IsWhole) (arg8 : Memref sig .tc .vmem S1x1024 .f32) (harg8 : arg8.IsWhole) (arg9 : Memref sig .tc .vmem S2048x2048 .i8) (harg9 : arg9.IsWhole) (arg10 : Memref sig .tc .vmem S1x2048 .f32) (harg10 : arg10.IsWhole) (arg11 : Memref sig .tc .vmem S512x2048 .bf16) (harg11 : arg11.IsWhole) (arg12 : Memref sig .tc .vmem S512x2048 .i8) (harg12 : arg12.IsWhole) (arg13 : Memref sig .tc .vmem S1x4x128 .f32) (harg13 : arg13.IsWhole) (arg14 : Memref sig .tc .vmem S512x2048 .bf16) (harg14 : arg14.IsWhole) (arg15 : Memref sig .tc .vmem S512x128 .f32) (harg15 : arg15.IsWhole) (arg16 : Memref sig .tc .vmem S512x8192 .f32) (harg16 : arg16.IsWhole) (arg17 : Memref sig .tc .vmem S512x128 .f32) (harg17 : arg17.IsWhole) (arg18 : Memref sig .tc .vmem S512x2048 .f32) (harg18 : arg18.IsWhole)
    (hc0 : ¬ cond1 i) (hc1 : k0_cond2 i = 1#1) (hc2 : ¬ k0_cond3 i = 1#1) (hc3 : ¬ k0_cond4 i = 1#1) (hc4 : ¬ k0_cond5 i = 1#1)
    (x0 : Vec F S512x2048 .i8) (x1 : Vec F S1x4x128 .f32) (x2 : Vec F S512x2048 .f32) (x3 : Vec F S2048x1024 .i8) (x4 : Vec F S1x1024 .f32) (x5 : Vec F S2048x1024 .i8) (x6 : Vec F S1x1024 .f32) (x7 : Vec F S2048x2048 .i8) (x8 : Vec F S1x2048 .f32) (y9 : Vec F S512x2048 .bf16) (y10 : Vec F S512x2048 .i8) (y11 : Vec F S1x4x128 .f32) (s0 : Vec F S512x2048 .bf16) (s1 : Vec F S512x128 .f32) (s2 : Vec F S512x8192 .f32) (s3 : Vec F S512x128 .f32) (s4 : Vec F S512x2048 .f32) (E : Set ℕ) (K : PUnit → sProp 𝕄) :
    iprop(held c arg2 arg3 arg4 arg5 arg6 arg7 arg8 arg9 arg10 arg11 arg12 arg13 arg14 arg15 arg16 arg17 arg18 x0 x1 x2 x3 x4 x5 x6 x7 x8 y9 y10 y11 s0 s1 s2 s3 s4
      ∗ (held c arg2 arg3 arg4 arg5 arg6 arg7 arg8 arg9 arg10 arg11 arg12 arg13 arg14 arg15 arg16 arg17 arg18 x0 x1 x2 x3 x4 x5 x6 x7 x8 y9 y10 y11 s0 s1 (actPut i s2 s0 s1 x3 x4 x5 x6) (amaxStep s3 s0 s1 x3 x4 x5 x6) s4 -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mlp_eq_skeleton]; unfold cc0_mlp_skel
  simp only [k0_part1_eq_skeleton, k0_part2_eq_skeleton, k0_part3_eq_skeleton, k0_part4_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2 | sl_exact hc3 | sl_exact hc4)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; exact harg12.read_unread _
  isplitl [H13]
  · iexists _; isplitr
    swap; · iexact H13
    ipureintro; exact harg13.read_unread _
  isplitl [H14]
  · iexists _; isplitr
    swap; · iexact H14
    ipureintro; exact harg14.read_unread _
  isplitl [H15]
  · iexists _; isplitr
    swap; · iexact H15
    ipureintro; exact harg15.read_unread _
  isplitl [H16]
  · iexists _; isplitr
    swap; · iexact H16
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H17]
  · iexists _; isplitr
    swap; · iexact H17
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  iexists _; isplitr
  swap; · iexact H18
  ipureintro; exact harg18.read_unread _

end Cert.Kernel.Mlp

end
-- ==== Proof.MlpBits.RunC.lean ====
module

public import proofs.«01_k».proof.Proof.Gen.Kernel.Skeleton
public import proofs.«01_k».proof.Proof.Gen.Kernel.Points
public import Idealize.ShloMosaic.Lib.Pipeline.FrameBody
public import Idealize.ShloMosaic.Lib.Pipeline.ReadBack
public import Idealize.ShloMosaic.Lib.VecWindow
public import Idealize.ShloMosaic.Lib.Tactic
public import proofs.«01_k».proof.Proof.MlpBits.Step

@[expose] public section

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The ninth point: the activation scales, then the first down block. -/
theorem run_C (c : Dev nD) (i : grid0.Coords) (arg2 : Memref sig .tc .vmem S512x2048 .i8) (harg2 : arg2.IsWhole) (arg3 : Memref sig .tc .vmem S1x4x128 .f32) (harg3 : arg3.IsWhole) (arg4 : Memref sig .tc .vmem S512x2048 .f32) (harg4 : arg4.IsWhole) (arg5 : Memref sig .tc .vmem S2048x1024 .i8) (harg5 : arg5.IsWhole) (arg6 : Memref sig .tc .vmem S1x1024 .f32) (harg6 : arg6.IsWhole) (arg7 : Memref sig .tc .vmem S2048x1024 .i8) (harg7 : arg7.IsWhole) (arg8 : Memref sig .tc .vmem S1x1024 .f32) (harg8 : arg8.IsWhole) (arg9 : Memref sig .tc .vmem S2048x2048 .i8) (harg9 : arg9.IsWhole) (arg10 : Memref sig .tc .vmem S1x2048 .f32) (harg10 : arg10.IsWhole) (arg11 : Memref sig .tc .vmem S512x2048 .bf16) (harg11 : arg11.IsWhole) (arg12 : Memref sig .tc .vmem S512x2048 .i8) (harg12 : arg12.IsWhole) (arg13 : Memref sig .tc .vmem S1x4x128 .f32) (harg13 : arg13.IsWhole) (arg14 : Memref sig .tc .vmem S512x2048 .bf16) (harg14 : arg14.IsWhole) (arg15 : Memref sig .tc .vmem S512x128 .f32) (harg15 : arg15.IsWhole) (arg16 : Memref sig .tc .vmem S512x8192 .f32) (harg16 : arg16.IsWhole) (arg17 : Memref sig .tc .vmem S512x128 .f32) (harg17 : arg17.IsWhole) (arg18 : Memref sig .tc .vmem S512x2048 .f32) (harg18 : arg18.IsWhole)
    (hc0 : ¬ cond1 i) (hc1 : ¬ k0_cond2 i = 1#1) (hc2 : k0_cond3 i = 1#1) (hc3 : k0_cond4 i = 1#1) (hc4 : ¬ k0_cond5 i = 1#1)
    (x0 : Vec F S512x2048 .i8) (x1 : Vec F S1x4x128 .f32) (x2 : Vec F S512x2048 .f32) (x3 : Vec F S2048x1024 .i8) (x4 : Vec F S1x1024 .f32) (x5 : Vec F S2048x1024 .i8) (x6 : Vec F S1x1024 .f32) (x7 : Vec F S2048x2048 .i8) (x8 : Vec F S1x2048 .f32) (y9 : Vec F S512x2048 .bf16) (y10 : Vec F S512x2048 .i8) (y11 : Vec F S1x4x128 .f32) (s0 : Vec F S512x2048 .bf16) (s1 : Vec F S512x128 .f32) (s2 : Vec F S512x8192 .f32) (s3 : Vec F S512x128 .f32) (s4 : Vec F S512x2048 .f32) (E : Set ℕ) (K : PUnit → sProp 𝕄) :
    iprop(held c arg2 arg3 arg4 arg5 arg6 arg7 arg8 arg9 arg10 arg11 arg12 arg13 arg14 arg15 arg16 arg17 arg18 x0 x1 x2 x3 x4 x5 x6 x7 x8 y9 y10 y11 s0 s1 s2 s3 s4
      ∗ (held c arg2 arg3 arg4 arg5 arg6 arg7 arg8 arg9 arg10 arg11 arg12 arg13 arg14 arg15 arg16 arg17 arg18 x0 x1 x2 x3 x4 x5 x6 x7 x8 y9 (k0_pay7 (lane0 (k0_pay22 s3)) (slab i hc3 s2)) (actsBlk y11 s3) s0 (k0_pay22 s3) s2 s3 (k0_pay8 (lane0 (k0_pay22 s3)) (slab i hc3 s2) s4 x7) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mlp_eq_skeleton]; unfold cc0_mlp_skel
  simp only [k0_part1_eq_skeleton, k0_part2_eq_skeleton, k0_part3_eq_skeleton, k0_part4_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2 | sl_exact hc3 | sl_exact hc4)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H13]
  · iexists _; isplitr
    swap; · iexact H13
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H14]
  · iexists _; isplitr
    swap; · iexact H14
    ipureintro; exact harg14.read_unread _
  isplitl [H15]
  · iexists _; isplitr
    swap; · iexact H15
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H16]
  · iexists _; isplitr
    swap; · iexact H16
    ipureintro; exact harg16.read_unread _
  isplitl [H17]
  · iexists _; isplitr
    swap; · iexact H17
    ipureintro; exact harg17.read_unread _
  iexists _; isplitr
  swap; · iexact H18
  ipureintro; (try sl_unfold_run_names); simp (disch := decide) only [col0, actL, actR, actPut, amaxStep, actsBlk, View.readCov_full, View.readCov_fill, ld_window, readAt_window, read_put, View.writes_nil, Memref.IsWhole.read_unread, window_full, put_full]; try rfl

end Cert.Kernel.Mlp

end
-- ==== Proof.MlpBits.RunD.lean ====
module

public import proofs.«01_k».proof.Proof.Gen.Kernel.Skeleton
public import proofs.«01_k».proof.Proof.Gen.Kernel.Points
public import Idealize.ShloMosaic.Lib.Pipeline.FrameBody
public import Idealize.ShloMosaic.Lib.Pipeline.ReadBack
public import Idealize.ShloMosaic.Lib.VecWindow
public import Idealize.ShloMosaic.Lib.Tactic
public import proofs.«01_k».proof.Proof.MlpBits.Step

@[expose] public section

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A middle down point. -/
theorem run_D (c : Dev nD) (i : grid0.Coords) (arg2 : Memref sig .tc .vmem S512x2048 .i8) (harg2 : arg2.IsWhole) (arg3 : Memref sig .tc .vmem S1x4x128 .f32) (harg3 : arg3.IsWhole) (arg4 : Memref sig .tc .vmem S512x2048 .f32) (harg4 : arg4.IsWhole) (arg5 : Memref sig .tc .vmem S2048x1024 .i8) (harg5 : arg5.IsWhole) (arg6 : Memref sig .tc .vmem S1x1024 .f32) (harg6 : arg6.IsWhole) (arg7 : Memref sig .tc .vmem S2048x1024 .i8) (harg7 : arg7.IsWhole) (arg8 : Memref sig .tc .vmem S1x1024 .f32) (harg8 : arg8.IsWhole) (arg9 : Memref sig .tc .vmem S2048x2048 .i8) (harg9 : arg9.IsWhole) (arg10 : Memref sig .tc .vmem S1x2048 .f32) (harg10 : arg10.IsWhole) (arg11 : Memref sig .tc .vmem S512x2048 .bf16) (harg11 : arg11.IsWhole) (arg12 : Memref sig .tc .vmem S512x2048 .i8) (harg12 : arg12.IsWhole) (arg13 : Memref sig .tc .vmem S1x4x128 .f32) (harg13 : arg13.IsWhole) (arg14 : Memref sig .tc .vmem S512x2048 .bf16) (harg14 : arg14.IsWhole) (arg15 : Memref sig .tc .vmem S512x128 .f32) (harg15 : arg15.IsWhole) (arg16 : Memref sig .tc .vmem S512x8192 .f32) (harg16 : arg16.IsWhole) (arg17 : Memref sig .tc .vmem S512x128 .f32) (harg17 : arg17.IsWhole) (arg18 : Memref sig .tc .vmem S512x2048 .f32) (harg18 : arg18.IsWhole)
    (hc0 : ¬ cond1 i) (hc1 : ¬ k0_cond2 i = 1#1) (hc2 : ¬ k0_cond3 i = 1#1) (hc3 : k0_cond4 i = 1#1) (hc4 : ¬ k0_cond5 i = 1#1)
    (x0 : Vec F S512x2048 .i8) (x1 : Vec F S1x4x128 .f32) (x2 : Vec F S512x2048 .f32) (x3 : Vec F S2048x1024 .i8) (x4 : Vec F S1x1024 .f32) (x5 : Vec F S2048x1024 .i8) (x6 : Vec F S1x1024 .f32) (x7 : Vec F S2048x2048 .i8) (x8 : Vec F S1x2048 .f32) (y9 : Vec F S512x2048 .bf16) (y10 : Vec F S512x2048 .i8) (y11 : Vec F S1x4x128 .f32) (s0 : Vec F S512x2048 .bf16) (s1 : Vec F S512x128 .f32) (s2 : Vec F S512x8192 .f32) (s3 : Vec F S512x128 .f32) (s4 : Vec F S512x2048 .f32) (E : Set ℕ) (K : PUnit → sProp 𝕄) :
    iprop(held c arg2 arg3 arg4 arg5 arg6 arg7 arg8 arg9 arg10 arg11 arg12 arg13 arg14 arg15 arg16 arg17 arg18 x0 x1 x2 x3 x4 x5 x6 x7 x8 y9 y10 y11 s0 s1 s2 s3 s4
      ∗ (held c arg2 arg3 arg4 arg5 arg6 arg7 arg8 arg9 arg10 arg11 arg12 arg13 arg14 arg15 arg16 arg17 arg18 x0 x1 x2 x3 x4 x5 x6 x7 x8 y9 (k0_pay7 (lane0 s1) (slab i hc3 s2)) y11 s0 s1 s2 s3 (k0_pay8 (lane0 s1) (slab i hc3 s2) s4 x7) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mlp_eq_skeleton]; unfold cc0_mlp_skel
  simp only [k0_part1_eq_skeleton, k0_part2_eq_skeleton, k0_part3_eq_skeleton, k0_part4_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2 | sl_exact hc3 | sl_exact hc4)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H13]
  · iexists _; isplitr
    swap; · iexact H13
    ipureintro; exact harg13.read_unread _
  isplitl [H14]
  · iexists _; isplitr
    swap; · iexact H14
    ipureintro; exact harg14.read_unread _
  isplitl [H15]
  · iexists _; isplitr
    swap; · iexact H15
    ipureintro; exact harg15.read_unread _
  isplitl [H16]
  · iexists _; isplitr
    swap; · iexact H16
    ipureintro; exact harg16.read_unread _
  isplitl [H17]
  · iexists _; isplitr
    swap; · iexact H17
    ipureintro; exact harg17.read_unread _
  iexists _; isplitr
  swap; · iexact H18
  ipureintro; (try sl_unfold_run_names); simp (disch := decide) only [col0, actL, actR, actPut, amaxStep, actsBlk, View.readCov_full, View.readCov_fill, ld_window, readAt_window, read_put, View.writes_nil, Memref.IsWhole.read_unread, window_full, put_full]; try rfl

end Cert.Kernel.Mlp

end
-- ==== Proof.MlpBits.RunE.lean ====
module

public import proofs.«01_k».proof.Proof.Gen.Kernel.Skeleton
public import proofs.«01_k».proof.Proof.Gen.Kernel.Points
public import Idealize.ShloMosaic.Lib.Pipeline.FrameBody
public import Idealize.ShloMosaic.Lib.Pipeline.ReadBack
public import Idealize.ShloMosaic.Lib.VecWindow
public import Idealize.ShloMosaic.Lib.Tactic
public import proofs.«01_k».proof.Proof.MlpBits.Step

@[expose] public section

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The tile's last point: the last down block and the result. -/
theorem run_E (c : Dev nD) (i : grid0.Coords) (arg2 : Memref sig .tc .vmem S512x2048 .i8) (harg2 : arg2.IsWhole) (arg3 : Memref sig .tc .vmem S1x4x128 .f32) (harg3 : arg3.IsWhole) (arg4 : Memref sig .tc .vmem S512x2048 .f32) (harg4 : arg4.IsWhole) (arg5 : Memref sig .tc .vmem S2048x1024 .i8) (harg5 : arg5.IsWhole) (arg6 : Memref sig .tc .vmem S1x1024 .f32) (harg6 : arg6.IsWhole) (arg7 : Memref sig .tc .vmem S2048x1024 .i8) (harg7 : arg7.IsWhole) (arg8 : Memref sig .tc .vmem S1x1024 .f32) (harg8 : arg8.IsWhole) (arg9 : Memref sig .tc .vmem S2048x2048 .i8) (harg9 : arg9.IsWhole) (arg10 : Memref sig .tc .vmem S1x2048 .f32) (harg10 : arg10.IsWhole) (arg11 : Memref sig .tc .vmem S512x2048 .bf16) (harg11 : arg11.IsWhole) (arg12 : Memref sig .tc .vmem S512x2048 .i8) (harg12 : arg12.IsWhole) (arg13 : Memref sig .tc .vmem S1x4x128 .f32) (harg13 : arg13.IsWhole) (arg14 : Memref sig .tc .vmem S512x2048 .bf16) (harg14 : arg14.IsWhole) (arg15 : Memref sig .tc .vmem S512x128 .f32) (harg15 : arg15.IsWhole) (arg16 : Memref sig .tc .vmem S512x8192 .f32) (harg16 : arg16.IsWhole) (arg17 : Memref sig .tc .vmem S512x128 .f32) (harg17 : arg17.IsWhole) (arg18 : Memref sig .tc .vmem S512x2048 .f32) (harg18 : arg18.IsWhole)
    (hc0 : ¬ cond1 i) (hc1 : ¬ k0_cond2 i = 1#1) (hc2 : ¬ k0_cond3 i = 1#1) (hc3 : k0_cond4 i = 1#1) (hc4 : k0_cond5 i = 1#1)
    (x0 : Vec F S512x2048 .i8) (x1 : Vec F S1x4x128 .f32) (x2 : Vec F S512x2048 .f32) (x3 : Vec F S2048x1024 .i8) (x4 : Vec F S1x1024 .f32) (x5 : Vec F S2048x1024 .i8) (x6 : Vec F S1x1024 .f32) (x7 : Vec F S2048x2048 .i8) (x8 : Vec F S1x2048 .f32) (y9 : Vec F S512x2048 .bf16) (y10 : Vec F S512x2048 .i8) (y11 : Vec F S1x4x128 .f32) (s0 : Vec F S512x2048 .bf16) (s1 : Vec F S512x128 .f32) (s2 : Vec F S512x8192 .f32) (s3 : Vec F S512x128 .f32) (s4 : Vec F S512x2048 .f32) (E : Set ℕ) (K : PUnit → sProp 𝕄) :
    iprop(held c arg2 arg3 arg4 arg5 arg6 arg7 arg8 arg9 arg10 arg11 arg12 arg13 arg14 arg15 arg16 arg17 arg18 x0 x1 x2 x3 x4 x5 x6 x7 x8 y9 y10 y11 s0 s1 s2 s3 s4
      ∗ (held c arg2 arg3 arg4 arg5 arg6 arg7 arg8 arg9 arg10 arg11 arg12 arg13 arg14 arg15 arg16 arg17 arg18 x0 x1 x2 x3 x4 x5 x6 x7 x8 (k0_pay9 x2 (k0_pay8 (lane0 s1) (slab i hc3 s2) s4 x7) (lane0 s1) x8) (k0_pay7 (lane0 s1) (slab i hc3 s2)) y11 s0 s1 s2 s3 (k0_pay8 (lane0 s1) (slab i hc3 s2) s4 x7) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mlp_eq_skeleton]; unfold cc0_mlp_skel
  simp only [k0_part1_eq_skeleton, k0_part2_eq_skeleton, k0_part3_eq_skeleton, k0_part4_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2 | sl_exact hc3 | sl_exact hc4)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H12]
  · iexists _; isplitr
    swap; · iexact H12
    ipureintro; (try sl_unfold_run_names); simp (disch := decide) only [col0, actL, actR, actPut, amaxStep, actsBlk, View.readCov_full, View.readCov_fill, ld_window, readAt_window, read_put, View.writes_nil, Memref.IsWhole.read_unread, window_full, put_full]; try rfl
  isplitl [H13]
  · iexists _; isplitr
    swap; · iexact H13
    ipureintro; exact harg13.read_unread _
  isplitl [H14]
  · iexists _; isplitr
    swap; · iexact H14
    ipureintro; exact harg14.read_unread _
  isplitl [H15]
  · iexists _; isplitr
    swap; · iexact H15
    ipureintro; exact harg15.read_unread _
  isplitl [H16]
  · iexists _; isplitr
    swap; · iexact H16
    ipureintro; exact harg16.read_unread _
  isplitl [H17]
  · iexists _; isplitr
    swap; · iexact H17
    ipureintro; exact harg17.read_unread _
  iexists _; isplitr
  swap; · iexact H18
  ipureintro; (try sl_unfold_run_names); simp (disch := decide) only [col0, actL, actR, actPut, amaxStep, actsBlk, View.readCov_full, View.readCov_fill, ld_window, readAt_window, read_put, View.writes_nil, Memref.IsWhole.read_unread, window_full, put_full]; try rfl

end Cert.Kernel.Mlp

end
-- ==== Proof.MlpBits.Vals.lean ====
module

public import proofs.«01_k».proof.Proof.Gen.Kernel.Frame
public import proofs.«01_k».proof.Proof.MlpBits.Step
public import Idealize.ShloMosaic.Lib.ValueIdx

@[expose] public section

set_option maxRecDepth 16384

noncomputable section

namespace Cert.Kernel.Mlp

open Cert.Kernel Cert.Kernel.Gen
open Idealize.ShloMosaic Idealize.ShloMosaic.TcCoe Idealize.ShloMosaic.ValueIdx
open Idealize.ShloMosaic.VecWindow (window put)
open Idealize.ShloMosaic.Pipeline (Dat Cfg Window)

variable {F : FTy → Type} [FloatOps F]
variable (m : (ℓ : Loc nD τ sig) → Buf (Elt F) ℓ) (c : Dev nD)

/-! ## The input blocks, point by point -/

/-- Input 0's block at a point. -/
abbrev X0 (t : Fin grid0.N) : Vec F S512x2048 .i8 := iblk m c 0 t
/-- Input 1's block at a point. -/
abbrev X1 (t : Fin grid0.N) : Vec F S1x4x128 .f32 := iblk m c 1 t
/-- Input 2's block at a point. -/
abbrev X2 (t : Fin grid0.N) : Vec F S512x2048 .f32 := iblk m c 2 t
/-- Input 3's block at a point. -/
abbrev X3 (t : Fin grid0.N) : Vec F S2048x1024 .i8 := iblk m c 3 t
/-- Input 4's block at a point. -/
abbrev X4 (t : Fin grid0.N) : Vec F S1x1024 .f32 := iblk m c 4 t
/-- Input 5's block at a point. -/
abbrev X5 (t : Fin grid0.N) : Vec F S2048x1024 .i8 := iblk m c 5 t
/-- Input 6's block at a point. -/
abbrev X6 (t : Fin grid0.N) : Vec F S1x1024 .f32 := iblk m c 6 t
/-- Input 7's block at a point. -/
abbrev X7 (t : Fin grid0.N) : Vec F S2048x2048 .i8 := iblk m c 7 t
/-- Input 8's block at a point. -/
abbrev X8 (t : Fin grid0.N) : Vec F S1x2048 .f32 := iblk m c 8 t

/-- Point `j` of tile `i`. -/
def pt (i j : ℕ) : Fin grid0.N := ⟨(12 * i + j) % 180, lt_of_lt_of_eq (Nat.mod_lt _ (by norm_num)) N_0.symm⟩

/-- A point is the one of its tile and its place in the tile. -/
theorem pt_self (t : Fin grid0.N) : pt (t.val / 12) (t.val % 12) = t :=
  Fin.ext (by have : t.val < 180 := lt_of_lt_of_eq t.isLt N_0; show (12 * (t.val / 12) + t.val % 12) % 180 = t.val; omega)

/-! ## What a tile's points leave -/

/-- The tile's codes as bf16, and its spread row scales. -/
def aT (i : ℕ) : Vec F S512x2048 .bf16 := k0_pay10 (X0 m c (pt i 0))
/-- The tile's row scales, one per row, repeated along the lanes. -/
def lT (i : ℕ) : Vec F S512x128 .f32 := col0 (X1 m c (pt i 0))

/-- The two halves of the activations that gate and up point `j` computes. -/
def hL (i j : ℕ) : Vec F S512x512 .f32 := actL (aT m c i) (lT m c i) (X3 m c (pt i j)) (X4 m c (pt i j)) (X5 m c (pt i j)) (X6 m c (pt i j))
/-- The right half. -/
def hR (i j : ℕ) : Vec F S512x512 .f32 := actR (aT m c i) (lT m c i) (X3 m c (pt i j)) (X4 m c (pt i j)) (X5 m c (pt i j)) (X6 m c (pt i j))

/-- The tile's activations: 1024 columns a point, in two halves. -/
def actT (i : ℕ) : Vec F S512x8192 .f32 := fun y =>
  if h : (y 1).val % 1024 < 512 then hL m c i ((y 1).val / 1024) (ix2 (y 0) ⟨(y 1).val % 1024, h⟩)
  else hR m c i ((y 1).val / 1024) (ix2 (y 0) ⟨(y 1).val % 1024 - 512, by omega⟩)

/-- The running row maxima after the first `n` gate and up points. -/
def amaxT (i : ℕ) : ℕ → Vec F S512x128 .f32
  | 0 => k0_pay2
  | n + 1 => amaxStep (amaxT i n) (aT m c i) (lT m c i) (X3 m c (pt i n)) (X4 m c (pt i n)) (X5 m c (pt i n)) (X6 m c (pt i n))

/-- The spread activation scales of the tile. -/
def colT (i : ℕ) : Vec F S512x128 .f32 := k0_pay22 (amaxT m c i 8)

/-- The `n`-th slice of 2048 columns of the tile's activations. -/
def slabT (i n : ℕ) : Vec F S512x2048 .f32 := fun y => actT m c i (ix2 (y 0) ⟨(2048 * n + (y 1).val) % 8192, Nat.mod_lt _ (by norm_num)⟩)

/-- The down projection's accumulator after its first `n` points. -/
def accT (i : ℕ) : ℕ → Vec F S512x2048 .f32
  | 0 => k0_pay3
  | n + 1 => k0_pay8 (lane0 (colT m c i)) (slabT m c i n) (accT i n) (X7 m c (pt i (8 + n)))

/-- What the tile writes: its codes, its scales and its rows of the result. -/
def codesT (i n : ℕ) : Vec F S512x2048 .i8 := k0_pay7 (lane0 (colT m c i)) (slabT m c i n)
/-- The tile's scales. -/
def actsT (i : ℕ) : Vec F S1x4x128 .f32 := actsBlk (fun _ => Scalar.ofBits .f32 0x00000000#32) (amaxT m c i 8)
/-- The tile's rows of the result. -/
def outT (i : ℕ) : Vec F S512x2048 .bf16 := k0_pay9 (X2 m c (pt i 11)) (accT m c i 4) (lane0 (colT m c i)) (X8 m c (pt i 11))

/-! ## The invariant of the scratch between points -/

/-- What the five scratch buffers hold before point `n`, as far as the points to come read them. -/
structure Inv (n : ℕ) (s0 : Vec F S512x2048 .bf16) (s1 : Vec F S512x128 .f32) (s2 : Vec F S512x8192 .f32) (s3 : Vec F S512x128 .f32) (s4 : Vec F S512x2048 .f32) : Prop where
  a : 1 ≤ n % 12 → s0 = aT m c (n / 12)
  l : 1 ≤ n % 12 → n % 12 ≤ 8 → s1 = lT m c (n / 12)
  act : ∀ y : S512x8192.Idx, (y 1).val < 1024 * (n % 12) → s2 y = actT m c (n / 12) y
  mx : 1 ≤ n % 12 → n % 12 ≤ 8 → s3 = amaxT m c (n / 12) (n % 12)
  z : 1 ≤ n % 12 → n % 12 ≤ 8 → s4 = k0_pay3
  col : 9 ≤ n % 12 → s1 = colT m c (n / 12)
  acc : 9 ≤ n % 12 → s4 = accT m c (n / 12) (n % 12 - 8)

/-- Before a tile's first point nothing is asked. -/
theorem inv_tile {n : ℕ} (h : n % 12 = 0) (s0 : Vec F S512x2048 .bf16) (s1 : Vec F S512x128 .f32) (s2 : Vec F S512x8192 .f32) (s3 : Vec F S512x128 .f32) (s4 : Vec F S512x2048 .f32) :
    Inv m c n s0 s1 s2 s3 s4 :=
  ⟨fun h' => by omega, fun h' => by omega, fun y h' => by rw [h] at h'; omega, fun h' => by omega, fun h' => by omega, fun h' => by omega, fun h' => by omega⟩

/-- Where a gate and up point puts its two halves. -/
theorem off1_left : ∀ t : Fin grid0.N, t.val % 12 < 8 → k0_off1 (grid0.coords t) 0#32 = ![0, 1024 * (t.val % 12)] := by decide +kernel
/-- The right half goes 512 columns further. -/
theorem off1_right : ∀ t : Fin grid0.N, t.val % 12 < 8 → k0_off1 (grid0.coords t) 512#32 = ![0, 1024 * (t.val % 12) + 512] := by decide +kernel
/-- Where a down point reads. -/
theorem off2_eq : ∀ t : Fin grid0.N, 8 ≤ t.val % 12 → k0_off2 (grid0.coords t) = ![0, 2048 * (t.val % 12 - 8)] := by decide +kernel

/-- A put of 512 columns at column `b`, read inside and outside. -/
theorem put_in (x : Vec F S512x8192 .f32) (w : Vec F S512x512 .f32) (b : ℕ) (y : S512x8192.Idx) (h1 : b ≤ (y 1).val) (h2 : (y 1).val - b < 512) :
    put x ![0, b] S512x512.size w y = w (ix2 (y 0) ⟨(y 1).val - b, h2⟩) := by
  unfold put
  rw [dif_pos fun a => by
    match a with
    | 0 => exact ⟨Nat.zero_le _, by have : (y 0).val < 512 := (y 0).isLt; show (y 0).val < 0 + 512; omega⟩
    | 1 => exact ⟨h1, by show (y 1).val < b + 512; omega⟩]
  exact congrArg w (funext fun a => Fin.ext (by
    match a with
    | 0 => show (y 0).val - 0 = (y 0).val; omega
    | 1 => rfl))
/-- Outside the columns written, a stored block changes nothing. -/
theorem put_out (x : Vec F S512x8192 .f32) (w : Vec F S512x512 .f32) (b : ℕ) (y : S512x8192.Idx) (h : (y 1).val < b ∨ b + 512 ≤ (y 1).val) :
    put x ![0, b] S512x512.size w y = x y := by
  unfold put
  exact dif_neg fun hall => by have := hall 1; have h1 : b ≤ (y 1).val := this.1; have h2 : (y 1).val < b + 512 := this.2; omega

/-- The first column's spread is what the two halves make of the activations. -/
theorem actT_left (i j : ℕ) (y : S512x8192.Idx) (h1 : 1024 * j ≤ (y 1).val) (h2 : (y 1).val - 1024 * j < 512) :
    actT m c i y = hL m c i j (ix2 (y 0) ⟨(y 1).val - 1024 * j, h2⟩) := by
  have e1 : (y 1).val / 1024 = j := by omega
  have e2 : (y 1).val % 1024 = (y 1).val - 1024 * j := by omega
  unfold actT
  rw [dif_pos (by omega)]
  simp only [e1, e2]
/-- In a point's right half, the tile's activations are the right half it computed. -/
theorem actT_right (i j : ℕ) (y : S512x8192.Idx) (h1 : 1024 * j + 512 ≤ (y 1).val) (h2 : (y 1).val - (1024 * j + 512) < 512) :
    actT m c i y = hR m c i j (ix2 (y 0) ⟨(y 1).val - (1024 * j + 512), h2⟩) := by
  have e1 : (y 1).val / 1024 = j := by omega
  have e2 : (y 1).val % 1024 - 512 = (y 1).val - (1024 * j + 512) := by omega
  unfold actT
  rw [dif_neg (by omega)]
  simp only [e1, e2]

/-- A gate and up point extends the activations by its 1024 columns. -/
theorem act_step (t : Fin grid0.N) (hj : t.val % 12 < 8) (s2 : Vec F S512x8192 .f32)
    (h : ∀ y : S512x8192.Idx, (y 1).val < 1024 * (t.val % 12) → s2 y = actT m c (t.val / 12) y) (y : S512x8192.Idx) (hy : (y 1).val < 1024 * (t.val % 12 + 1)) :
    actPut (grid0.coords t) s2 (aT m c (t.val / 12)) (lT m c (t.val / 12)) (X3 m c t) (X4 m c t) (X5 m c t) (X6 m c t) y = actT m c (t.val / 12) y := by
  unfold actPut
  rw [off1_left t hj, off1_right t hj]
  by_cases hr : 1024 * (t.val % 12) + 512 ≤ (y 1).val
  · rw [put_in _ _ _ y hr (by omega), actT_right m c _ (t.val % 12) y hr (by omega)]
    unfold hR; rw [pt_self]
  · rw [put_out _ _ _ y (by omega)]
    by_cases hl : 1024 * (t.val % 12) ≤ (y 1).val
    · rw [put_in _ _ _ y hl (by omega), actT_left m c _ (t.val % 12) y hl (by omega)]
      unfold hL; rw [pt_self]
    · rw [put_out _ _ _ y (by omega)]
      exact h y (by omega)

/-- A down point's slice of the activations. -/
theorem slab_eq (t : Fin grid0.N) (hj : 8 ≤ t.val % 12) (hc : k0_cond4 (grid0.coords t) = 1#1) (s2 : Vec F S512x8192 .f32)
    (h : ∀ y : S512x8192.Idx, (y 1).val < 1024 * (t.val % 12) → s2 y = actT m c (t.val / 12) y) :
    slab (grid0.coords t) hc s2 = slabT m c (t.val / 12) (t.val % 12 - 8) := by
  funext y
  have hy : (y 1).val < 2048 := (y 1).isLt
  have e := off2_eq t hj
  show s2 ((Rect.unit (s := S512x8192) (k0_off2 (grid0.coords t)) S512x2048.size (k0_off2_inb _ hc)).emb y) = _
  have hv0 : (((Rect.unit (s := S512x8192) (k0_off2 (grid0.coords t)) S512x2048.size (k0_off2_inb _ hc)).emb y) 0).val = (y 0).val := by
    show k0_off2 (grid0.coords t) 0 + 1 * (y 0).val = _
    rw [e]; show 0 + 1 * (y 0).val = _; omega
  have hv1 : (((Rect.unit (s := S512x8192) (k0_off2 (grid0.coords t)) S512x2048.size (k0_off2_inb _ hc)).emb y) 1).val = 2048 * (t.val % 12 - 8) + (y 1).val := by
    show k0_off2 (grid0.coords t) 1 + 1 * (y 1).val = _
    rw [e]; show 2048 * (t.val % 12 - 8) + 1 * (y 1).val = _; omega
  rw [h _ (by rw [hv1]; omega)]
  unfold slabT
  refine congrArg (actT m c (t.val / 12)) (funext fun a => Fin.ext ?_)
  match a with
  | 0 => exact hv0
  | 1 => refine hv1.trans ?_; show _ = (2048 * (t.val % 12 - 8) + (y 1).val) % 8192; omega

/-- The block of scales does not depend on what the buffer held. -/
theorem actsBlk_any (y11 z : Vec F S1x4x128 .f32) (s3 : Vec F S512x128 .f32) : actsBlk y11 s3 = actsBlk z s3 := by
  funext y
  have h0 : (y 0).val < 1 := (y 0).isLt
  have h1 : (y 1).val < 4 := (y 1).isLt
  have h2 : (y 2).val < 128 := (y 2).isLt
  unfold actsBlk put
  have key : ∀ k : ℕ, (y 1).val = k → ∀ a : Fin 3, (![0, k, 0] : Fin 3 → ℕ) a ≤ (y a).val ∧ (y a).val < (![0, k, 0] : Fin 3 → ℕ) a + S1x1x128.size a := fun k hk a => by
    match a with
    | 0 => exact ⟨Nat.zero_le _, by show (y 0).val < 0 + 1; omega⟩
    | 1 => exact ⟨by show k ≤ (y 1).val; omega, by show (y 1).val < k + 1; omega⟩
    | 2 => exact ⟨Nat.zero_le _, by show (y 2).val < 0 + 128; omega⟩
  by_cases k3 : (y 1).val = 3
  · rw [dif_pos (key 3 k3), dif_pos (key 3 k3)]
  have n3 := fun hall : (∀ a : Fin 3, (![0, 3, 0] : Fin 3 → ℕ) a ≤ (y a).val ∧ (y a).val < (![0, 3, 0] : Fin 3 → ℕ) a + S1x1x128.size a) => k3 (by have := (hall 1).1; have : 3 ≤ (y 1).val := this; omega)
  rw [dif_neg n3, dif_neg n3]
  by_cases k2 : (y 1).val = 2
  · rw [dif_pos (key 2 k2), dif_pos (key 2 k2)]
  have n2 := fun hall : (∀ a : Fin 3, (![0, 2, 0] : Fin 3 → ℕ) a ≤ (y a).val ∧ (y a).val < (![0, 2, 0] : Fin 3 → ℕ) a + S1x1x128.size a) => k2 (by have := (hall 1).1; have : 2 ≤ (y 1).val := this; omega)
  rw [dif_neg n2, dif_neg n2]
  by_cases k1 : (y 1).val = 1
  · rw [dif_pos (key 1 k1), dif_pos (key 1 k1)]
  have n1 := fun hall : (∀ a : Fin 3, (![0, 1, 0] : Fin 3 → ℕ) a ≤ (y a).val ∧ (y a).val < (![0, 1, 0] : Fin 3 → ℕ) a + S1x1x128.size a) => k1 (by have := (hall 1).1; have : 1 ≤ (y 1).val := this; omega)
  rw [dif_neg n1, dif_neg n1, dif_pos (key 0 (by omega)), dif_pos (key 0 (by omega))]

/-! ## The invariant, point by point -/

/-- After a tile's first point. -/
theorem inv_A (t : Fin grid0.N) (hj : t.val % 12 = 0) (s2 : Vec F S512x8192 .f32) :
    Inv m c (t.val + 1) (k0_pay10 (X0 m c t)) (col0 (X1 m c t)) (actPut (grid0.coords t) s2 (k0_pay10 (X0 m c t)) (col0 (X1 m c t)) (X3 m c t) (X4 m c t) (X5 m c t) (X6 m c t))
      (amaxStep k0_pay2 (k0_pay10 (X0 m c t)) (col0 (X1 m c t)) (X3 m c t) (X4 m c t) (X5 m c t) (X6 m c t)) k0_pay3 := by
  have e1 : (t.val + 1) % 12 = 1 := by omega
  have e2 : (t.val + 1) / 12 = t.val / 12 := by omega
  have hp : pt (t.val / 12) 0 = t := by have := pt_self t; rwa [hj] at this
  have ha : k0_pay10 (X0 m c t) = aT m c (t.val / 12) := by unfold aT; rw [hp]
  have hl : col0 (X1 m c t) = lT m c (t.val / 12) := by unfold lT; rw [hp]
  rw [ha, hl]
  refine ⟨fun _ => by rw [e2], fun _ _ => by rw [e2], fun y hy => ?_, fun _ _ => ?_, fun _ _ => rfl, fun h => by omega, fun h => by omega⟩
  · rw [e2]; exact act_step m c t (by omega) s2 (fun y hy => by rw [hj] at hy; omega) y (by omega)
  · rw [e1, e2]; show _ = amaxStep k0_pay2 _ _ _ _ _ _; rw [hp]

/-- After a later gate and up point. -/
theorem inv_B (t : Fin grid0.N) (hj : 1 ≤ t.val % 12) (hj' : t.val % 12 < 8) {s0 : Vec F S512x2048 .bf16} {s1 : Vec F S512x128 .f32} {s2 : Vec F S512x8192 .f32} {s3 : Vec F S512x128 .f32} {s4 : Vec F S512x2048 .f32}
    (h : Inv m c t.val s0 s1 s2 s3 s4) :
    Inv m c (t.val + 1) s0 s1 (actPut (grid0.coords t) s2 s0 s1 (X3 m c t) (X4 m c t) (X5 m c t) (X6 m c t)) (amaxStep s3 s0 s1 (X3 m c t) (X4 m c t) (X5 m c t) (X6 m c t)) s4 := by
  have e1 : (t.val + 1) % 12 = t.val % 12 + 1 := by omega
  have e2 : (t.val + 1) / 12 = t.val / 12 := by omega
  obtain ⟨ha, hl, hact, hmx, hz, -, -⟩ := h
  obtain rfl := ha hj; obtain rfl := hl hj (by omega); obtain rfl := hmx hj (by omega); obtain rfl := hz hj (by omega)
  refine ⟨fun _ => by rw [e2], fun _ _ => by rw [e2], fun y hy => ?_, fun _ _ => ?_, fun _ _ => rfl, fun h => by omega, fun h => by omega⟩
  · rw [e2]; exact act_step m c t hj' s2 hact y (by omega)
  · rw [e1, e2]; show _ = amaxStep _ _ _ _ _ _ _; rw [pt_self]

/-- After a down point, from the state as that point finds it. -/
theorem inv_down (t : Fin grid0.N) (hj : 8 ≤ t.val % 12) {s0 : Vec F S512x2048 .bf16} {s2 : Vec F S512x8192 .f32} (s3 : Vec F S512x128 .f32)
    (ha : s0 = aT m c (t.val / 12)) (hact : ∀ y : S512x8192.Idx, (y 1).val < 1024 * (t.val % 12) → s2 y = actT m c (t.val / 12) y) :
    Inv m c (t.val + 1) s0 (colT m c (t.val / 12)) s2 s3
      (k0_pay8 (lane0 (colT m c (t.val / 12))) (slabT m c (t.val / 12) (t.val % 12 - 8)) (accT m c (t.val / 12) (t.val % 12 - 8)) (X7 m c t)) := by
  by_cases h11 : t.val % 12 = 11
  · exact inv_tile m c (by omega) _ _ _ _ _
  have e1 : (t.val + 1) % 12 = t.val % 12 + 1 := by omega
  have e2 : (t.val + 1) / 12 = t.val / 12 := by omega
  have e3 : (t.val + 1) % 12 - 8 = (t.val % 12 - 8) + 1 := by omega
  refine ⟨fun _ => by rw [e2, ha], fun _ h => by omega, fun y hy => ?_, fun _ h => by omega, fun _ h => by omega, fun _ => by rw [e2], fun _ => ?_⟩
  · rw [e2]; exact hact y (by have : (y 1).val < 8192 := (y 1).isLt; omega)
  · rw [e2, e3]; show _ = k0_pay8 _ _ _ _
    rw [show pt (t.val / 12) (8 + (t.val % 12 - 8)) = t from (congrArg (pt (t.val / 12)) (by omega)).trans (pt_self t)]

end Cert.Kernel.Mlp

end
-- ==== Proof.MlpBits.Data.lean ====
module

public import proofs.«01_k».proof.Proof.MlpBits.RunA
public import proofs.«01_k».proof.Proof.MlpBits.RunB
public import proofs.«01_k».proof.Proof.MlpBits.RunC
public import proofs.«01_k».proof.Proof.MlpBits.RunD
public import proofs.«01_k».proof.Proof.MlpBits.RunE
public import proofs.«01_k».proof.Proof.MlpBits.Vals
public import Idealize.ShloMosaic.Lib.Claim

@[expose] public section

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers and the scratch -/

abbrev ms0 (t : Fin cfg0.N) : Memref sig .tc .vmem S512x2048 .i8 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .i8 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x1024 .i8 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x2048 .i8 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2048 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x2048 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x2048 .i8 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x4x128 .f32 := win0_11.stage (cfg0.slots t 11)
abbrev hs11 (t : Fin cfg0.N) : (ms11 t).IsWhole := hstage0_11 ((cfg0.slots t 11).cast nbuf0_11)
abbrev sc0 : Memref sig .tc .vmem S512x2048 .bf16 := Memref.whole cc0_scratch0
abbrev sc1 : Memref sig .tc .vmem S512x128 .f32 := Memref.whole cc0_scratch1
abbrev sc2 : Memref sig .tc .vmem S512x8192 .f32 := Memref.whole cc0_scratch2
abbrev sc3 : Memref sig .tc .vmem S512x128 .f32 := Memref.whole cc0_scratch3
abbrev sc4 : Memref sig .tc .vmem S512x2048 .f32 := Memref.whole cc0_scratch4

/-- The scratch and the generator register, as the launch hands them over. -/
theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The region's invariant before point `n`: the five scratch buffers at contents the points before made (`Inv`), and the generator register. -/
def Phi (c : Dev nD) (n : ℕ) : sProp 𝕄 :=
  iprop((∃ s0 s1 s2 s3 s4, ⌜Inv m c n s0 s1 s2 s3 s4⌝ ∗ owns (c : Thread nD τ) sc0 fullShare s0 ∗ owns (c : Thread nD τ) sc1 fullShare s1 ∗ owns (c : Thread nD τ) sc2 fullShare s2 ∗ owns (c : Thread nD τ) sc3 fullShare s3 ∗ owns (c : Thread nD τ) sc4 fullShare s4) ∗ (∃ r, prngReg c r))

/-! ## The conditions and the idle points, in closed form -/

/-- The first condition holds exactly at the first point of a tile. -/
theorem c1_iff : ∀ t : Fin grid0.N, cond1 (grid0.coords t) ↔ t.val % 12 = 0 := by decide +kernel
/-- The second condition holds exactly at the gate and up points, the first eight of a tile. -/
theorem c2_iff : ∀ t : Fin grid0.N, k0_cond2 (grid0.coords t) = 1#1 ↔ t.val % 12 < 8 := by decide +kernel
/-- The third condition holds exactly at point 8 of a tile. -/
theorem c3_iff : ∀ t : Fin grid0.N, k0_cond3 (grid0.coords t) = 1#1 ↔ t.val % 12 = 8 := by decide +kernel
/-- The fourth condition holds exactly at the down points, from 8 on. -/
theorem c4_iff : ∀ t : Fin grid0.N, k0_cond4 (grid0.coords t) = 1#1 ↔ 8 ≤ t.val % 12 := by decide +kernel
/-- The fifth condition holds exactly at a tile's last point, 11. -/
theorem c5_iff : ∀ t : Fin grid0.N, k0_cond5 (grid0.coords t) = 1#1 ↔ t.val % 12 = 11 := by decide +kernel

/-- The rows of the result are left alone except at a tile's last point. -/
theorem idle9 : ∀ t : Fin cfg0.N, cfg0.idle 9 (grid0.coords t) = decide (t.val % 12 ≠ 11) :=
  (by decide +kernel : ∀ t : Fin grid0.N, cfg0.idle 9 (grid0.coords t) = decide (t.val % 12 ≠ 11))
/-- The codes are left alone at the gate and up points. -/
theorem idle10 : ∀ t : Fin cfg0.N, cfg0.idle 10 (grid0.coords t) = decide (t.val % 12 < 8) :=
  (by decide +kernel : ∀ t : Fin grid0.N, cfg0.idle 10 (grid0.coords t) = decide (t.val % 12 < 8))
/-- The scales are left alone except at point 8. -/
theorem idle11 : ∀ t : Fin cfg0.N, cfg0.idle 11 (grid0.coords t) = decide (t.val % 12 ≠ 8) :=
  (by decide +kernel : ∀ t : Fin grid0.N, cfg0.idle 11 (grid0.coords t) = decide (t.val % 12 ≠ 8))
/-- The codes are not written back at a gate and up point. -/
theorem noflush10 : ∀ t : Fin cfg0.N, t.val % 12 < 8 → (cfg0.win 10).flush t = false :=
  (by decide +kernel : ∀ t : Fin grid0.N, t.val % 12 < 8 → (cfg0.win 10).flush t = false)
/-- The rows of the result are not written back before a tile's last point. -/
theorem noflush9 (t : Fin cfg0.N) (h : t.val % 12 ≠ 11) : (cfg0.win 9).flush t = false :=
  Bool.eq_false_iff.mpr fun hf => h ((flush0_9 t).mp hf)
/-- The scales are not written back before a tile's last point. -/
theorem noflush11 (t : Fin cfg0.N) (h : t.val % 12 ≠ 11) : (cfg0.win 11).flush t = false :=
  Bool.eq_false_iff.mpr fun hf => h ((flush0_11 t).mp hf)

/-! ## The proof data -/

/-- The arrays as the region finds them; after a point, each input's buffer at its block, the codes at the point's slice, the scales and the rows of the result at the tile's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outT m c (t.val / 12)
    | ⟨10, _⟩ => codesT m c (t.val / 12) (t.val % 12 - 8)
    | ⟨11, _⟩ => actsT m c (t.val / 12)
  Φ t := Phi m c t.val
  q _ := fullShare
  owed _ := 0

/-- The array each operand starts from is the one the host leaves. -/
theorem A_eq (c : Dev nD) (w : Fin cfg0.W) : (dats m 0 c).A w = V m c (Pipeline.arrRef spec0 w) := by
  dsimp only [dats]

/-- The invariant's position as a natural number. -/
theorem Phi_castSucc (c : Dev nD) (t : Fin cfg0.N) : (dats m 0 c).Φ t.castSucc = Phi m c t.val := by
  dsimp only [dats]; exact Pipeline.Dat.Φ_castSucc (fun n _ => Phi m c n) t

/-- The contents named for the window of argument 0 after a point: its block. -/
theorem after0 (c : Dev nD) (t : Fin cfg0.N) : (dats m 0 c).after 0 t = iblk m c 0 t := by dsimp only [dats]
/-- The contents named for the window of argument 1 after a point: its block. -/
theorem after1 (c : Dev nD) (t : Fin cfg0.N) : (dats m 0 c).after 1 t = iblk m c 1 t := by dsimp only [dats]
/-- The contents named for the window of argument 2 after a point: its block. -/
theorem after2 (c : Dev nD) (t : Fin cfg0.N) : (dats m 0 c).after 2 t = iblk m c 2 t := by dsimp only [dats]
/-- The contents named for the window of argument 3 after a point: its block. -/
theorem after3 (c : Dev nD) (t : Fin cfg0.N) : (dats m 0 c).after 3 t = iblk m c 3 t := by dsimp only [dats]
/-- The contents named for the window of argument 4 after a point: its block. -/
theorem after4 (c : Dev nD) (t : Fin cfg0.N) : (dats m 0 c).after 4 t = iblk m c 4 t := by dsimp only [dats]
/-- The contents named for the window of argument 5 after a point: its block. -/
theorem after5 (c : Dev nD) (t : Fin cfg0.N) : (dats m 0 c).after 5 t = iblk m c 5 t := by dsimp only [dats]
/-- The contents named for the window of argument 6 after a point: its block. -/
theorem after6 (c : Dev nD) (t : Fin cfg0.N) : (dats m 0 c).after 6 t = iblk m c 6 t := by dsimp only [dats]
/-- The contents named for the window of argument 7 after a point: its block. -/
theorem after7 (c : Dev nD) (t : Fin cfg0.N) : (dats m 0 c).after 7 t = iblk m c 7 t := by dsimp only [dats]
/-- The contents named for the window of argument 8 after a point: its block. -/
theorem after8 (c : Dev nD) (t : Fin cfg0.N) : (dats m 0 c).after 8 t = iblk m c 8 t := by dsimp only [dats]
/-- The contents named for the window of the result: the tile's rows. -/
theorem after9 (c : Dev nD) (t : Fin cfg0.N) : (dats m 0 c).after 9 t = outT m c (t.val / 12) := by dsimp only [dats]
/-- The contents named for the window of the codes: the point's slab. -/
theorem after10 (c : Dev nD) (t : Fin cfg0.N) : (dats m 0 c).after 10 t = codesT m c (t.val / 12) (t.val % 12 - 8) := by dsimp only [dats]
/-- The contents named for the window of the scales: the tile's scales. -/
theorem after11 (c : Dev nD) (t : Fin cfg0.N) : (dats m 0 c).after 11 t = actsT m c (t.val / 12) := by dsimp only [dats]

/-- Before a point, the window of argument 0 holds its block for that point. -/
theorem before0 (c : Dev nD) (t : Fin cfg0.N) (d) : (dats m 0 c).before 0 t d = iblk m c 0 t := before0_0_of m (dats m 0 c) (A_eq m c 0) (after0 m c) t d
/-- Before a point, the window of argument 1 holds its block for that point. -/
theorem before1 (c : Dev nD) (t : Fin cfg0.N) (d) : (dats m 0 c).before 1 t d = iblk m c 1 t := before0_1_of m (dats m 0 c) (A_eq m c 1) (after1 m c) t d
/-- Before a point, the window of argument 2 holds its block for that point. -/
theorem before2 (c : Dev nD) (t : Fin cfg0.N) (d) : (dats m 0 c).before 2 t d = iblk m c 2 t := before0_2_of m (dats m 0 c) (A_eq m c 2) (after2 m c) t d
/-- Before a point, the window of argument 3 holds its block for that point. -/
theorem before3 (c : Dev nD) (t : Fin cfg0.N) (d) : (dats m 0 c).before 3 t d = iblk m c 3 t := before0_3_of m (dats m 0 c) (A_eq m c 3) (after3 m c) t d
/-- Before a point, the window of argument 4 holds its block for that point. -/
theorem before4 (c : Dev nD) (t : Fin cfg0.N) (d) : (dats m 0 c).before 4 t d = iblk m c 4 t := before0_4_of m (dats m 0 c) (A_eq m c 4) (after4 m c) t d
/-- Before a point, the window of argument 5 holds its block for that point. -/
theorem before5 (c : Dev nD) (t : Fin cfg0.N) (d) : (dats m 0 c).before 5 t d = iblk m c 5 t := before0_5_of m (dats m 0 c) (A_eq m c 5) (after5 m c) t d
/-- Before a point, the window of argument 6 holds its block for that point. -/
theorem before6 (c : Dev nD) (t : Fin cfg0.N) (d) : (dats m 0 c).before 6 t d = iblk m c 6 t := before0_6_of m (dats m 0 c) (A_eq m c 6) (after6 m c) t d
/-- Before a point, the window of argument 7 holds its block for that point. -/
theorem before7 (c : Dev nD) (t : Fin cfg0.N) (d) : (dats m 0 c).before 7 t d = iblk m c 7 t := before0_7_of m (dats m 0 c) (A_eq m c 7) (after7 m c) t d
/-- Before a point, the window of argument 8 holds its block for that point. -/
theorem before8 (c : Dev nD) (t : Fin cfg0.N) (d) : (dats m 0 c).before 8 t d = iblk m c 8 t := before0_8_of m (dats m 0 c) (A_eq m c 8) (after8 m c) t d

/-- The scales' buffer holds the tile's scales from the point after the one that stores them to the tile's end. -/
theorem before11 (c : Dev nD) (t : Fin cfg0.N) (h : 9 ≤ t.val % 12) (d) : (dats m 0 c).before 11 t d = actsT m c (t.val / 12) := by
  have hN : ∀ t : Fin cfg0.N, t.val < 180 := fun t => lt_of_lt_of_eq t.isLt N_0
  have step : ∀ k : ℕ, ∀ t : Fin cfg0.N, t.val % 12 = 9 + k → ∀ d, (dats m 0 c).before 11 t d = actsT m c (t.val / 12) := by
    intro k
    induction k with
    | zero =>
      intro t ht d
      rw [(dats m 0 c).before_of_pos 11 t (by omega) rfl, noflush11 _ (by show (t.val - 1) % 12 ≠ 11; omega), if_neg Bool.false_ne_true]
      unfold Dat.left
      rw [show cfg0.grid.coords = grid0.coords from rfl, idle11, decide_eq_false (by show ¬ (t.val - 1) % 12 ≠ 8; omega)]
      show (dats m 0 c).after 11 _ = _
      rw [after11]
      exact congrArg (actsT m c) (by show (t.val - 1) / 12 = t.val / 12; omega)
    | succ k ih =>
      intro t ht d
      rw [(dats m 0 c).before_of_pos 11 t (by omega) rfl, noflush11 _ (by show (t.val - 1) % 12 ≠ 11; omega), if_neg Bool.false_ne_true]
      unfold Dat.left
      rw [show cfg0.grid.coords = grid0.coords from rfl, idle11, decide_eq_true (by show (t.val - 1) % 12 ≠ 8; omega)]
      show (dats m 0 c).before 11 _ _ = _
      rw [ih _ (by show (t.val - 1) % 12 = 9 + k; omega)]
      exact congrArg (actsT m c) (by show (t.val - 1) / 12 = t.val / 12; omega)
  exact step (t.val % 12 - 9) t (by omega) d

/-! ## What a point leaves in its windows -/

/-- After a point, the window of argument 0 still holds that block. -/
theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
/-- After a point, the window of argument 1 still holds that block. -/
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
/-- After a point, the window of argument 2 still holds that block. -/
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
/-- After a point, the window of argument 3 still holds that block. -/
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
/-- After a point, the window of argument 4 still holds that block. -/
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after4]
/-- After a point, the window of argument 5 still holds that block. -/
theorem leaves5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after5]
/-- After a point, the window of argument 6 still holds that block. -/
theorem leaves6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after6]
/-- After a point, the window of argument 7 still holds that block. -/
theorem leaves7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, after7]
/-- After a point, the window of argument 8 still holds that block. -/
theorem leaves8 (c : Dev nD) (t : Fin cfg0.N) : (dats m 0 c).leavesExact 8 t = owns (c : Thread nD τ) (ms8 t) fullShare (iblk m c 8 t) := by
  unfold Dat.leavesExact; rw [show cfg0.idle 8 (cfg0.grid.coords t) = false from rfl, after8]
/-- At a tile's last point the window of the result holds the tile's rows. -/
theorem leaves9_live (c : Dev nD) (t : Fin cfg0.N) (h : t.val % 12 = 11) : (dats m 0 c).leavesExact 9 t = owns (c : Thread nD τ) (ms9 t) fullShare (outT m c (t.val / 12)) := by
  unfold Dat.leavesExact; rw [show cfg0.idle 9 (cfg0.grid.coords t) = false from (idle9 t).trans (decide_eq_false (not_not.mpr h)), after9]
/-- At the other points it holds what it held before. -/
theorem leaves9_idle (c : Dev nD) (t : Fin cfg0.N) (h : t.val % 12 ≠ 11) : (dats m 0 c).leavesExact 9 t = iprop(∃ d, owns (c : Thread nD τ) (ms9 t) fullShare ((dats m 0 c).before 9 t d)) :=
  Dat.leavesExact_idle (dats m 0 c) 9 t ((idle9 t).trans (decide_eq_true h)) (noflush9 t h)
/-- At a down point the window of the codes holds the point's slab of codes. -/
theorem leaves10_live (c : Dev nD) (t : Fin cfg0.N) (h : 8 ≤ t.val % 12) : (dats m 0 c).leavesExact 10 t = owns (c : Thread nD τ) (ms10 t) fullShare (codesT m c (t.val / 12) (t.val % 12 - 8)) := by
  unfold Dat.leavesExact; rw [show cfg0.idle 10 (cfg0.grid.coords t) = false from (idle10 t).trans (decide_eq_false (Nat.not_lt.mpr h)), after10]
/-- At a gate and up point it holds what it held before. -/
theorem leaves10_idle (c : Dev nD) (t : Fin cfg0.N) (h : t.val % 12 < 8) : (dats m 0 c).leavesExact 10 t = iprop(∃ d, owns (c : Thread nD τ) (ms10 t) fullShare ((dats m 0 c).before 10 t d)) :=
  Dat.leavesExact_idle (dats m 0 c) 10 t ((idle10 t).trans (decide_eq_true h)) (noflush10 t h)
/-- At point 8 the window of the scales holds the tile's scales. -/
theorem leaves11_live (c : Dev nD) (t : Fin cfg0.N) (h : t.val % 12 = 8) : (dats m 0 c).leavesExact 11 t = owns (c : Thread nD τ) (ms11 t) fullShare (actsT m c (t.val / 12)) := by
  unfold Dat.leavesExact; rw [show cfg0.idle 11 (cfg0.grid.coords t) = false from (idle11 t).trans (decide_eq_false (not_not.mpr h)), after11]
/-- At the points that neither store nor write back it holds what it held before. -/
theorem leaves11_idle (c : Dev nD) (t : Fin cfg0.N) (h : t.val % 12 ≠ 8) (h' : t.val % 12 ≠ 11) : (dats m 0 c).leavesExact 11 t = iprop(∃ d, owns (c : Thread nD τ) (ms11 t) fullShare ((dats m 0 c).before 11 t d)) :=
  Dat.leavesExact_idle (dats m 0 c) 11 t ((idle11 t).trans (decide_eq_true h)) (noflush11 t h')
/-- At a tile's last point it still holds the tile's scales. -/
theorem leaves11_last (c : Dev nD) (t : Fin cfg0.N) (h : t.val % 12 = 11) : (dats m 0 c).leavesExact 11 t = owns (c : Thread nD τ) (ms11 t) fullShare (actsT m c (t.val / 12)) := by
  unfold Dat.leavesExact; rw [show cfg0.idle 11 (cfg0.grid.coords t) = true from (idle11 t).trans (decide_eq_true (by omega)), (flush0_11 t).mpr h, after11]

/-! ## The body obligation -/

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))
/-- What the body leaves after a point: the invariant at the next point and every window's contents. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- Case A of the body, at a point. -/
theorem body_A (c : Dev nD) (t : Fin cfg0.N) (hj : t.val % 12 = 0) :
    bodyPre m c t ⊢ wp frame (wpE (defs₀ (F := F)) Variants.none c none) Set.univ (bodyAt0 t) (fun _ => bodyPost m c t) := by
  have hN : t.val < 180 := lt_of_lt_of_eq t.isLt N_0
  unfold bodyPre bodyPost bodyAt0
  simp only [before0, before1, before2, before3, before4, before5, before6, before7, before8]
  rw [show (dats m 0 c).owesAt () t.succ = (dats m 0 c).owesAt () t.castSucc from rfl, Phi_castSucc,
    show (dats m 0 c).Φ t.succ = Phi m c (t.val + 1) from rfl, leaves0, leaves1, leaves2, leaves3, leaves4, leaves5, leaves6, leaves7, leaves8, leaves9_idle m c t (by omega), leaves10_idle m c t (by omega), leaves11_idle m c t (by omega) (by omega)]
  unfold Phi
  iintro ⟨⟨⟨%s0, %s1, %s2, %s3, %s4, %hinv, S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) ((c1_iff t).mpr (by omega)) ((c2_iff t).mpr (by omega)) (fun h => by have := (c3_iff t).mp h; omega) (fun h => by have := (c4_iff t).mp h; omega) (fun h => by have := (c5_iff t).mp h; omega) (iblk m c 0 t) (iblk m c 1 t) (iblk m c 2 t) (iblk m c 3 t) (iblk m c 4 t) (iblk m c 5 t) (iblk m c 6 t) (iblk m c 7 t) (iblk m c 8 t) _ _ _ s0 s1 s2 s3 s4 Set.univ _)
  unfold held
  isplitl [H0 H1 H2 H3 H4 H5 H6 H7 H8 H9 H10 H11 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    iexact S4
  iintro ⟨H0, H1, H2, H3, H4, H5, H6, H7, H8, H9, H10, H11, S0, S1, S2, S3, S4⟩
  isplitl [S0 S1 S2 S3 S4 Hg]
  · isplitl [S0 S1 S2 S3 S4]
    · iexists _; iexists _; iexists _; iexists _; iexists _
      isplitr; swap
      · isplitl [S0]; · iexact S0
        isplitl [S1]; · iexact S1
        isplitl [S2]; · iexact S2
        isplitl [S3]; · iexact S3
        iexact S4
      ipureintro; exact inv_A m c t hj s2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; iexact H9
  isplitl [H10]
  · iexists _; iexact H10
  iexists _; iexact H11

set_option maxHeartbeats 4000000 in
/-- Case B of the body, at a point. -/
theorem body_B (c : Dev nD) (t : Fin cfg0.N) (hj : 1 ≤ t.val % 12) (hj' : t.val % 12 < 8) :
    bodyPre m c t ⊢ wp frame (wpE (defs₀ (F := F)) Variants.none c none) Set.univ (bodyAt0 t) (fun _ => bodyPost m c t) := by
  have hN : t.val < 180 := lt_of_lt_of_eq t.isLt N_0
  unfold bodyPre bodyPost bodyAt0
  simp only [before0, before1, before2, before3, before4, before5, before6, before7, before8]
  rw [show (dats m 0 c).owesAt () t.succ = (dats m 0 c).owesAt () t.castSucc from rfl, Phi_castSucc,
    show (dats m 0 c).Φ t.succ = Phi m c (t.val + 1) from rfl, leaves0, leaves1, leaves2, leaves3, leaves4, leaves5, leaves6, leaves7, leaves8, leaves9_idle m c t (by omega), leaves10_idle m c t (by omega), leaves11_idle m c t (by omega) (by omega)]
  unfold Phi
  iintro ⟨⟨⟨%s0, %s1, %s2, %s3, %s4, %hinv, S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hnext := inv_B m c t hj hj' hinv
  iapply (run_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (fun h => by have := (c1_iff t).mp h; omega) ((c2_iff t).mpr (by omega)) (fun h => by have := (c3_iff t).mp h; omega) (fun h => by have := (c4_iff t).mp h; omega) (fun h => by have := (c5_iff t).mp h; omega) (iblk m c 0 t) (iblk m c 1 t) (iblk m c 2 t) (iblk m c 3 t) (iblk m c 4 t) (iblk m c 5 t) (iblk m c 6 t) (iblk m c 7 t) (iblk m c 8 t) _ _ _ s0 s1 s2 s3 s4 Set.univ _)
  unfold held
  isplitl [H0 H1 H2 H3 H4 H5 H6 H7 H8 H9 H10 H11 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    iexact S4
  iintro ⟨H0, H1, H2, H3, H4, H5, H6, H7, H8, H9, H10, H11, S0, S1, S2, S3, S4⟩
  isplitl [S0 S1 S2 S3 S4 Hg]
  · isplitl [S0 S1 S2 S3 S4]
    · iexists _; iexists _; iexists _; iexists _; iexists _
      isplitr; swap
      · isplitl [S0]; · iexact S0
        isplitl [S1]; · iexact S1
        isplitl [S2]; · iexact S2
        isplitl [S3]; · iexact S3
        iexact S4
      ipureintro; exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; iexact H9
  isplitl [H10]
  · iexists _; iexact H10
  iexists _; iexact H11

set_option maxHeartbeats 4000000 in
/-- Case C of the body, at a point. -/
theorem body_C (c : Dev nD) (t : Fin cfg0.N) (hj : t.val % 12 = 8) :
    bodyPre m c t ⊢ wp frame (wpE (defs₀ (F := F)) Variants.none c none) Set.univ (bodyAt0 t) (fun _ => bodyPost m c t) := by
  have hN : t.val < 180 := lt_of_lt_of_eq t.isLt N_0
  unfold bodyPre bodyPost bodyAt0
  simp only [before0, before1, before2, before3, before4, before5, before6, before7, before8]
  rw [show (dats m 0 c).owesAt () t.succ = (dats m 0 c).owesAt () t.castSucc from rfl, Phi_castSucc,
    show (dats m 0 c).Φ t.succ = Phi m c (t.val + 1) from rfl, leaves0, leaves1, leaves2, leaves3, leaves4, leaves5, leaves6, leaves7, leaves8, leaves9_idle m c t (by omega), leaves10_live m c t (by omega), leaves11_live m c t (by omega)]
  unfold Phi
  iintro ⟨⟨⟨%s0, %s1, %s2, %s3, %s4, %hinv, S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hc4 := (c4_iff t).mpr (by omega)
  have hslab := slab_eq m c t (by omega) hc4 s2 hinv.act
  have hmx : s3 = amaxT m c (t.val / 12) 8 := (hinv.mx (by omega) (by omega)).trans (by rw [hj])
  have hcol : k0_pay22 s3 = colT m c (t.val / 12) := by rw [hmx]; rfl
  have hz : s4 = accT m c (t.val / 12) (t.val % 12 - 8) := (hinv.z (by omega) (by omega)).trans (by rw [hj]; rfl)
  have hnext := inv_down m c t (by omega) s3 (hinv.a (by omega)) hinv.act
  iapply (run_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (fun h => by have := (c1_iff t).mp h; omega) (fun h => by have := (c2_iff t).mp h; omega) ((c3_iff t).mpr (by omega)) ((c4_iff t).mpr (by omega)) (fun h => by have := (c5_iff t).mp h; omega) (iblk m c 0 t) (iblk m c 1 t) (iblk m c 2 t) (iblk m c 3 t) (iblk m c 4 t) (iblk m c 5 t) (iblk m c 6 t) (iblk m c 7 t) (iblk m c 8 t) _ _ _ s0 s1 s2 s3 s4 Set.univ _)
  unfold held
  isplitl [H0 H1 H2 H3 H4 H5 H6 H7 H8 H9 H10 H11 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    iexact S4
  iintro ⟨H0, H1, H2, H3, H4, H5, H6, H7, H8, H9, H10, H11, S0, S1, S2, S3, S4⟩
  isplitl [S0 S1 S2 S3 S4 Hg]
  · isplitl [S0 S1 S2 S3 S4]
    · iexists _; iexists _; iexists _; iexists _; iexists _
      isplitr; swap
      · isplitl [S0]; · iexact S0
        isplitl [S1]; · iexact S1
        isplitl [S2]; · iexact S2
        isplitl [S3]; · iexact S3
        iexact S4
      ipureintro; rw [hslab, hcol, hz]; exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; iexact H9
  isplitl [H10]
  · rw [hslab, hcol]; unfold codesT; iexact H10
  rw [actsBlk_any _ (fun _ => Scalar.ofBits .f32 0x00000000#32), hmx]; unfold actsT; iexact H11

set_option maxHeartbeats 4000000 in
/-- Case D of the body, at a point. -/
theorem body_D (c : Dev nD) (t : Fin cfg0.N) (hj : 9 ≤ t.val % 12) (hj' : t.val % 12 ≠ 11) :
    bodyPre m c t ⊢ wp frame (wpE (defs₀ (F := F)) Variants.none c none) Set.univ (bodyAt0 t) (fun _ => bodyPost m c t) := by
  have hN : t.val < 180 := lt_of_lt_of_eq t.isLt N_0
  unfold bodyPre bodyPost bodyAt0
  simp only [before0, before1, before2, before3, before4, before5, before6, before7, before8]
  rw [show (dats m 0 c).owesAt () t.succ = (dats m 0 c).owesAt () t.castSucc from rfl, Phi_castSucc,
    show (dats m 0 c).Φ t.succ = Phi m c (t.val + 1) from rfl, leaves0, leaves1, leaves2, leaves3, leaves4, leaves5, leaves6, leaves7, leaves8, leaves9_idle m c t (by omega), leaves10_live m c t (by omega), leaves11_idle m c t (by omega) (by omega)]
  unfold Phi
  iintro ⟨⟨⟨%s0, %s1, %s2, %s3, %s4, %hinv, S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hc4 := (c4_iff t).mpr (by omega)
  have hslab := slab_eq m c t (by omega) hc4 s2 hinv.act
  have hcol := hinv.col (by omega)
  have hz := hinv.acc (by omega)
  have hnext := inv_down m c t (by omega) s3 (hinv.a (by omega)) hinv.act
  iapply (run_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (fun h => by have := (c1_iff t).mp h; omega) (fun h => by have := (c2_iff t).mp h; omega) (fun h => by have := (c3_iff t).mp h; omega) ((c4_iff t).mpr (by omega)) (fun h => by have := (c5_iff t).mp h; omega) (iblk m c 0 t) (iblk m c 1 t) (iblk m c 2 t) (iblk m c 3 t) (iblk m c 4 t) (iblk m c 5 t) (iblk m c 6 t) (iblk m c 7 t) (iblk m c 8 t) _ _ _ s0 s1 s2 s3 s4 Set.univ _)
  unfold held
  isplitl [H0 H1 H2 H3 H4 H5 H6 H7 H8 H9 H10 H11 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    iexact S4
  iintro ⟨H0, H1, H2, H3, H4, H5, H6, H7, H8, H9, H10, H11, S0, S1, S2, S3, S4⟩
  isplitl [S0 S1 S2 S3 S4 Hg]
  · isplitl [S0 S1 S2 S3 S4]
    · iexists _; iexists _; iexists _; iexists _; iexists _
      isplitr; swap
      · isplitl [S0]; · iexact S0
        isplitl [S1]; · iexact S1
        isplitl [S2]; · iexact S2
        isplitl [S3]; · iexact S3
        iexact S4
      ipureintro; rw [hslab, hcol, hz]; exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; iexact H9
  isplitl [H10]
  · rw [hslab, hcol]; unfold codesT; iexact H10
  iexists _; iexact H11

set_option maxHeartbeats 4000000 in
/-- Case E of the body, at a point. -/
theorem body_E (c : Dev nD) (t : Fin cfg0.N) (hj : t.val % 12 = 11) :
    bodyPre m c t ⊢ wp frame (wpE (defs₀ (F := F)) Variants.none c none) Set.univ (bodyAt0 t) (fun _ => bodyPost m c t) := by
  have hN : t.val < 180 := lt_of_lt_of_eq t.isLt N_0
  unfold bodyPre bodyPost bodyAt0
  simp only [before0, before1, before2, before3, before4, before5, before6, before7, before8]
  rw [show (dats m 0 c).owesAt () t.succ = (dats m 0 c).owesAt () t.castSucc from rfl, Phi_castSucc,
    show (dats m 0 c).Φ t.succ = Phi m c (t.val + 1) from rfl, leaves0, leaves1, leaves2, leaves3, leaves4, leaves5, leaves6, leaves7, leaves8, leaves9_live m c t (by omega), leaves10_live m c t (by omega), leaves11_last m c t (by omega)]
  unfold Phi
  iintro ⟨⟨⟨%s0, %s1, %s2, %s3, %s4, %hinv, S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hc4 := (c4_iff t).mpr (by omega)
  have hslab := slab_eq m c t (by omega) hc4 s2 hinv.act
  have hcol := hinv.col (by omega)
  have hz := hinv.acc (by omega)
  have hnext := inv_down m c t (by omega) s3 (hinv.a (by omega)) hinv.act
  have hp11 : pt (t.val / 12) 11 = t := (congrArg (pt (t.val / 12)) hj.symm).trans (pt_self t)
  have hX2 : iblk m c 2 t = X2 m c (pt (t.val / 12) 11) := by rw [hp11]
  have hX8 : iblk m c 8 t = X8 m c (pt (t.val / 12) 11) := by rw [hp11]
  have h3 : accT m c (t.val / 12) 4 = k0_pay8 (lane0 (colT m c (t.val / 12))) (slabT m c (t.val / 12) (t.val % 12 - 8)) (accT m c (t.val / 12) (t.val % 12 - 8)) (iblk m c 7 t) := by
    rw [show iblk m c 7 t = X7 m c (pt (t.val / 12) (8 + 3)) from by rw [show pt (t.val / 12) (8 + 3) = t from hp11], hj]; rfl
  iapply (run_E c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (fun h => by have := (c1_iff t).mp h; omega) (fun h => by have := (c2_iff t).mp h; omega) (fun h => by have := (c3_iff t).mp h; omega) ((c4_iff t).mpr (by omega)) ((c5_iff t).mpr (by omega)) (iblk m c 0 t) (iblk m c 1 t) (iblk m c 2 t) (iblk m c 3 t) (iblk m c 4 t) (iblk m c 5 t) (iblk m c 6 t) (iblk m c 7 t) (iblk m c 8 t) _ _ _ s0 s1 s2 s3 s4 Set.univ _)
  unfold held
  isplitl [H0 H1 H2 H3 H4 H5 H6 H7 H8 H9 H10 H11 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    iexact S4
  iintro ⟨H0, H1, H2, H3, H4, H5, H6, H7, H8, H9, H10, H11, S0, S1, S2, S3, S4⟩
  isplitl [S0 S1 S2 S3 S4 Hg]
  · isplitl [S0 S1 S2 S3 S4]
    · iexists _; iexists _; iexists _; iexists _; iexists _
      isplitr; swap
      · isplitl [S0]; · iexact S0
        isplitl [S1]; · iexact S1
        isplitl [S2]; · iexact S2
        isplitl [S3]; · iexact S3
        iexact S4
      ipureintro; rw [hslab, hcol, hz]; exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · rw [hslab, hcol, hz, ← h3, hX2, hX8]; unfold outT; iexact H9
  isplitl [H10]
  · rw [hslab, hcol]; unfold codesT; iexact H10
  rw [before11 m c t (by omega)]; iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact body_A m c t h0
  by_cases h1 : t.val % 12 < 8
  · exact body_B m c t (by omega) h1
  by_cases h2 : t.val % 12 = 8
  · exact body_C m c t h2
  by_cases h3 : t.val % 12 = 11
  · exact body_E m c t h3
  exact body_D m c t (by omega) h3

/-- What the grid runs at a point is the body at that point. -/
theorem defs₀_row (t : Fin cfg0.N) :
    defs₀ (F := F) .tc cfg0.body (cfg0.bodyArgs t (cfg0.slots t)) = bodyAt0 t := by
  unfold defs₀; rw [Defs.onTc_tc]

/-- The body keeps the invariant and the window contents at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨⟨%s0, S0⟩, ⟨%s1, S1⟩, ⟨%s2, S2⟩, ⟨%s3, S3⟩, ⟨%s4, S4⟩⟩, Hg⟩
  isplitl [S0 S1 S2 S3 S4]
  · iexists _; iexists _; iexists _; iexists _; iexists _
    isplitr; swap
    · isplitl [S0]; · iexact S0
      isplitl [S1]; · iexact S1
      isplitl [S2]; · iexact S2
      isplitl [S3]; · iexact S3
      iexact S4
    ipureintro; exact inv_tile m c (Nat.zero_mod _) _ _ _ _ _
  iexact Hg

/-- After the last point the invariant gives the scratch back. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%s0, %s1, %s2, %s3, %s4, %hinv, S0, S1, S2, S3, S4⟩, Hg⟩
  isplitl [S0 S1 S2 S3 S4]
  · isplitl [S0]
    · iexists _; iexact S0
    isplitl [S1]
    · iexists _; iexact S1
    isplitl [S2]
    · iexists _; iexact S2
    isplitl [S3]
    · iexists _; iexact S3
    iexists _; iexact S4
  iexact Hg

/-! ## The run and the frame -/

set_option backward.isDefEq.respectTransparency.types false in
/-- Every weakly fair execution ends, with every array of the pipeline at what the proof data computes and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to completion and ends with the arrays that the pipeline's data names. -/
theorem run_main : θ_run defs (onTc (τ := τ) (main (F := F))) (s₀ m ρ) (Pipeline.FramePost cfgs (dats m) 0 (V m)) :=
  (θ_run defs _ _).mono (fun _ h => h.1) (run_main_quiescent m ρ)

/-- The frame: from any memory every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (frame_of m ρ (dats m) (A_eq m) (run_main m ρ)) ((θ_run defs _ _).mono (fun _ h => h.2) (run_main_quiescent m ρ))

end Cert.Kernel.Mlp

end
-- ==== Proof.Mlp.Spec.lean ====
/-
  The mathematics of the call, on the extended reals: two integer projections of a row of codes, the gated activation, the row's
  symmetric 8-bit quantisation, and the projection of its codes added to the residual.
-/
module

public import proofs.«01_k».proof.KernelIdeal
public import Idealize.ShloMosaic.PureOps.Ideal
public import Idealize.ShloMosaic.Lib.Pipeline.ValueKit

@[expose] public section

noncomputable section

namespace Cert.Mlp

open Idealize.ShloMosaic
open Cert.KernelIdeal (S7680x2048 S7680 S2048x8192 S8192 S8192x2048 S2048 S7680x8192 S15x4x128)

/-- A stored 8-bit integer as an extended real. -/
def i8 (b : BitVec 8) : EReal := ((b.toInt : ℝ) : EReal)

/-- A row of codes against a column of weights, times the row's and the column's scale. -/
def proj (x w : Fin 2048 → EReal) (l s : EReal) : EReal := (∑ q, x q * w q) * (l * s)

/-- The gated activation. -/
def swiglu (g u : EReal) : EReal := g * Ideal.logistic g * u

/-- The greatest absolute value of a family. -/
def rowMax {n : ℕ} (v : Fin n → EReal) : EReal := Finset.univ.fold max ⊥ fun k => max (v k) (-(v k))

/-- The quantiser's scale for a row whose greatest absolute value is `a`. -/
def scale (a : EReal) : EReal := if a = 0 then 1 else Ideal.div a ((127 : ℝ) : EReal)

/-- The quantiser's code of `v` at scale `s`: rounded to the nearest even, clipped to ±127. -/
def code (v s : EReal) : BitVec 8 := Ideal.fptosi 8 (min ((127 : ℝ) : EReal) (max ((-127 : ℝ) : EReal) (Ideal.liftRound Ideal.roundHalfEven (Ideal.div v s))))

variable (A0 : Vec Ideal S7680x2048 .i8) (A1 : Vec Ideal S7680 .f32) (A2 : Vec Ideal S7680x2048 .f32) (A3 : Vec Ideal S2048x8192 .i8) (A4 : Vec Ideal S8192 .f32)
  (A5 : Vec Ideal S2048x8192 .i8) (A6 : Vec Ideal S8192 .f32) (A7 : Vec Ideal S8192x2048 .i8) (A8 : Vec Ideal S2048 .f32)

/-- The activations, from the codes `A0`, their scales `A1`, and the two quantised weights. -/
def act (r : Fin 7680) (k : Fin 8192) : EReal :=
  swiglu (proj (fun q => i8 (A0 (ix2 r q))) (fun q => i8 (A3 (ix2 q k))) (A1 (ix1 r)) (A4 (ix1 k)))
    (proj (fun q => i8 (A0 (ix2 r q))) (fun q => i8 (A5 (ix2 q k))) (A1 (ix1 r)) (A6 (ix1 k)))

/-- A row's activation scale. -/
def rowScale (r : Fin 7680) : EReal := scale (rowMax (act A0 A1 A3 A4 A5 A6 r))

/-- The activations' codes. -/
def codes : Vec Ideal S7680x8192 .i8 := fun i => code (act A0 A1 A3 A4 A5 A6 (i 0) (i 1)) (rowScale A0 A1 A3 A4 A5 A6 (i 0))

/-- The activations' scales, in rows of 128 lanes, four rows a tile. -/
def scales : Vec Ideal S15x4x128 .f32 := fun i => rowScale A0 A1 A3 A4 A5 A6 ⟨512 * (i 0).val + 128 * (i 1).val + (i 2).val, by
  have h0 : (i 0).val < 15 := (i 0).isLt
  have h1 : (i 1).val < 4 := (i 1).isLt
  have h2 : (i 2).val < 128 := (i 2).isLt
  omega⟩

/-- The result: the residual `A2` and the codes' projection. -/
def out : Vec Ideal S7680x2048 .bf16 := fun i =>
  A2 i + (∑ k : Fin 8192, i8 (codes A0 A1 A3 A4 A5 A6 (ix2 (i 0) k)) * i8 (A7 (ix2 k (i 1)))) * (rowScale A0 A1 A3 A4 A5 A6 (i 0) * A8 (ix1 (i 1)))

/-! ## Facts of the extended reals that both sides use -/

/-- No absolute value is negative. -/
theorem abs_nonneg' (x : EReal) : 0 ≤ max x (-x) := by
  rcases le_total 0 x with h | h
  · exact le_max_of_le_left h
  · exact le_max_of_le_right (EReal.neg_nonneg.mpr h)

/-- A row's greatest absolute value is below a bound when every absolute value is. -/
theorem rowMax_le {n : ℕ} (v : Fin n → EReal) (b : EReal) : rowMax v ≤ b ↔ ∀ k, max (v k) (-(v k)) ≤ b := by
  unfold rowMax
  rw [Finset.fold_max_le]
  exact ⟨fun h k => h.2 k (Finset.mem_univ k), fun h => ⟨bot_le, fun k _ => h k⟩⟩

/-- Dividing by 127 is multiplying by its reciprocal. -/
theorem div127 (a : EReal) : a * ((1 / 127 : ℝ) : EReal) = Ideal.div a ((127 : ℝ) : EReal) :=
  (Ideal.div_coe (y := 127) (by norm_num) a).symm

/-- The pattern of 127. -/
theorem ofBits_127 : Ideal.ofBits .f32 0x42FE0000#32 = ((127 : ℝ) : EReal) := by
  simp [Ideal.ofBits, Ideal.ieee, -EReal.coe_mul]; norm_num

/-- The pattern of −∞. -/
theorem ofBits_bot : Ideal.ofBits .f32 0xFF800000#32 = (⊥ : EReal) := by
  simp [Ideal.ofBits, Ideal.ieee]

end Cert.Mlp

end
-- ==== Proof.Mlp.Point.lean ====
/-
  The body's payloads read at one index, on the extended reals.
-/
module

public import proofs.«01_k».proof.Proof.Mlp.Step
public import proofs.«01_k».proof.Proof.Mlp.Spec
public import Idealize.ShloMosaic.PureOps.IdealRules

@[expose] public section

set_option maxRecDepth 16384

noncomputable section

namespace Cert.KernelIdeal.Mlp

open Cert.KernelIdeal Cert.KernelIdeal.Gen Cert.Mlp
open Idealize.ShloMosaic Idealize.ShloMosaic.TcCoe
open Idealize.ShloMosaic.VecWindow (window put)

/-- The named constant is 1/127. -/
theorem inv127 : Named.named (F := Ideal) κ "inv127" (φ := .f32) 0x3C010204#32 = ((1 / 127 : ℝ) : EReal) :=
  IdealRules.named_const.ideal_named_scalar _ _ _ _ rfl

/-- The activations of a block. -/
theorem pay16_at (a : Vec Ideal S512x2048 .bf16) (l : Vec Ideal S512x1 .f32) (x3 : Vec Ideal S2048x512 .i8) (x4 : Vec Ideal S1x512 .f32) (x5 : Vec Ideal S2048x512 .i8) (x6 : Vec Ideal S1x512 .f32)
    (r : Fin 512) (k : Fin 512) : k0_pay16 a l x3 x4 x5 x6 (ix2 r k)
      = swiglu (proj (fun q => a (ix2 r q)) (fun q => i8 (x3 (ix2 q k))) (l (ix2 r 0)) (x4 (ix2 0 k))) (proj (fun q => a (ix2 r q)) (fun q => i8 (x5 (ix2 q k))) (l (ix2 r 0)) (x6 (ix2 0 k))) := by
  unfold k0_pay16 swiglu proj Ideal.logistic
  pointwise
  rw [zero_sub]
  rfl

/-- The same expression, for the other half or the stored value. -/
theorem pay17_eq (a : Vec Ideal S512x2048 .bf16) (l : Vec Ideal S512x1 .f32) (x3 : Vec Ideal S2048x512 .i8) (x4 : Vec Ideal S1x512 .f32) (x5 : Vec Ideal S2048x512 .i8) (x6 : Vec Ideal S1x512 .f32) :
    k0_pay17 a l x3 x4 x5 x6 = k0_pay16 a l x3 x4 x5 x6 := shapeCast_self _ _
/-- The same expression, for the other half or the stored value. -/
theorem pay19_eq (a : Vec Ideal S512x2048 .bf16) (l : Vec Ideal S512x1 .f32) (x3 : Vec Ideal S2048x512 .i8) (x4 : Vec Ideal S1x512 .f32) (x5 : Vec Ideal S2048x512 .i8) (x6 : Vec Ideal S1x512 .f32) :
    k0_pay19 a l x3 x4 x5 x6 = k0_pay16 a l x3 x4 x5 x6 := rfl
/-- The same expression, for the other half or the stored value. -/
theorem pay20_eq (a : Vec Ideal S512x2048 .bf16) (l : Vec Ideal S512x1 .f32) (x3 : Vec Ideal S2048x512 .i8) (x4 : Vec Ideal S1x512 .f32) (x5 : Vec Ideal S2048x512 .i8) (x6 : Vec Ideal S1x512 .f32) :
    k0_pay20 a l x3 x4 x5 x6 = k0_pay16 a l x3 x4 x5 x6 := shapeCast_self _ _

/-- A tile's codes. -/
theorem pay10_at (x : Vec Ideal S512x2048 .i8) (r : Fin 512) (q : Fin 2048) : k0_pay10 x (ix2 r q) = i8 (x (ix2 r q)) := by
  unfold k0_pay10
  pointwise
  rfl

/-- One block's contribution to the running maxima. -/
theorem pay4_le (x : Vec Ideal S512x128 .f32) (v : Vec Ideal S512x512 .f32) (r : Fin 512) (k : Fin 128) (b : EReal) :
    (k0_pay4 (F := Ideal) x v (ix2 r k) : EReal) ≤ b ↔ (x (ix2 r k) : EReal) ≤ b ∧ ∀ e : Fin 512, e.val % 128 = k.val → max (v (ix2 r e) : EReal) (-(v (ix2 r e) : EReal)) ≤ b := by
  unfold k0_pay4
  pointwise
  rw [max_le_iff, max_le_iff, max_le_iff, max_le_iff]
  constructor
  · rintro ⟨⟨⟨⟨h, h0⟩, h1⟩, h2⟩, h3⟩
    refine ⟨h, fun e he => ?_⟩
    have hq : e.val = k.val ∨ e.val = 128 + k.val ∨ e.val = 256 + k.val ∨ e.val = 384 + k.val := by omega
    rcases hq with hq | hq | hq | hq
    · rw [show e = ⟨k.val, by omega⟩ from Fin.ext hq]; exact h0
    · rw [show e = ⟨128 + k.val, by omega⟩ from Fin.ext hq]; exact h1
    · rw [show e = ⟨256 + k.val, by omega⟩ from Fin.ext hq]; exact h2
    · rw [show e = ⟨384 + k.val, by omega⟩ from Fin.ext hq]; exact h3
  · rintro ⟨h, hv⟩
    exact ⟨⟨⟨⟨h, hv ⟨k.val, by omega⟩ (by show k.val % 128 = k.val; omega)⟩, hv ⟨128 + k.val, by omega⟩ (by show (128 + k.val) % 128 = k.val; omega)⟩,
      hv ⟨256 + k.val, by omega⟩ (by show (256 + k.val) % 128 = k.val; omega)⟩, hv ⟨384 + k.val, by omega⟩ (by show (384 + k.val) % 128 = k.val; omega)⟩
/-- The running maximum as it is kept and as it is stored are the same. -/
theorem pay18_eq (x : Vec Ideal S512x128 .f32) (v : Vec Ideal S512x512 .f32) : k0_pay18 x v = k0_pay4 x v := by
  unfold k0_pay4
  exact (shapeCast_self _ _).symm

/-- The tile's scales, from the running maxima. -/
theorem pay21_at (x : Vec Ideal S512x128 .f32) (r : Fin 512) : k0_pay21 x (ix2 r 0) = scale (Finset.univ.fold max ⊥ fun j : Fin 128 => x (ix2 r j)) := by
  unfold k0_pay21 scale
  pointwise
  rw [ofBits_bot, inv127, div127]
/-- The scale, repeated along the lanes. -/
theorem pay22_at (x : Vec Ideal S512x128 .f32) (r : Fin 512) (j : Fin 128) : k0_pay22 x (ix2 r j) = scale (Finset.univ.fold max ⊥ fun j : Fin 128 => x (ix2 r j)) := by
  rw [← pay21_at]
  unfold k0_pay22
  pointwise

/-- The codes of a slice. -/
theorem pay7_at (l : Vec Ideal S512x1 .f32) (v : Vec Ideal S512x2048 .f32) (r : Fin 512) (k : Fin 2048) : k0_pay7 l v (ix2 r k) = code (v (ix2 r k)) (l (ix2 r 0)) := by
  unfold k0_pay7 code
  pointwise
  rw [show (127#32 : BitVec 32).toInt = 127 from by decide, show (4294967169#32 : BitVec 32).toInt = -127 from by decide]
  norm_num
  rfl

/-- A slice's contribution to the down projection. -/
theorem pay8_at (l : Vec Ideal S512x1 .f32) (v : Vec Ideal S512x2048 .f32) (acc : Vec Ideal S512x2048 .f32) (w : Vec Ideal S2048x2048 .i8) (r : Fin 512) (d : Fin 2048) :
    k0_pay8 l v acc w (ix2 r d) = acc (ix2 r d) + ∑ k : Fin 2048, i8 (code (v (ix2 r k)) (l (ix2 r 0))) * i8 (w (ix2 k d)) := by
  simp only [← pay7_at]
  unfold k0_pay8
  pointwise
  rfl

/-- The result's tile. -/
theorem pay9_at (h : Vec Ideal S512x2048 .f32) (acc : Vec Ideal S512x2048 .f32) (l : Vec Ideal S512x1 .f32) (s : Vec Ideal S1x2048 .f32) (r : Fin 512) (d : Fin 2048) :
    k0_pay9 h acc l s (ix2 r d) = h (ix2 r d) + acc (ix2 r d) * (l (ix2 r 0) * s (ix2 0 d)) := by
  unfold k0_pay9
  pointwise

/-- The initial block of zeros, at an index. -/
theorem pay2_at (i) : k0_pay2 (F := Ideal) i = 0 := by
  unfold k0_pay2
  pointwise
/-- The other initial block of zeros, at an index. -/
theorem pay3_at (i) : k0_pay3 (F := Ideal) i = 0 := by
  unfold k0_pay3
  pointwise

/-! ## Rows laid out as lanes, and back -/

/-- Two numbers below 128 are equal when their words are. -/
theorem select_words (a b : ℕ) (ha : a < 128) (hb : b < 128) (x y : EReal) :
    Scalar.select (IntOp.cmpi .eq (BitVec.ofNat 32 a) (BitVec.ofNat 32 b)) x y = if a = b then x else y := by
  have hw : BitVec.ofNat 32 a = BitVec.ofNat 32 b ↔ a = b := by
    rw [← BitVec.toNat_inj, BitVec.toNat_ofNat, BitVec.toNat_ofNat]
    omega
  by_cases h : a = b
  · subst h
    simp [IntOp.cmpi, Scalar.select]
  · have h' : ¬BitVec.ofNat 32 a = BitVec.ofNat 32 b := fun e => h (hw.mp e)
    rw [if_neg h]
    show (if BitVec.ofBool (BitVec.ofNat 32 a == BitVec.ofNat 32 b) = 1#1 then x else y) = y
    rw [beq_eq_false_iff_ne.mpr h']; rfl

/-- The sum that keeps one entry, picked by comparing numbers as words. -/
theorem sum_pick (f : Fin 128 → EReal) (n : ℕ) (r : Fin 128) (hn : n = r.val) :
    (∑ x : Fin 128, Scalar.select (IntOp.cmpi .eq (BitVec.ofNat 32 n) (BitVec.ofNat 32 x.val)) (f x) 0) = f r := by
  subst hn
  rw [Finset.sum_congr rfl fun x _ => select_words r.val x.val r.isLt x.isLt (f x) 0]
  simp [Fin.val_inj]
/-- The same, with the two sides of the comparison exchanged. -/
theorem sum_pick' (f : Fin 128 → EReal) (r : Fin 128) :
    (∑ x : Fin 128, Scalar.select (IntOp.cmpi .eq (BitVec.ofNat 32 x.val) (BitVec.ofNat 32 r.val)) (f x) 0) = f r := by
  rw [Finset.sum_congr rfl fun x _ => select_words x.val r.val x.isLt r.isLt (f x) 0]
  simp [Fin.val_inj]

/-- A row of 128 scales turned into a column. -/
theorem pay12_at (x : Vec Ideal S1x1x128 .f32) (r : Fin 128) : k0_pay12 x (ix2 r 0) = x (ix3 0 0 r) := by
  unfold k0_pay12 k0_pay11
  pointwise
  exact sum_pick (fun q => x (ix3 0 0 q)) _ r rfl
/-- The same, as the next rows of scales are turned. -/
theorem pay13_eq (x : Vec Ideal S1x1x128 .f32) : k0_pay13 x = k0_pay12 x := rfl
/-- The same again. -/
theorem pay14_eq (x : Vec Ideal S1x1x128 .f32) : k0_pay14 x = k0_pay12 x := rfl

/-- A row of the block of scales. -/
theorem window_row (x : Vec Ideal S1x4x128 .f32) (p : Fin 4) (h) (q : Fin 128) : window x ![0, p.val, 0] S1x1x128.size h (ix3 0 0 q) = x (ix3 0 p q) :=
  congrArg x (funext fun a => Fin.ext (by
    match a with
    | 0 => rfl
    | 1 => show p.val + 1 * 0 = p.val; omega
    | 2 => show 0 + 1 * q.val = q.val; omega))

/-- Four rows of lanes stacked as a column and spread over lanes. -/
theorem pay1_at (x0 x1 x2 x3 : Vec Ideal S1x1x128 .f32) (r : Fin 512) (j : Fin 128) :
    k0_pay1 k0_pay11 (k0_pay12 x0) (k0_pay13 x1) (k0_pay14 x2) (Scalar.ofBits .f32 0x00000000#32) (k0_pay15 x3) (ix2 r j)
      = (if r.val < 128 then x0 else if r.val < 256 then x1 else if r.val < 384 then x2 else x3) (ix3 0 0 ⟨r.val % 128, by omega⟩) := by
  rw [pay13_eq, pay14_eq]
  unfold k0_pay1 k0_pay11 k0_pay15
  pointwise
  by_cases h0 : r.val < 128
  · rw [dif_pos h0, if_pos h0, pay12_at]
    exact congrArg (fun q => x0 (ix3 0 0 q)) (Fin.ext (by show r.val = r.val % 128; omega))
  · rw [dif_neg h0, if_neg h0]
    by_cases h1 : r.val < 256
    · rw [dif_pos (by omega), if_pos h1, pay12_at]
      exact congrArg (fun q => x1 (ix3 0 0 q)) (Fin.ext (by show r.val - 128 = r.val % 128; omega))
    · rw [dif_neg (by omega), if_neg h1]
      by_cases h2 : r.val < 384
      · rw [dif_pos (by omega), if_pos h2, pay12_at]
        exact congrArg (fun q => x2 (ix3 0 0 q)) (Fin.ext (by show r.val - 128 - 128 = r.val % 128; omega))
      · rw [dif_neg (by omega), if_neg h2]
        exact sum_pick (fun q => x3 (ix3 0 0 q)) _ ⟨r.val % 128, by omega⟩ (by show r.val - 128 - 128 - 128 = r.val % 128; omega)

/-- The tile's scales spread over lanes: row `r` has entry `r`. -/
theorem col0_at (x : Vec Ideal S1x4x128 .f32) (r : Fin 512) (j : Fin 128) :
    col0 x (ix2 r j) = x (ix3 0 ⟨r.val / 128, by omega⟩ ⟨r.val % 128, by omega⟩) := by
  unfold col0
  rw [pay1_at]
  split_ifs with h0 h1 h2
  · refine (window_row x 0 _ _).trans ?_; rw [show (⟨r.val / 128, by omega⟩ : Fin 4) = 0 from Fin.ext (by show r.val / 128 = 0; omega)]
  · refine (window_row x 1 _ _).trans ?_; rw [show (⟨r.val / 128, by omega⟩ : Fin 4) = 1 from Fin.ext (by show r.val / 128 = 1; omega)]
  · refine (window_row x 2 _ _).trans ?_; rw [show (⟨r.val / 128, by omega⟩ : Fin 4) = 2 from Fin.ext (by show r.val / 128 = 2; omega)]
  · refine (window_row x 3 _ _).trans ?_; rw [show (⟨r.val / 128, by omega⟩ : Fin 4) = 3 from Fin.ext (by show r.val / 128 = 3; omega)]

/-- The four rows of the block of activation scales. -/
theorem pay24_at (x : Vec Ideal S512x128 .f32) (r : Fin 128) : k0_pay24 x (ix3 0 0 r) = k0_pay21 x (ix2 ⟨r.val, by omega⟩ 0) := by
  unfold k0_pay24 k0_pay23
  pointwise
  exact sum_pick' (fun q : Fin 128 => k0_pay21 x (ix2 ⟨q.val, by omega⟩ 0)) r
/-- Rows 128 to 255 of the scales, laid along the lanes. -/
theorem pay25_at (x : Vec Ideal S512x128 .f32) (r : Fin 128) : k0_pay25 x (ix3 0 0 r) = k0_pay21 x (ix2 ⟨128 + r.val, by omega⟩ 0) := by
  unfold k0_pay25 k0_pay23
  pointwise
  exact sum_pick' (fun q : Fin 128 => k0_pay21 x (ix2 ⟨128 + q.val, by omega⟩ 0)) r
/-- Rows 256 to 383. -/
theorem pay5_at (x : Vec Ideal S512x128 .f32) (r : Fin 128) :
    k0_pay5 k0_pay23 (k0_pay26 x) (Scalar.ofBits .f32 0x00000000#32) (ix3 0 0 r) = k0_pay21 x (ix2 ⟨256 + r.val, by omega⟩ 0) := by
  unfold k0_pay5 k0_pay23 k0_pay26
  pointwise
  exact sum_pick' (fun q : Fin 128 => k0_pay21 x (ix2 ⟨256 + q.val, by omega⟩ 0)) r
/-- Rows 384 to 511. -/
theorem pay6_at (x : Vec Ideal S512x128 .f32) (r : Fin 128) : k0_pay6 (k0_pay21 x) k0_pay23 (ix3 0 0 r) = k0_pay21 x (ix2 ⟨384 + r.val, by omega⟩ 0) := by
  unfold k0_pay6 k0_pay23
  pointwise
  exact sum_pick' (fun q : Fin 128 => k0_pay21 x (ix2 ⟨384 + q.val, by omega⟩ 0)) r

/-- A row put over the block of scales, read in that row and in another. -/
theorem put_row (x : Vec Ideal S1x4x128 .f32) (w : Vec Ideal S1x1x128 .f32) (p : Fin 4) (q : Fin 128) : put x ![0, p.val, 0] S1x1x128.size w (ix3 0 p q) = w (ix3 0 0 q) := by
  unfold put
  rw [dif_pos fun a => by
    match a with
    | 0 => exact ⟨Nat.zero_le _, by show 0 < 0 + 1; omega⟩
    | 1 => exact ⟨le_refl _, by show p.val < p.val + 1; omega⟩
    | 2 => exact ⟨Nat.zero_le _, by show q.val < 0 + 128; omega⟩]
  exact congrArg w (funext fun a => Fin.ext (by
    match a with
    | 0 => rfl
    | 1 => show p.val - p.val = 0; omega
    | 2 => rfl))
/-- Storing one row leaves the other rows as they were. -/
theorem put_row_ne (x : Vec Ideal S1x4x128 .f32) (w : Vec Ideal S1x1x128 .f32) (p p' : Fin 4) (h : p' ≠ p) (q : Fin 128) :
    put x ![0, p.val, 0] S1x1x128.size w (ix3 0 p' q) = x (ix3 0 p' q) := by
  unfold put
  exact dif_neg fun hall => h (Fin.ext (by have := hall 1; have h1 : p.val ≤ p'.val := this.1; have h2 : p'.val < p.val + 1 := this.2; omega))

/-- The block of activation scales: row `p`, lane `q` has the scale of row `128 p + q` of the tile. -/
theorem actsBlk_at (y : Vec Ideal S1x4x128 .f32) (x : Vec Ideal S512x128 .f32) (p : Fin 4) (q : Fin 128) :
    actsBlk y x (ix3 0 p q) = scale (Finset.univ.fold max ⊥ fun j : Fin 128 => x (ix2 ⟨128 * p.val + q.val, by omega⟩ j)) := by
  rw [← pay21_at]
  unfold actsBlk
  match p with
  | 0 => exact (put_row_ne _ _ 3 0 (by decide) q).trans ((put_row_ne _ _ 2 0 (by decide) q).trans ((put_row_ne _ _ 1 0 (by decide) q).trans ((put_row _ _ 0 q).trans
      ((pay24_at x q).trans (congrArg (fun r => k0_pay21 x (ix2 r 0)) (Fin.ext (by show q.val = 128 * 0 + q.val; omega)))))))
  | 1 => exact (put_row_ne _ _ 3 1 (by decide) q).trans ((put_row_ne _ _ 2 1 (by decide) q).trans ((put_row _ _ 1 q).trans (pay25_at x q)))
  | 2 => exact (put_row_ne _ _ 3 2 (by decide) q).trans ((put_row _ _ 2 q).trans (pay5_at x q))
  | 3 => exact (put_row _ _ 3 q).trans (pay6_at x q)

end Cert.KernelIdeal.Mlp

end
-- ==== Proof.Mlp.Value.lean ====
/-
  What the call leaves in its three result arrays, on the extended reals: the functions `out`, `codes` and `scales` of its arguments.
-/
module

public import proofs.«01_k».proof.Proof.Mlp.Data
public import proofs.«01_k».proof.Proof.Mlp.Point

@[expose] public section

set_option maxRecDepth 16384

noncomputable section

namespace Cert.KernelIdeal.Mlp

open Cert.KernelIdeal Cert.KernelIdeal.Gen Cert.Mlp
open Idealize.ShloMosaic Idealize.ShloMosaic.TcCoe
open Idealize.ShloMosaic.VecWindow (window put)

variable (m : (ℓ : Loc nD τ sig) → Buf (Elt Ideal) ℓ) (c : Dev nD)

/-! ## The arguments -/

abbrev a0 : Vec Ideal S7680x2048 .i8 := m ((c : Thread nD τ).loc main_arg0)
abbrev a1 : Vec Ideal S7680 .f32 := m ((c : Thread nD τ).loc main_arg1)
abbrev a2 : Vec Ideal S7680x2048 .f32 := m ((c : Thread nD τ).loc main_arg2)
abbrev a3 : Vec Ideal S2048x8192 .i8 := m ((c : Thread nD τ).loc main_arg3)
abbrev a4 : Vec Ideal S8192 .f32 := m ((c : Thread nD τ).loc main_arg4)
abbrev a5 : Vec Ideal S2048x8192 .i8 := m ((c : Thread nD τ).loc main_arg5)
abbrev a6 : Vec Ideal S8192 .f32 := m ((c : Thread nD τ).loc main_arg6)
abbrev a7 : Vec Ideal S8192x2048 .i8 := m ((c : Thread nD τ).loc main_arg7)
abbrev a8 : Vec Ideal S2048 .f32 := m ((c : Thread nD τ).loc main_arg8)

abbrev actA : Fin 7680 → Fin 8192 → EReal := act (a0 m c) (a1 m c) (a3 m c) (a4 m c) (a5 m c) (a6 m c)
abbrev scaleA : Fin 7680 → EReal := rowScale (a0 m c) (a1 m c) (a3 m c) (a4 m c) (a5 m c) (a6 m c)
abbrev codesA : Vec Ideal S7680x8192 .i8 := codes (a0 m c) (a1 m c) (a3 m c) (a4 m c) (a5 m c) (a6 m c)
abbrev scalesA : Vec Ideal S15x4x128 .f32 := scales (a0 m c) (a1 m c) (a3 m c) (a4 m c) (a5 m c) (a6 m c)
abbrev outA : Vec Ideal S7680x2048 .bf16 := out (a0 m c) (a1 m c) (a2 m c) (a3 m c) (a4 m c) (a5 m c) (a6 m c) (a7 m c) (a8 m c)

/-! ## Where each window's blocks lie -/

/-- The block index of window 0 at a point. -/
theorem idx0 : ∀ t : Fin grid0.N, (cfg0.win 0).index t 0 = t.val / 12 ∧ (cfg0.win 0).index t 1 = 0 := by decide +kernel
/-- The block index of window 1 at a point. -/
theorem idx1 : ∀ t : Fin grid0.N, (cfg0.win 1).index t 0 = t.val / 12 ∧ (cfg0.win 1).index t 1 = 0 ∧ (cfg0.win 1).index t 2 = 0 := by decide +kernel
/-- The block index of window 2 at a point. -/
theorem idx2 : ∀ t : Fin grid0.N, (cfg0.win 2).index t 0 = t.val / 12 ∧ (cfg0.win 2).index t 1 = 0 := by decide +kernel
/-- The block index of window 3 at a point. -/
theorem idx3 : ∀ t : Fin grid0.N, t.val % 12 < 8 → (cfg0.win 3).index t 0 = 0 ∧ (cfg0.win 3).index t 1 = t.val % 12 := by decide +kernel
/-- The block index of window 4 at a point. -/
theorem idx4 : ∀ t : Fin grid0.N, t.val % 12 < 8 → (cfg0.win 4).index t 0 = 0 ∧ (cfg0.win 4).index t 1 = t.val % 12 := by decide +kernel
/-- The block index of window 5 at a point. -/
theorem idx5 : ∀ t : Fin grid0.N, t.val % 12 < 8 → (cfg0.win 5).index t 0 = 0 ∧ (cfg0.win 5).index t 1 = t.val % 12 := by decide +kernel
/-- The block index of window 6 at a point. -/
theorem idx6 : ∀ t : Fin grid0.N, t.val % 12 < 8 → (cfg0.win 6).index t 0 = 0 ∧ (cfg0.win 6).index t 1 = t.val % 12 := by decide +kernel
/-- The block index of window 7 at a point. -/
theorem idx7 : ∀ t : Fin grid0.N, 8 ≤ t.val % 12 → (cfg0.win 7).index t 0 = t.val % 12 - 8 ∧ (cfg0.win 7).index t 1 = 0 := by decide +kernel
/-- The block index of window 8 at a point. -/
theorem idx8 : ∀ t : Fin grid0.N, (cfg0.win 8).index t 0 = 0 ∧ (cfg0.win 8).index t 1 = 0 := by decide +kernel
/-- The block index of window 9 at a point. -/
theorem idx9 : ∀ t : Fin grid0.N, (cfg0.win 9).index t 0 = t.val / 12 ∧ (cfg0.win 9).index t 1 = 0 := by decide +kernel
/-- The block index of window 10 at a point. -/
theorem idx10 : ∀ t : Fin grid0.N, 8 ≤ t.val % 12 → (cfg0.win 10).index t 0 = t.val / 12 ∧ (cfg0.win 10).index t 1 = t.val % 12 - 8 := by decide +kernel
/-- The block index of window 11 at a point. -/
theorem idx11 : ∀ t : Fin grid0.N, (cfg0.win 11).index t 0 = t.val / 12 ∧ (cfg0.win 11).index t 1 = 0 ∧ (cfg0.win 11).index t 2 = 0 := by decide +kernel

/-- The block of argument 0 at a point, in terms of the argument. -/
theorem b0 (t : Fin grid0.N) (r : Fin 512) (q : Fin 2048) (h : 512 * (t.val / 12) + r.val < 7680) :
    X0 m c t (ix2 r q) = a0 m c (ix2 ⟨512 * (t.val / 12) + r.val, h⟩ q) := by
  blk_ext! [X0, iblk, V, (idx0 t).1, (idx0 t).2]
/-- The block of argument 1 at a point, in terms of the argument. -/
theorem b1 (t : Fin grid0.N) (p : Fin 4) (q : Fin 128) (h : 512 * (t.val / 12) + (128 * p.val + q.val) < 7680) :
    X1 m c t (ix3 0 p q) = a1 m c (ix1 ⟨512 * (t.val / 12) + (128 * p.val + q.val), h⟩) := by
  blk_ext! [X1, iblk, V, (idx1 t).1, (idx1 t).2.1, (idx1 t).2.2]
/-- The block of argument 2 at a point, in terms of the argument. -/
theorem b2 (t : Fin grid0.N) (r : Fin 512) (q : Fin 2048) (h : 512 * (t.val / 12) + r.val < 7680) :
    X2 m c t (ix2 r q) = a2 m c (ix2 ⟨512 * (t.val / 12) + r.val, h⟩ q) := by
  blk_ext! [X2, iblk, V, (idx2 t).1, (idx2 t).2]
/-- The block of argument 3 at a point, in terms of the argument. -/
theorem b3 (t : Fin grid0.N) (ht : t.val % 12 < 8) (q : Fin 2048) (e : Fin 1024) (h : 1024 * (t.val % 12) + e.val < 8192) :
    X3 m c t (ix2 q e) = a3 m c (ix2 q ⟨1024 * (t.val % 12) + e.val, h⟩) := by
  blk_ext! [X3, iblk, V, (idx3 t ht).1, (idx3 t ht).2]
/-- The block of argument 4 at a point, in terms of the argument. -/
theorem b4 (t : Fin grid0.N) (ht : t.val % 12 < 8) (e : Fin 1024) (h : 1024 * (t.val % 12) + e.val < 8192) :
    X4 m c t (ix2 0 e) = a4 m c (ix1 ⟨1024 * (t.val % 12) + e.val, h⟩) := by
  blk_ext! [X4, iblk, V, (idx4 t ht).1, (idx4 t ht).2]
/-- The block of argument 5 at a point, in terms of the argument. -/
theorem b5 (t : Fin grid0.N) (ht : t.val % 12 < 8) (q : Fin 2048) (e : Fin 1024) (h : 1024 * (t.val % 12) + e.val < 8192) :
    X5 m c t (ix2 q e) = a5 m c (ix2 q ⟨1024 * (t.val % 12) + e.val, h⟩) := by
  blk_ext! [X5, iblk, V, (idx5 t ht).1, (idx5 t ht).2]
/-- The block of argument 6 at a point, in terms of the argument. -/
theorem b6 (t : Fin grid0.N) (ht : t.val % 12 < 8) (e : Fin 1024) (h : 1024 * (t.val % 12) + e.val < 8192) :
    X6 m c t (ix2 0 e) = a6 m c (ix1 ⟨1024 * (t.val % 12) + e.val, h⟩) := by
  blk_ext! [X6, iblk, V, (idx6 t ht).1, (idx6 t ht).2]
/-- The block of argument 7 at a point, in terms of the argument. -/
theorem b7 (t : Fin grid0.N) (ht : 8 ≤ t.val % 12) (k : Fin 2048) (d : Fin 2048) (h : 2048 * (t.val % 12 - 8) + k.val < 8192) :
    X7 m c t (ix2 k d) = a7 m c (ix2 ⟨2048 * (t.val % 12 - 8) + k.val, h⟩ d) := by
  blk_ext! [X7, iblk, V, (idx7 t ht).1, (idx7 t ht).2]
/-- The block of argument 8 at a point, in terms of the argument. -/
theorem b8 (t : Fin grid0.N) (d : Fin 2048) : X8 m c t (ix2 0 d) = a8 m c (ix1 d) := by
  blk_ext! [X8, iblk, V, (idx8 t).1, (idx8 t).2]

/-- The point of a tile and a place in it. -/
theorem pt_val {i j : ℕ} (hi : i < 15) (hj : j < 12) : (pt i j).val = 12 * i + j := by
  show (12 * i + j) % 180 = 12 * i + j
  omega
/-- The tile of a point. -/
theorem pt_div {i j : ℕ} (hi : i < 15) (hj : j < 12) : (pt i j).val / 12 = i := by rw [pt_val hi hj]; omega
/-- The place of a point in its tile. -/
theorem pt_mod {i j : ℕ} (hi : i < 15) (hj : j < 12) : (pt i j).val % 12 = j := by rw [pt_val hi hj]; omega

/-! ## Windows of a rank-two vector -/

/-- A window of a matrix, at an index. -/
theorem window2 {n0 n1 s0 s1 : ℕ} {e : EltTy} (x : Vec Ideal ⟨2, ![n0, n1]⟩ e) (o0 o1 : ℕ) (h) (r : Fin s0) (k : Fin s1) (h0 : o0 + r.val < n0) (h1 : o1 + k.val < n1) :
    window (s := ⟨2, ![n0, n1]⟩) x ![o0, o1] ![s0, s1] h (ix2 r k) = x (ix2 ⟨o0 + r.val, h0⟩ ⟨o1 + k.val, h1⟩) :=
  congrArg x (funext fun a => Fin.ext (by
    match a with
    | 0 => show o0 + 1 * r.val = o0 + r.val; omega
    | 1 => show o1 + 1 * k.val = o1 + k.val; omega))

/-- The first lane. -/
theorem lane0_at (x : Vec Ideal S512x128 .f32) (r : Fin 512) : lane0 x (ix2 r 0) = x (ix2 r 0) :=
  (window2 (s0 := 512) (s1 := 1) x 0 0 _ r 0 (by omega) (by decide)).trans (congrArg x ((ix2_inj _ _ _ _).mpr ⟨Fin.ext (by show 0 + r.val = r.val; omega), rfl⟩))
/-- The left half of a weight block. -/
theorem wL_at (x : Vec Ideal S2048x1024 .i8) (q : Fin 2048) (e : Fin 512) : wL x (ix2 q e) = x (ix2 q ⟨e.val, by omega⟩) :=
  (window2 (s0 := 2048) (s1 := 512) x 0 0 _ q e (by omega) (by omega)).trans (congrArg x ((ix2_inj _ _ _ _).mpr ⟨Fin.ext (by show 0 + q.val = q.val; omega), Fin.ext (by show 0 + e.val = e.val; omega)⟩))
/-- The right half of a weight block. -/
theorem wR_at (x : Vec Ideal S2048x1024 .i8) (q : Fin 2048) (e : Fin 512) : wR x (ix2 q e) = x (ix2 q ⟨512 + e.val, by omega⟩) :=
  (window2 (s0 := 2048) (s1 := 512) x 0 512 _ q e (by omega) (by omega)).trans (congrArg x ((ix2_inj _ _ _ _).mpr ⟨Fin.ext (by show 0 + q.val = q.val; omega), rfl⟩))
/-- The left half of a row of scales. -/
theorem sL_at (x : Vec Ideal S1x1024 .f32) (e : Fin 512) : sL x (ix2 0 e) = x (ix2 0 ⟨e.val, by omega⟩) :=
  (window2 (s0 := 1) (s1 := 512) x 0 0 _ 0 e (by decide) (by omega)).trans (congrArg x ((ix2_inj _ _ _ _).mpr ⟨rfl, Fin.ext (by show 0 + e.val = e.val; omega)⟩))
/-- The right half of a row of scales. -/
theorem sR_at (x : Vec Ideal S1x1024 .f32) (e : Fin 512) : sR x (ix2 0 e) = x (ix2 0 ⟨512 + e.val, by omega⟩) :=
  (window2 (s0 := 1) (s1 := 512) x 0 512 _ 0 e (by decide) (by omega)).trans (congrArg x ((ix2_inj _ _ _ _).mpr ⟨rfl, rfl⟩))

/-! ## A tile -/

/-- The row of the arrays that is row `r` of tile `i`. -/
def row (i : Fin 15) (r : Fin 512) : Fin 7680 := ⟨512 * i.val + r.val, by omega⟩

/-- The tile's codes as numbers. -/
theorem aT_at (i : Fin 15) (r : Fin 512) (q : Fin 2048) : aT m c i.val (ix2 r q) = i8 (a0 m c (ix2 (row i r) q)) := by
  unfold aT
  rw [pay10_at, b0 m c _ r q (by rw [pt_div i.isLt (by omega)]; omega)]
  exact congrArg (fun R => i8 (a0 m c (ix2 R q))) (Fin.ext (by show 512 * ((pt i.val 0).val / 12) + r.val = 512 * i.val + r.val; rw [pt_div i.isLt (by omega)]))

/-- The tile's row scales. -/
theorem lT_at (i : Fin 15) (r : Fin 512) (j : Fin 128) : lT m c i.val (ix2 r j) = a1 m c (ix1 (row i r)) := by
  unfold lT
  rw [col0_at, b1 m c _ _ _ (by rw [pt_div i.isLt (by omega)]; show 512 * i.val + (128 * (r.val / 128) + r.val % 128) < 7680; omega)]
  exact congrArg (fun R => a1 m c (ix1 R)) (Fin.ext (by
    show 512 * ((pt i.val 0).val / 12) + (128 * (r.val / 128) + r.val % 128) = 512 * i.val + r.val
    rw [pt_div i.isLt (by omega)]; omega))

/-- The column blocks of the weights and of their scales, at a tile's first eight points. -/
theorem p3 (i : Fin 15) (j : Fin 8) (q : Fin 2048) (e : Fin 1024) : X3 m c (pt i.val j.val) (ix2 q e) = a3 m c (ix2 q ⟨1024 * j.val + e.val, by omega⟩) := by
  have hj : (pt i.val j.val).val % 12 = j.val := pt_mod i.isLt (by omega)
  refine (b3 m c _ (by omega) q e (by omega)).trans (congrArg (fun z => a3 m c (ix2 q z)) (Fin.ext ?_))
  show 1024 * ((pt i.val j.val).val % 12) + e.val = _
  rw [hj]
/-- The gate scales at such a point. -/
theorem p4 (i : Fin 15) (j : Fin 8) (e : Fin 1024) : X4 m c (pt i.val j.val) (ix2 0 e) = a4 m c (ix1 ⟨1024 * j.val + e.val, by omega⟩) := by
  have hj : (pt i.val j.val).val % 12 = j.val := pt_mod i.isLt (by omega)
  refine (b4 m c _ (by omega) e (by omega)).trans (congrArg (fun z => a4 m c (ix1 z)) (Fin.ext ?_))
  show 1024 * ((pt i.val j.val).val % 12) + e.val = _
  rw [hj]
/-- The up weights at such a point. -/
theorem p5 (i : Fin 15) (j : Fin 8) (q : Fin 2048) (e : Fin 1024) : X5 m c (pt i.val j.val) (ix2 q e) = a5 m c (ix2 q ⟨1024 * j.val + e.val, by omega⟩) := by
  have hj : (pt i.val j.val).val % 12 = j.val := pt_mod i.isLt (by omega)
  refine (b5 m c _ (by omega) q e (by omega)).trans (congrArg (fun z => a5 m c (ix2 q z)) (Fin.ext ?_))
  show 1024 * ((pt i.val j.val).val % 12) + e.val = _
  rw [hj]
/-- The up scales at such a point. -/
theorem p6 (i : Fin 15) (j : Fin 8) (e : Fin 1024) : X6 m c (pt i.val j.val) (ix2 0 e) = a6 m c (ix1 ⟨1024 * j.val + e.val, by omega⟩) := by
  have hj : (pt i.val j.val).val % 12 = j.val := pt_mod i.isLt (by omega)
  refine (b6 m c _ (by omega) e (by omega)).trans (congrArg (fun z => a6 m c (ix1 z)) (Fin.ext ?_))
  show 1024 * ((pt i.val j.val).val % 12) + e.val = _
  rw [hj]

/-- Equal operands give equal activations. -/
theorem swiglu_proj_congr {x x' w w' v v' : Fin 2048 → EReal} {l l' s s' t t' : EReal} (hx : ∀ q, x q = x' q) (hw : ∀ q, w q = w' q) (hv : ∀ q, v q = v' q)
    (hl : l = l') (hs : s = s') (ht : t = t') : swiglu (proj x w l s) (proj x v l t) = swiglu (proj x' w' l' s') (proj x' v' l' t') := by
  rw [funext hx, funext hw, funext hv, hl, hs, ht]

/-- The two halves of a point's activations. -/
theorem hL_at (i : Fin 15) (j : Fin 8) (r e : Fin 512) : hL m c i.val j.val (ix2 r e) = actA m c (row i r) ⟨1024 * j.val + e.val, by omega⟩ := by
  unfold hL actL actA act
  rw [pay17_eq, pay16_at]
  exact swiglu_proj_congr (fun q => aT_at m c i r q) (fun q => congrArg i8 ((wL_at _ q e).trans (p3 m c i j q ⟨e.val, by omega⟩))) (fun q => congrArg i8 ((wL_at _ q e).trans (p5 m c i j q ⟨e.val, by omega⟩)))
    ((lane0_at _ r).trans (lT_at m c i r 0)) ((sL_at _ e).trans (p4 m c i j ⟨e.val, by omega⟩)) ((sL_at _ e).trans (p6 m c i j ⟨e.val, by omega⟩))
/-- The right half of a point's activations is the activation at those columns. -/
theorem hR_at (i : Fin 15) (j : Fin 8) (r e : Fin 512) : hR m c i.val j.val (ix2 r e) = actA m c (row i r) ⟨1024 * j.val + (512 + e.val), by omega⟩ := by
  unfold hR actR actA act
  rw [pay20_eq, pay16_at]
  exact swiglu_proj_congr (fun q => aT_at m c i r q) (fun q => congrArg i8 ((wR_at _ q e).trans (p3 m c i j q ⟨512 + e.val, by omega⟩))) (fun q => congrArg i8 ((wR_at _ q e).trans (p5 m c i j q ⟨512 + e.val, by omega⟩)))
    ((lane0_at _ r).trans (lT_at m c i r 0)) ((sR_at _ e).trans (p4 m c i j ⟨512 + e.val, by omega⟩)) ((sR_at _ e).trans (p6 m c i j ⟨512 + e.val, by omega⟩))

/-- The tile's activations. -/
theorem actT_at (i : Fin 15) (r : Fin 512) (k : Fin 8192) : actT m c i.val (ix2 r k) = actA m c (row i r) k := by
  show (if h : k.val % 1024 < 512 then hL m c i.val (k.val / 1024) (ix2 r ⟨k.val % 1024, h⟩) else hR m c i.val (k.val / 1024) (ix2 r ⟨k.val % 1024 - 512, by omega⟩)) = _
  by_cases h : k.val % 1024 < 512
  · rw [dif_pos h]
    refine (hL_at m c i ⟨k.val / 1024, by omega⟩ r ⟨k.val % 1024, h⟩).trans (congrArg (actA m c (row i r)) (Fin.ext ?_))
    show 1024 * (k.val / 1024) + k.val % 1024 = k.val; omega
  · rw [dif_neg h]
    refine (hR_at m c i ⟨k.val / 1024, by omega⟩ r ⟨k.val % 1024 - 512, by omega⟩).trans (congrArg (actA m c (row i r)) (Fin.ext ?_))
    show 1024 * (k.val / 1024) + (512 + (k.val % 1024 - 512)) = k.val; omega

/-- The running maxima bound the activations of the columns seen so far, lane by lane, and nothing else. -/
theorem amaxT_le (i : Fin 15) (r : Fin 512) (l : Fin 128) (b : EReal) : ∀ n : ℕ, n ≤ 8 →
    ((amaxT m c i.val n (ix2 r l) : EReal) ≤ b ↔ 0 ≤ b ∧ ∀ k : Fin 8192, k.val < 1024 * n → k.val % 128 = l.val → max (actA m c (row i r) k) (-(actA m c (row i r) k)) ≤ b)
  | 0, _ => by
    unfold amaxT
    rw [pay2_at]
    exact ⟨fun h => ⟨h, fun k hk => by omega⟩, fun h => h.1⟩
  | n + 1, hn => by
    have ih := amaxT_le i r l b n (by omega)
    have eL : ∀ e : Fin 512, k0_pay16 (aT m c i.val) (lane0 (lT m c i.val)) (wL (X3 m c (pt i.val n))) (sL (X4 m c (pt i.val n))) (wL (X5 m c (pt i.val n))) (sL (X6 m c (pt i.val n))) (ix2 r e) = actA m c (row i r) ⟨1024 * n + e.val, by omega⟩ :=
      fun e => (congrFun (pay17_eq _ _ _ _ _ _).symm _).trans (hL_at m c i ⟨n, by omega⟩ r e)
    have eR : ∀ e : Fin 512, k0_pay19 (aT m c i.val) (lane0 (lT m c i.val)) (wR (X3 m c (pt i.val n))) (sR (X4 m c (pt i.val n))) (wR (X5 m c (pt i.val n))) (sR (X6 m c (pt i.val n))) (ix2 r e) = actA m c (row i r) ⟨1024 * n + (512 + e.val), by omega⟩ :=
      fun e => (congrFun ((pay19_eq _ _ _ _ _ _).trans (pay20_eq _ _ _ _ _ _).symm) _).trans (hR_at m c i ⟨n, by omega⟩ r e)
    show (amaxStep (amaxT m c i.val n) _ _ _ _ _ _ (ix2 r l) : EReal) ≤ b ↔ _
    unfold amaxStep
    rw [pay4_le, pay18_eq, pay4_le, ih]
    simp only [eL, eR]
    constructor
    · rintro ⟨⟨⟨h0, h1⟩, h2⟩, h3⟩
      refine ⟨h0, fun k hk hl => ?_⟩
      by_cases ha : k.val < 1024 * n
      · exact h1 k ha hl
      · by_cases hb : k.val < 1024 * n + 512
        · have := h2 ⟨k.val - 1024 * n, by omega⟩ (by show (k.val - 1024 * n) % 128 = l.val; omega)
          rwa [show (⟨1024 * n + (k.val - 1024 * n), by omega⟩ : Fin 8192) = k from Fin.ext (by show 1024 * n + (k.val - 1024 * n) = k.val; omega)] at this
        · have := h3 ⟨k.val - 1024 * n - 512, by omega⟩ (by show (k.val - 1024 * n - 512) % 128 = l.val; omega)
          rwa [show (⟨1024 * n + (512 + (k.val - 1024 * n - 512)), by omega⟩ : Fin 8192) = k from Fin.ext (by show 1024 * n + (512 + (k.val - 1024 * n - 512)) = k.val; omega)] at this
    · rintro ⟨h0, h⟩
      exact ⟨⟨⟨h0, fun k hk hl => h k (by omega) hl⟩, fun e he => h _ (by show 1024 * n + e.val < _; omega) (by show (1024 * n + e.val) % 128 = _; omega)⟩,
        fun e he => h _ (by show 1024 * n + (512 + e.val) < _; omega) (by show (1024 * n + (512 + e.val)) % 128 = _; omega)⟩

/-- The greatest of a row's running maxima is the row's greatest absolute value. -/
theorem amax_eq (i : Fin 15) (r : Fin 512) : (Finset.univ.fold max ⊥ fun l : Fin 128 => (amaxT m c i.val 8 (ix2 r l) : EReal)) = rowMax (actA m c (row i r)) :=
  eq_of_forall_ge_iff fun b => by
    rw [Finset.fold_max_le, rowMax_le]
    constructor
    · rintro ⟨-, h⟩ k
      exact ((amaxT_le m c i r ⟨k.val % 128, by omega⟩ b 8 le_rfl).mp (h _ (Finset.mem_univ _))).2 k (by omega) rfl
    · intro h
      exact ⟨bot_le, fun l _ => (amaxT_le m c i r l b 8 le_rfl).mpr ⟨(abs_nonneg' _).trans (h 0), fun k _ _ => h k⟩⟩

/-- The scale column of a tile. -/
theorem colT_at (i : Fin 15) (r : Fin 512) (l : Fin 128) : colT m c i.val (ix2 r l) = scaleA m c (row i r) := by
  unfold colT
  rw [pay22_at]
  exact congrArg scale (amax_eq m c i r)

/-- The slab of activations a down point reads. -/
theorem slabT_at (i : Fin 15) (n : Fin 4) (r : Fin 512) (k : Fin 2048) : slabT m c i.val n.val (ix2 r k) = actA m c (row i r) ⟨2048 * n.val + k.val, by omega⟩ := by
  refine (actT_at m c i r ⟨(2048 * n.val + k.val) % 8192, Nat.mod_lt _ (by norm_num)⟩).trans (congrArg (actA m c (row i r)) (Fin.ext ?_))
  show (2048 * n.val + k.val) % 8192 = 2048 * n.val + k.val; omega

/-- The tile's codes, slice by slice. -/
theorem codesT_at (i : Fin 15) (n : Fin 4) (r : Fin 512) (k : Fin 2048) : codesT m c i.val n.val (ix2 r k) = codesA m c (ix2 (row i r) ⟨2048 * n.val + k.val, by omega⟩) := by
  unfold codesT codesA codes
  rw [pay7_at, slabT_at, lane0_at, colT_at]
  rfl

/-- The down projection's accumulator is a sum over slices. -/
theorem accT_at (i : Fin 15) (r : Fin 512) (d : Fin 2048) : ∀ n : ℕ, (hn : n ≤ 4) →
    accT m c i.val n (ix2 r d) = ∑ s : Fin n, ∑ k : Fin 2048, i8 (codesA m c (ix2 (row i r) ⟨2048 * s.val + k.val, by omega⟩)) * i8 (a7 m c (ix2 ⟨2048 * s.val + k.val, by omega⟩ d))
  | 0, _ => by
    unfold accT
    rw [pay3_at]
    rfl
  | n + 1, hn => by
    have hd : (pt i.val (8 + n)).val % 12 = 8 + n := pt_mod i.isLt (by omega)
    rw [Fin.sum_univ_castSucc]
    show k0_pay8 (lane0 (colT m c i.val)) (slabT m c i.val n) (accT m c i.val n) (X7 m c (pt i.val (8 + n))) (ix2 r d) = _
    rw [pay8_at, accT_at i r d n (by omega)]
    refine congrArg (_ + ·) (Finset.sum_congr rfl fun k _ => ?_)
    rw [← pay7_at]
    refine congrArg₂ (· * ·) (congrArg i8 (codesT_at m c i ⟨n, by omega⟩ r k)) ?_
    rw [b7 m c _ (by omega) k d (by rw [hd]; omega)]
    exact congrArg (fun q => i8 (a7 m c (ix2 q d))) (Fin.ext (by show 2048 * ((pt i.val (8 + n)).val % 12 - 8) + k.val = 2048 * n + k.val; rw [hd]; omega))

/-- Four slices of 2048 are the 8192 columns. -/
theorem sum_slices (f : Fin 8192 → EReal) : (∑ s : Fin 4, ∑ k : Fin 2048, f ⟨2048 * s.val + k.val, by omega⟩) = ∑ k, f k := by
  rw [← Fintype.sum_prod_type']
  exact Fintype.sum_equiv (finProdFinEquiv : Fin 4 × Fin 2048 ≃ Fin (4 * 2048)) _ _ fun x => congrArg f (Fin.ext (by
    show 2048 * x.1.val + x.2.val = x.2.val + 2048 * x.1.val; omega))

/-- The result at an index, spelt out. -/
theorem outA_at (R : Fin 7680) (d : Fin 2048) : outA m c (ix2 R d)
    = a2 m c (ix2 R d) + (∑ k : Fin 8192, i8 (codesA m c (ix2 R k)) * i8 (a7 m c (ix2 k d))) * (scaleA m c R * a8 m c (ix1 d)) := rfl

/-- The tile's rows of the result. -/
theorem outT_at (i : Fin 15) (r : Fin 512) (d : Fin 2048) : outT m c i.val (ix2 r d) = outA m c (ix2 (row i r) d) := by
  unfold outT
  rw [outA_at, pay9_at, accT_at m c i r d 4 le_rfl, lane0_at, colT_at, b8, b2 m c _ r d (by rw [pt_div i.isLt (by omega)]; omega),
    sum_slices fun k => i8 (codesA m c (ix2 (row i r) k)) * i8 (a7 m c (ix2 k d))]
  rw [show (⟨512 * ((pt i.val 11).val / 12) + r.val, by rw [pt_div i.isLt (by omega)]; omega⟩ : Fin 7680) = row i r from Fin.ext (by
    show 512 * ((pt i.val 11).val / 12) + r.val = 512 * i.val + r.val
    rw [pt_div i.isLt (by omega)])]

/-- The tile's scales, as rows of lanes. -/
theorem actsT_at (i : Fin 15) (p : Fin 4) (q : Fin 128) : actsT m c i.val (ix3 0 p q) = scalesA m c (ix3 i p q) := by
  unfold actsT
  rw [actsBlk_at]
  refine (congrArg scale (amax_eq m c i ⟨128 * p.val + q.val, by omega⟩)).trans (congrArg (scaleA m c) (Fin.ext ?_))
  show 512 * i.val + (128 * p.val + q.val) = 512 * i.val + 128 * p.val + q.val; omega

/-! ## The result arrays -/

/-- The array of the result after the call. -/
theorem final9 : (dats m 0 c).arrAt 9 cfg0.N = outA m c := by
  refine (dats m 0 c).arrAt_eq_of_covers 9 _ (by decide +kernel) fun t hf y => ?_
  have hN : t.val < 180 := lt_of_lt_of_eq t.isLt N_0
  blk_simp
  rw [after9]
  refine (congrArg (outT m c (t.val / 12)) (eq_ix2 (n0 := 512) (n1 := 2048) y)).trans ((outT_at m c ⟨t.val / 12, by omega⟩ (y 0) (y 1)).trans ?_)
  blk_ext! [row, (idx9 t).1, (idx9 t).2]

/-- The array of the codes after the call. -/
theorem final10 : (dats m 0 c).arrAt 10 cfg0.N = codesA m c := by
  refine (dats m 0 c).arrAt_eq_of_covers 10 _ (by decide +kernel) fun t hf y => ?_
  have hN : t.val < 180 := lt_of_lt_of_eq t.isLt N_0
  have h8 : 8 ≤ t.val % 12 := by
    by_contra h
    exact absurd hf (by rw [noflush10 t (by omega)]; decide)
  blk_simp
  rw [after10]
  refine (congrArg (codesT m c (t.val / 12) (t.val % 12 - 8)) (eq_ix2 (n0 := 512) (n1 := 2048) y)).trans ((codesT_at m c ⟨t.val / 12, by omega⟩ ⟨t.val % 12 - 8, by omega⟩ (y 0) (y 1)).trans ?_)
  blk_ext! [row, (idx10 t h8).1, (idx10 t h8).2]

/-- The array of the scales after the call. -/
theorem final11 : (dats m 0 c).arrAt 11 cfg0.N = scalesA m c := by
  refine (dats m 0 c).arrAt_eq_of_covers 11 _ (by decide +kernel) fun t hf y => ?_
  have hN : t.val < 180 := lt_of_lt_of_eq t.isLt N_0
  blk_simp
  rw [after11]
  have y0 : (show Fin 1 from y 0) = 0 := Subsingleton.elim _ _
  refine (congrArg (actsT m c (t.val / 12)) ((eq_ix3 (n0 := 1) (n1 := 4) (n2 := 128) y).trans (congrArg (fun z => ix3 z (y 1) (y 2)) y0))).trans ((actsT_at m c ⟨t.val / 12, by omega⟩ (y 1) (y 2)).trans ?_)
  generalize scalesA m c = G
  blk_ext! [(idx11 t).1, (idx11 t).2.1, (idx11 t).2.2]

/-- Every run of the call ends with its results at these functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v4_0) = outA m c
    ∧ r.2.mem ((c.tc : Thread nD τ).loc main_v4_1) = codesA m c
    ∧ r.2.mem ((c.tc : Thread nD τ).loc main_v4_2) = scalesA m c) :=
  (θ_run defs _ _).mono (fun _ h c => ⟨((h c).1 9).trans (final9 m c), ((h c).1 10).trans (final10 m c), ((h c).1 11).trans (final11 m c)⟩) (run_main m ρ)

end Cert.KernelIdeal.Mlp

end
-- ==== Proof.Mlp.RefValue.lean ====
/-
  What the reference leaves in its result arrays, on the extended reals: the same functions of its arguments as the call's.
-/
module

public import proofs.«01_k».proof.Proof.Gen.ReferenceIdeal.Frame
public import proofs.«01_k».proof.Proof.Mlp.Spec
public import Idealize.ShloMosaic.Lib.Pipeline.ValueKit

@[expose] public section

set_option maxRecDepth 16384

noncomputable section

namespace Cert.ReferenceIdeal.Mlp

open Cert.ReferenceIdeal Cert.ReferenceIdeal.Gen Cert.Mlp
open Idealize.ShloMosaic Idealize.ShloMosaic.TcCoe

variable (m : (ℓ : Loc nD τ sig) → Buf (Elt Ideal) ℓ) (c : Dev nD)

/-! ## The values of the body -/

variable (x0 : Vec Ideal S7680x2048 .i8) (x1 : Vec Ideal S7680x1 .f32) (x3 : Vec Ideal S2048x8192 .i8) (x4 : Vec Ideal S1x8192 .f32) (x5 : Vec Ideal S2048x8192 .i8) (x6 : Vec Ideal S1x8192 .f32)

/-- The activation: SiLU of the gate projection times the up projection. -/
theorem pay3_at (r : Fin 7680) (k : Fin 8192) : k0_pay3 x0 x1 x3 x4 x5 x6 (ix2 r k)
    = swiglu (proj (fun q => i8 (x0 (ix2 r q))) (fun q => i8 (x3 (ix2 q k))) (x1 (ix2 r 0)) (x4 (ix2 0 k)))
        (proj (fun q => i8 (x0 (ix2 r q))) (fun q => i8 (x5 (ix2 q k))) (x1 (ix2 r 0)) (x6 (ix2 0 k))) := by
  unfold k0_pay3
  pointwise
  rfl

/-- The largest absolute value of a row. -/
theorem rowMax_at (a : FVec Ideal S7680x8192 .f32) (h1 h2 h3) (r : Fin 7680) :
    multiReduction .maximumf [1] S7680 (absf a) 0xFF800000#32 h1 h2 h3 (ix1 r) = rowMax fun k => a (ix2 r k) := by
  generalize hz : (rowMax fun k => a (ix2 r k)) = z
  pointwise
  rw [ofBits_bot, ← hz]
  rfl

/-- A vector as a column, at a row. -/
theorem column_at (a : FVec Ideal S7680 .f32) (h) (r : Fin 7680) : shapeCast S7680x1 a h (ix2 r 0) = a (ix1 r) := by
  pointwise

/-- One for a row of zeros, otherwise the maximum over 127. -/
theorem scale_at (b : FVec Ideal S7680x1 .f32) (r : Fin 7680) :
    select (cmpf .oeq b (broadcast S7680x1 (Scalar.ofBits .f32 0x00000000#32))) (broadcast S7680x1 (Scalar.ofBits .f32 0x3F800000#32))
      (divf b (broadcast S7680x1 (Scalar.ofBits .f32 0x42FE0000#32))) (ix2 r 0) = scale (b (ix2 r 0)) := by
  unfold scale
  pointwise
  rw [ofBits_127]

/-- The scale of a row of activations. -/
theorem pay4_at (r : Fin 7680) : k0_pay4 x0 x1 x3 x4 x5 x6 (ix2 r 0) = scale (rowMax fun k => k0_pay3 x0 x1 x3 x4 x5 x6 (ix2 r k)) :=
  (scale_at _ r).trans (congrArg scale ((column_at _ _ r).trans (rowMax_at _ _ _ _ r)))

/-- The code: clipped to ±127 and taken to eight bits. -/
theorem pay1_at (v : Vec Ideal S7680x8192 .f32) (r : Fin 7680) (k : Fin 8192) :
    k0_pay1 v 127#32 (k0_pay6 (F := Ideal)) (ix2 r k) = Ideal.fptosi 8 (min 127 (max (-127) (v (ix2 r k)))) := by
  unfold k0_pay1 k0_pay6
  pointwise
  rw [show (127#32 : BitVec 32).toInt = 127 from by decide, show (4294967169#32 : BitVec 32).toInt = -127 from by decide]
  norm_num
  rfl

/-- The quotient by the row's scale, rounded to the nearest integer, ties to even. -/
theorem round_at (a : FVec Ideal S7680x8192 .f32) (l : FVec Ideal S7680x1 .f32) (h : S7680x1.Broadcasts S7680x8192) (r : Fin 7680) (k : Fin 8192) :
    roundeven (divf a (broadcastTo S7680x8192 l h)) (ix2 r k) = Ideal.liftRound Ideal.roundHalfEven (Ideal.div (a (ix2 r k)) (l (ix2 r 0))) := by
  pointwise

/-- The rounded activation before it is clipped. -/
theorem pay5_at (r : Fin 7680) (k : Fin 8192) : k0_pay5 x0 x1 x3 x4 x5 x6 (ix2 r k)
    = Ideal.liftRound Ideal.roundHalfEven (Ideal.div (k0_pay3 x0 x1 x3 x4 x5 x6 (ix2 r k)) (k0_pay4 x0 x1 x3 x4 x5 x6 (ix2 r 0))) :=
  round_at (k0_pay3 x0 x1 x3 x4 x5 x6) (k0_pay4 x0 x1 x3 x4 x5 x6) _ r k

/-- The result: the residual plus the scaled down projection of the codes. -/
theorem pay2_at (s : Vec Ideal S7680x1 .f32) (v : Vec Ideal S7680x8192 .f32) (h : Vec Ideal S7680x2048 .f32) (w : Vec Ideal S8192x2048 .i8) (l : Vec Ideal S1x2048 .f32) (r : Fin 7680) (d : Fin 2048) :
    k0_pay2 s v 127#32 (k0_pay6 (F := Ideal)) h w l (ix2 r d)
      = h (ix2 r d) + (∑ k : Fin 8192, i8 (k0_pay1 v 127#32 (k0_pay6 (F := Ideal)) (ix2 r k)) * i8 (w (ix2 k d))) * (s (ix2 r 0) * l (ix2 0 d)) := by
  unfold k0_pay2
  generalize k0_pay1 v 127#32 (k0_pay6 (F := Ideal)) = q
  pointwise
  rfl

end Cert.ReferenceIdeal.Mlp

end
-- ==== Proof.Mlp.RefRun.lean ====
/-
  The reference's run, on the extended reals: its result arrays end at the functions `out`, `codes` and `scales` of its arguments.
-/
module

public import proofs.«01_k».proof.Proof.Mlp.RefValue

@[expose] public section

set_option maxRecDepth 16384

noncomputable section

namespace Cert.ReferenceIdeal.Mlp

open Cert.ReferenceIdeal Cert.ReferenceIdeal.Gen Cert.Mlp
open Idealize.ShloMosaic Idealize.ShloMosaic.TcCoe

variable (m : (ℓ : Loc nD τ sig) → Buf (Elt Ideal) ℓ) (c : Dev nD)

/-! ## The arguments -/

abbrev a0 : Vec Ideal S7680x2048 .i8 := m ((c : Thread nD τ).loc main_arg0)
abbrev a1 : Vec Ideal S7680 .f32 := m ((c : Thread nD τ).loc main_arg1)
abbrev a2 : Vec Ideal S7680x2048 .f32 := m ((c : Thread nD τ).loc main_arg2)
abbrev a3 : Vec Ideal S2048x8192 .i8 := m ((c : Thread nD τ).loc main_arg3)
abbrev a4 : Vec Ideal S8192 .f32 := m ((c : Thread nD τ).loc main_arg4)
abbrev a5 : Vec Ideal S2048x8192 .i8 := m ((c : Thread nD τ).loc main_arg5)
abbrev a6 : Vec Ideal S8192 .f32 := m ((c : Thread nD τ).loc main_arg6)
abbrev a7 : Vec Ideal S8192x2048 .i8 := m ((c : Thread nD τ).loc main_arg7)
abbrev a8 : Vec Ideal S2048 .f32 := m ((c : Thread nD τ).loc main_arg8)

abbrev actA : Fin 7680 → Fin 8192 → EReal := act (a0 m c) (a1 m c) (a3 m c) (a4 m c) (a5 m c) (a6 m c)
abbrev scaleA : Fin 7680 → EReal := rowScale (a0 m c) (a1 m c) (a3 m c) (a4 m c) (a5 m c) (a6 m c)
abbrev codesA : Vec Ideal S7680x8192 .i8 := codes (a0 m c) (a1 m c) (a3 m c) (a4 m c) (a5 m c) (a6 m c)
abbrev scalesA : Vec Ideal S15x4x128 .f32 := scales (a0 m c) (a1 m c) (a3 m c) (a4 m c) (a5 m c) (a6 m c)
abbrev outA : Vec Ideal S7680x2048 .bf16 := out (a0 m c) (a1 m c) (a2 m c) (a3 m c) (a4 m c) (a5 m c) (a6 m c) (a7 m c) (a8 m c)

/-! ## The blocks are the whole arrays -/

/-- Every operand is one block, at index zero. -/
theorem idx : ∀ (w : Fin 12) (t : Fin grid0.N) a, (cfg0.win w).index t a = 0 := by decide +kernel

abbrev x0 (t : Fin grid0.N) : Vec Ideal S7680x2048 .i8 := iblk m c 0 t
abbrev x1 (t : Fin grid0.N) : Vec Ideal S7680x1 .f32 := iblk m c 1 t
abbrev x2 (t : Fin grid0.N) : Vec Ideal S7680x2048 .f32 := iblk m c 2 t
abbrev x3 (t : Fin grid0.N) : Vec Ideal S2048x8192 .i8 := iblk m c 3 t
abbrev x4 (t : Fin grid0.N) : Vec Ideal S1x8192 .f32 := iblk m c 4 t
abbrev x5 (t : Fin grid0.N) : Vec Ideal S2048x8192 .i8 := iblk m c 5 t
abbrev x6 (t : Fin grid0.N) : Vec Ideal S1x8192 .f32 := iblk m c 6 t
abbrev x7 (t : Fin grid0.N) : Vec Ideal S8192x2048 .i8 := iblk m c 7 t
abbrev x8 (t : Fin grid0.N) : Vec Ideal S1x2048 .f32 := iblk m c 8 t

/-- The operands that the program reshapes before the call. -/
theorem v0_eq : V m c main_v0 = shapeCast S7680x1 (a1 m c) shapeCasts_S7680_S7680x1 := by
  show StableHlo.after hostOps0 _ _ = _
  unfold hostOps0
  after_results
  rfl
/-- The gate scales reach the call as one row. -/
theorem v1_eq : V m c main_v1 = shapeCast S1x8192 (a4 m c) shapeCasts_S8192_S1x8192 := by
  show StableHlo.after hostOps0 _ _ = _
  unfold hostOps0
  after_results
  rfl
/-- So do the up scales. -/
theorem v2_eq : V m c main_v2 = shapeCast S1x8192 (a6 m c) shapeCasts_S8192_S1x8192 := by
  show StableHlo.after hostOps0 _ _ = _
  unfold hostOps0
  after_results
  rfl
/-- So do the down scales. -/
theorem v3_eq : V m c main_v3 = shapeCast S1x2048 (a8 m c) shapeCasts_S2048_S1x2048 := by
  show StableHlo.after hostOps0 _ _ = _
  unfold hostOps0
  after_results
  rfl
/-- A vector of 8192 as a row, at a column. -/
theorem row8192_at (a : FVec Ideal S8192 .f32) (h) (k : Fin 8192) : shapeCast S1x8192 a h (ix2 0 k) = a (ix1 k) := by
  pointwise
/-- A vector of 2048 as a row, at a column. -/
theorem row2048_at (a : FVec Ideal S2048 .f32) (h) (k : Fin 2048) : shapeCast S1x2048 a h (ix2 0 k) = a (ix1 k) := by
  pointwise

/-- Operand 0 of the reference's call, in terms of argument 0. -/
theorem b0 (t : Fin grid0.N) (r : Fin 7680) (q : Fin 2048) : x0 m c t (ix2 r q) = a0 m c (ix2 r q) := by
  blk_ext! [x0, iblk, V, idx 0 t]
/-- Operand 1 of the reference's call, in terms of argument 1. -/
theorem b1 (t : Fin grid0.N) (r : Fin 7680) : x1 m c t (ix2 r 0) = a1 m c (ix1 r) := by
  show V m c main_v0 ((win0_1.blk t).view.emb (ix2 r 0)) = _
  rw [v0_eq]
  refine Eq.trans (congrArg _ (?_ : _ = ix2 r 0)) (column_at _ _ r)
  blk_ext! [idx 1 t]
/-- Operand 2 of the reference's call, in terms of argument 2. -/
theorem b2 (t : Fin grid0.N) (r : Fin 7680) (q : Fin 2048) : x2 m c t (ix2 r q) = a2 m c (ix2 r q) := by
  blk_ext! [x2, iblk, V, idx 2 t]
/-- Operand 3 of the reference's call, in terms of argument 3. -/
theorem b3 (t : Fin grid0.N) (q : Fin 2048) (k : Fin 8192) : x3 m c t (ix2 q k) = a3 m c (ix2 q k) := by
  blk_ext! [x3, iblk, V, idx 3 t]
/-- Operand 4 of the reference's call, in terms of argument 4. -/
theorem b4 (t : Fin grid0.N) (k : Fin 8192) : x4 m c t (ix2 0 k) = a4 m c (ix1 k) := by
  show V m c main_v1 ((win0_4.blk t).view.emb (ix2 0 k)) = _
  rw [v1_eq]
  refine Eq.trans (congrArg _ (?_ : _ = ix2 0 k)) (row8192_at _ _ k)
  blk_ext! [idx 4 t]
/-- Operand 5 of the reference's call, in terms of argument 5. -/
theorem b5 (t : Fin grid0.N) (q : Fin 2048) (k : Fin 8192) : x5 m c t (ix2 q k) = a5 m c (ix2 q k) := by
  blk_ext! [x5, iblk, V, idx 5 t]
/-- Operand 6 of the reference's call, in terms of argument 6. -/
theorem b6 (t : Fin grid0.N) (k : Fin 8192) : x6 m c t (ix2 0 k) = a6 m c (ix1 k) := by
  show V m c main_v2 ((win0_6.blk t).view.emb (ix2 0 k)) = _
  rw [v2_eq]
  refine Eq.trans (congrArg _ (?_ : _ = ix2 0 k)) (row8192_at _ _ k)
  blk_ext! [idx 6 t]
/-- Operand 7 of the reference's call, in terms of argument 7. -/
theorem b7 (t : Fin grid0.N) (k : Fin 8192) (d : Fin 2048) : x7 m c t (ix2 k d) = a7 m c (ix2 k d) := by
  blk_ext! [x7, iblk, V, idx 7 t]
/-- Operand 8 of the reference's call, in terms of argument 8. -/
theorem b8 (t : Fin grid0.N) (d : Fin 2048) : x8 m c t (ix2 0 d) = a8 m c (ix1 d) := by
  show V m c main_v3 ((win0_8.blk t).view.emb (ix2 0 d)) = _
  rw [v3_eq]
  refine Eq.trans (congrArg _ (?_ : _ = ix2 0 d)) (row2048_at _ _ d)
  blk_ext! [idx 8 t]

/-! ## The values of the body, from the arguments -/

/-- The reference's activations. -/
theorem act_at (t : Fin grid0.N) (r : Fin 7680) (k : Fin 8192) :
    k0_pay3 (x0 m c t) (x1 m c t) (x3 m c t) (x4 m c t) (x5 m c t) (x6 m c t) (ix2 r k) = actA m c r k := by
  rw [pay3_at, b1, b4, b6, funext fun q => congrArg i8 (b0 m c t r q), funext fun q => congrArg i8 (b3 m c t q k), funext fun q => congrArg i8 (b5 m c t q k)]
  rfl

/-- The reference's scale of a row. -/
theorem scale_eq (t : Fin grid0.N) (r : Fin 7680) :
    k0_pay4 (x0 m c t) (x1 m c t) (x3 m c t) (x4 m c t) (x5 m c t) (x6 m c t) (ix2 r 0) = scaleA m c r :=
  (pay4_at _ _ _ _ _ _ r).trans (congrArg (fun v => scale (rowMax v)) (funext fun k => act_at m c t r k))

/-- The reference's codes. -/
theorem codes_at (t : Fin grid0.N) (r : Fin 7680) (k : Fin 8192) :
    k0_pay1 (k0_pay5 (x0 m c t) (x1 m c t) (x3 m c t) (x4 m c t) (x5 m c t) (x6 m c t)) 127#32 (k0_pay6 (F := Ideal)) (ix2 r k) = codesA m c (ix2 r k) := by
  rw [pay1_at, pay5_at, act_at, scale_eq]
  rfl

/-- The result at an index, spelt out. -/
theorem outA_at (R : Fin 7680) (d : Fin 2048) : outA m c (ix2 R d)
    = a2 m c (ix2 R d) + (∑ k : Fin 8192, i8 (codesA m c (ix2 R k)) * i8 (a7 m c (ix2 k d))) * (scaleA m c R * a8 m c (ix1 d)) := rfl

/-- The reference's result. -/
theorem out_at (t : Fin grid0.N) (r : Fin 7680) (d : Fin 2048) :
    k0_pay2 (k0_pay4 (x0 m c t) (x1 m c t) (x3 m c t) (x4 m c t) (x5 m c t) (x6 m c t)) (k0_pay5 (x0 m c t) (x1 m c t) (x3 m c t) (x4 m c t) (x5 m c t) (x6 m c t)) 127#32 (k0_pay6 (F := Ideal))
      (x2 m c t) (x7 m c t) (x8 m c t) (ix2 r d) = outA m c (ix2 r d) := by
  rw [outA_at, pay2_at, scale_eq, b2, b8]
  refine congrArg (fun z => a2 m c (ix2 r d) + z * (scaleA m c r * a8 m c (ix1 d))) (Finset.sum_congr rfl fun k _ => ?_)
  rw [codes_at, b7]

/-! ## The result arrays -/

/-- The scales as a column. -/
def scaleCol : Vec Ideal S7680x1 .f32 := fun i => scaleA m c (i 0)

/-- The array of the result after the call. -/
theorem final9 : (dats m 0 c).arrAt 9 cfg0.N = outA m c := by
  refine (dats m 0 c).arrAt_eq_of_covers 9 _ (by decide +kernel) fun t hf y => ?_
  blk_simp
  rw [after0_9]
  unfold_out out0_9
  frame_out
  refine ((congrArg _ (eq_ix2 (n0 := 7680) (n1 := 2048) y)).trans (out_at m c t (y 0) (y 1))).trans ?_
  generalize outA m c = G
  blk_ext! [idx 9 t]

/-- The array of the codes after the call. -/
theorem final10 : (dats m 0 c).arrAt 10 cfg0.N = codesA m c := by
  refine (dats m 0 c).arrAt_eq_of_covers 10 _ (by decide +kernel) fun t hf y => ?_
  blk_simp
  rw [after0_10]
  unfold_out out0_10
  frame_out
  refine ((congrArg _ (eq_ix2 (n0 := 7680) (n1 := 8192) y)).trans (codes_at m c t (y 0) (y 1))).trans ?_
  generalize codesA m c = G
  blk_ext! [idx 10 t]

/-- The array of the scales after the call, as a column. -/
theorem final11 : (dats m 0 c).arrAt 11 cfg0.N = scaleCol m c := by
  refine (dats m 0 c).arrAt_eq_of_covers 11 _ (by decide +kernel) fun t hf y => ?_
  blk_simp
  rw [after0_11]
  unfold_out out0_11
  frame_out
  have y1 : (show Fin 1 from y 1) = 0 := Subsingleton.elim _ _
  refine ((congrArg _ ((eq_ix2 (n0 := 7680) (n1 := 1) y).trans (congrArg (fun z => ix2 (y 0) z) y1))).trans (scale_eq m c t (y 0))).trans ?_
  show scaleCol m c (ix2 (y 0) 0) = _
  generalize scaleCol m c = G
  blk_ext! [idx 11 t]

/-- The column of scales, reshaped into tiles of rows of lanes. -/
theorem tiles_at (b : FVec Ideal S7680x1 .f32) (h) (i : Fin 15) (p : Fin 4) (q : Fin 128) :
    shapeCast S15x4x128 b h (ix3 i p q) = b (ix2 ⟨512 * i.val + 128 * p.val + q.val, by omega⟩ 0) := by
  pointwise
  exact congrArg (fun R => b (ix2 R 0)) (Fin.ext (by show i.val * 512 + p.val * 128 + q.val = 512 * i.val + 128 * p.val + q.val; omega))

/-- The host reshapes the column of scales to the tiles of the array returned. -/
theorem tail : Pipeline.afterTail₀ cfgs (dats m) 0 (V0 m) [hostOps1] c main_v5 = scalesA m c := by
  unfold Pipeline.afterTail₀
  generalize hW : Pipeline.withArrays _ c (V0 m c) _ = W
  have e : W (Proc.devRef .tc main_v4_2) = scaleCol m c := by
    rw [← hW]
    exact (Pipeline.withArrays_arr spec0 (by decide) c _ _ 11).trans (final11 m c)
  show StableHlo.after hostOps1 _ _ = _
  unfold hostOps1
  after_results
  refine (congrArg (fun z => shapeCast S15x4x128 z shapeCasts_S7680x1_S15x4x128) e).trans (funext fun i => ?_)
  rw [eq_ix3 (n0 := 15) (n1 := 4) (n2 := 128) i]
  exact tiles_at (scaleCol m c) _ (i 0) (i 1) (i 2)

/-- Every run of the reference ends with its results at these functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v4_0) = outA m c
    ∧ r.2.mem ((c.tc : Thread nD τ).loc main_v4_1) = codesA m c
    ∧ r.2.mem ((c.tc : Thread nD τ).loc main_v5) = scalesA m c) :=
  (θ_run defs _ _).mono (fun _ h c => ⟨((h c).1 9).trans (final9 m c), ((h c).1 10).trans (final10 m c),
    ((h c).2 main_v5 (Pipeline.mem_restRefs_of main_v5 (by decide) (by decide))).trans (tail m c)⟩) (run_main m ρ)

end Cert.ReferenceIdeal.Mlp

end
-- ==== Proof.Mlp.Algebraic.lean ====
/-
  The call and the reference end with equal results, on the extended reals.
-/
module

public import proofs.«01_k».proof.Defs
public import proofs.«01_k».proof.Proof.Mlp.Value
public import proofs.«01_k».proof.Proof.Mlp.RefRun

@[expose] public section

set_option maxRecDepth 16384

noncomputable section

namespace Cert.Mlp

open Idealize.ShloMosaic Idealize.ShloMosaic.TcCoe Idealize.SL.Sem

/-- From memories that agree on the arguments, the kernel and the reference end with equal results: the rows of the output, the codes of the activations
    and their scales. Each also leaves its arguments as they were. -/
theorem algebraic [Cert.KernelIdeal.Facts] [Cert.ReferenceIdeal.Facts] : Cert.algebraic_KernelIdeal_ReferenceIdeal := by
  intro m ρ m' ρ' _ hagree
  refine ⟨fun c => Cert.KernelIdeal.Mlp.outA m c, fun c => Cert.KernelIdeal.Mlp.codesA m c, fun c => Cert.KernelIdeal.Mlp.scalesA m c, ?_, ?_⟩
  · exact (θ_run Cert.KernelIdeal.defs _ _).mono (fun _ h c => ⟨(h.1 c).1, (h.1 c).2.1, (h.1 c).2.2, h.2.1 c⟩)
      (θ_run_and (Cert.KernelIdeal.Mlp.run m ρ) (Cert.KernelIdeal.Mlp.frame m ρ))
  · refine (θ_run Cert.ReferenceIdeal.defs _ _).mono (fun _ h c => ⟨(h.1 c).1.trans ?_, (h.1 c).2.1.trans ?_, (h.1 c).2.2.trans ?_, h.2 c⟩)
      (θ_run_and (Cert.ReferenceIdeal.Mlp.run m' ρ') (Cert.ReferenceIdeal.Gen.unchanged m' ρ'))
    all_goals
      obtain ⟨h0, h1, h2, h3, h4, h5, h6, h7, h8⟩ := hagree c
      have e0 : Cert.ReferenceIdeal.Mlp.a0 m' c = Cert.KernelIdeal.Mlp.a0 m c := h0
      have e1 : Cert.ReferenceIdeal.Mlp.a1 m' c = Cert.KernelIdeal.Mlp.a1 m c := h1
      have e2 : Cert.ReferenceIdeal.Mlp.a2 m' c = Cert.KernelIdeal.Mlp.a2 m c := h2
      have e3 : Cert.ReferenceIdeal.Mlp.a3 m' c = Cert.KernelIdeal.Mlp.a3 m c := h3
      have e4 : Cert.ReferenceIdeal.Mlp.a4 m' c = Cert.KernelIdeal.Mlp.a4 m c := h4
      have e5 : Cert.ReferenceIdeal.Mlp.a5 m' c = Cert.KernelIdeal.Mlp.a5 m c := h5
      have e6 : Cert.ReferenceIdeal.Mlp.a6 m' c = Cert.KernelIdeal.Mlp.a6 m c := h6
      have e7 : Cert.ReferenceIdeal.Mlp.a7 m' c = Cert.KernelIdeal.Mlp.a7 m c := h7
      have e8 : Cert.ReferenceIdeal.Mlp.a8 m' c = Cert.KernelIdeal.Mlp.a8 m c := h8
    · have e := congr (congr (congr (congr (congr (congr (congr (congr (congrArg out e0) e1) e2) e3) e4) e5) e6) e7) e8
      exact e
    · have e := congr (congr (congr (congr (congr (congrArg codes e0) e1) e3) e4) e5) e6
      exact e
    · have e := congr (congr (congr (congr (congr (congrArg scales e0) e1) e3) e4) e5) e6
      exact e

end Cert.Mlp

end
-- ==== Proof.Front.Step.lean ====
module

public import proofs.«01_k».proof.Proof.Gen.FrontIdeal.Launch
public import proofs.«01_k».proof.Proof.Gen.FrontIdeal.Skeleton
public import Idealize.ShloMosaic.Lib.Pipeline.FrameBody
public import Idealize.ShloMosaic.Lib.Pipeline.ReadBack
public import Idealize.ShloMosaic.Lib.VecWindow
public import Idealize.ShloMosaic.Lib.Tactic

@[expose] public section

set_option maxRecDepth 16384

noncomputable section

namespace Cert.FrontIdeal.Fr

open Cert.FrontIdeal Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

local notation "𝕄" => MT nD τ sig Unit (Elt F) ℕ (UR sig nD τ) ℕ

/-! ## The rows the loop over the sequences reads -/

/-- An in-range word's offset: a word between `512 n` and `512 (n + 1)`, less `512 n`, plus two. -/
theorem word_range (n : ℕ) (hn : n < 15) (x : BitVec 32) (h1 : (Scalar.muli (BitVec.ofNat 32 n) 512#32 : BitVec 32).toInt ≤ x.toInt)
    (h2 : x.toInt < (Scalar.muli (Scalar.addi (BitVec.ofNat 32 n) 1#32) 512#32 : BitVec 32).toInt) :
    (Scalar.addi (Scalar.subi x (Scalar.muli (BitVec.ofNat 32 n) 512#32)) 2#32 : BitVec 32).toNat + 1 ≤ 520 := by
  have hx := x.isLt
  simp only [Scalar.muli, Scalar.addi, Scalar.subi, IntOp.muli, IntOp.addi, IntOp.subi, BitVec.toInt_eq_toNat_cond, BitVec.toNat_mul, BitVec.toNat_add, BitVec.toNat_sub, BitVec.toNat_ofNat] at *
  omega

/-- A conjunction of three comparisons that came out true, as the loop's conditions compute it. -/
theorem three_true (a b c : BitVec 1) (h : Scalar.cmpi .ne (Scalar.extui (Scalar.andi (Scalar.andi a b) c) : BitVec 32) 0#32 = 1#1) : b = 1#1 ∧ c = 1#1 := by
  revert h
  revert a b c
  decide

/-- The row the loop reads is inside the buffer for every word of the table. -/
theorem chk_all (i : grid0.Coords) (v w : BitVec 32) : k0_chk1 i v w := by
  refine ⟨fun h a => ?_, fun h a => ?_⟩
  · have h' := three_true _ _ _ h
    have h1 : (Scalar.muli (BitVec.ofNat 32 (i 0).val) 512#32 : BitVec 32).toInt ≤ (Scalar.addi (Scalar.subi w 2#32) 0#32 : BitVec 32).toInt := by
      have e := h'.1
      by_contra hc
      simp [Scalar.cmpi, IntOp.cmpi, BitVec.sle, hc] at e
    have h2 : (Scalar.addi (Scalar.subi w 2#32) 0#32 : BitVec 32).toInt < (Scalar.muli (Scalar.addi (BitVec.ofNat 32 (i 0).val) 1#32) 512#32 : BitVec 32).toInt := by
      have e := h'.2
      by_contra hc
      simp [Scalar.cmpi, IntOp.cmpi, BitVec.slt, hc] at e
    match a with
    | 0 => exact word_range _ (i 0).isLt _ h1 h2
    | 1 => exact le_refl _
  · have h' := three_true _ _ _ h
    have h1 : (Scalar.muli (BitVec.ofNat 32 (i 0).val) 512#32 : BitVec 32).toInt ≤ (Scalar.addi (Scalar.subi w 2#32) 1#32 : BitVec 32).toInt := by
      have e := h'.1
      by_contra hc
      simp [Scalar.cmpi, IntOp.cmpi, BitVec.sle, hc] at e
    have h2 : (Scalar.addi (Scalar.subi w 2#32) 1#32 : BitVec 32).toInt < (Scalar.muli (Scalar.addi (BitVec.ofNat 32 (i 0).val) 1#32) 512#32 : BitVec 32).toInt := by
      have e := h'.2
      by_contra hc
      simp [Scalar.cmpi, IntOp.cmpi, BitVec.slt, hc] at e
    match a with
    | 0 => exact word_range _ (i 0).isLt _ h1 h2
    | 1 => exact le_refl _

/-- The loop over the sequences, whatever it writes into the block of conv states: it reads the table and the products, and holds the block at some contents. -/
@[sl_loop, reducible] def loopInv (𝒱 : Variants) (c : Dev nD) (bd : Option 𝒱.V) (E : Set ℕ) (i : grid0.Coords) (arg1 : Memref sig .tc .smem S41 .i32) (harg1 : arg1.IsWhole) (arg2 : Memref sig .tc .vmem S512x2048 .bf16) (harg2 : arg2.IsWhole) (arg3 : Memref sig .tc .vmem S1x128 .i32) (harg3 : arg3.IsWhole) (arg4 : Memref sig .tc .vmem S1x2048 .f32) (harg4 : arg4.IsWhole) (arg5 : Memref sig .tc .vmem S2048x6144 .i8) (harg5 : arg5.IsWhole) (arg6 : Memref sig .tc .vmem S1x6144 .f32) (harg6 : arg6.IsWhole) (arg7 : Memref sig .tc .vmem S3x2048 .f32) (harg7 : arg7.IsWhole) (arg8 : Memref sig .tc .vmem S2048x2048 .i8) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S40x2x2048 .f32) (harg12 : arg12.IsWhole) (arg13 : Memref sig .tc .vmem S512x2048 .i8) (harg13 : arg13.IsWhole) (arg14 : Memref sig .tc .vmem S1x4x128 .f32) (harg14 : arg14.IsWhole) (arg15 : Memref sig .tc .vmem S512x2048 .i8) (harg15 : arg15.IsWhole) (arg16 : Memref sig .tc .vmem S1x4x128 .f32) (harg16 : arg16.IsWhole) (arg17 : Memref sig .tc .vmem S512x2048 .i8) (harg17 : arg17.IsWhole) (arg18 : Memref sig .tc .vmem S1x4x128 .f32) (harg18 : arg18.IsWhole) (arg19 : Memref sig .tc .vmem S512x2048 .bf16) (harg19 : arg19.IsWhole) (arg20 : Memref sig .tc .vmem S520x2048 .f32) (harg20 : arg20.IsWhole) (arg21 : Memref sig .tc .vmem S512x2048 .f32) (harg21 : arg21.IsWhole) (arg22 : Memref sig .tc .vmem S8x2048 .f32) (harg22 : arg22.IsWhole)
    (X1 : BufTy.Contents (Elt F) arg1.view.ty) (X20 : BufTy.Contents (Elt F) arg20.view.ty) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) where
  inv _ _ := iprop((arg1.view.loc (c : Thread nD τ) ↦[arg1.view.set]{fullShare.right} X1) ∗ (arg20.view.loc (c : Thread nD τ) ↦[arg20.view.set]{fullShare} X20)
    ∗ (∃ f, arg12.view.loc (c : Thread nD τ) ↦[arg12.view.set]{fullShare} f))
  step k acc := by
    have hk : k.val < 40 := Nat.lt_of_lt_of_le k.isLt k0_t1_abs.2.1
    unfold k0_t1_body
    iintro ⟨H1, H20, %f, H12⟩
    by_cases k0_h2 : k0_cond2 i (arg1.view.readAt (Elt F) (Rect.unit (s := S41) (k0_off1 k) S1.size (k0_off1_inb k)).toLoadRect X1 (Shape.Idx.first (numel1_S1.symm ▸ Nat.one_pos))) (arg1.view.readAt (Elt F) (Rect.unit (s := S41) (k0_off2 k) S1.size (k0_off2_inb k)).toLoadRect X1 (Shape.Idx.first (numel1_S1.symm ▸ Nat.one_pos))) = 1#1 <;>
      by_cases k0_h3 : k0_cond3 i (arg1.view.readAt (Elt F) (Rect.unit (s := S41) (k0_off1 k) S1.size (k0_off1_inb k)).toLoadRect X1 (Shape.Idx.first (numel1_S1.symm ▸ Nat.one_pos))) (arg1.view.readAt (Elt F) (Rect.unit (s := S41) (k0_off2 k) S1.size (k0_off2_inb k)).toLoadRect X1 (Shape.Idx.first (numel1_S1.symm ▸ Nat.one_pos))) = 1#1
    all_goals
        sl_exec (disch := first | sl_exact (chk_all _ _ _) | sl_exact k0_h2 | sl_exact k0_h3)
        sl_step
        isplitl [H1]
        · iexact H1
        isplitl [H20]
        · iexact H20
        iexists _
        iexact H12

/-! ## What the first norm writes -/

/-- The first norm's codes of a tile. -/
def codesBlk (x : Vec F S512x2048 .bf16) (w : Vec F S1x2048 .f32) : Vec F S512x2048 .i8 :=
  k0_pay22 (k0_pay7 x) w (k0_pay11 (k0_pay8 x) (k0_pay9 x)) (k0_pay14 (k0_pay12 (k0_pay8 x) (k0_pay9 x)) (k0_pay13 (k0_pay8 x) (k0_pay9 x)))
    (k0_pay17 (k0_pay15 (k0_pay10 (k0_pay8 x) (k0_pay9 x))) (k0_pay16 (k0_pay10 (k0_pay8 x) (k0_pay9 x)))) (k0_pay18 (k0_pay10 (k0_pay8 x) (k0_pay9 x))) (k0_pay19 (k0_pay10 (k0_pay8 x) (k0_pay9 x)))
/-- The first norm's scales of a tile, as a column. -/
def scaleCol (x : Vec F S512x2048 .bf16) (w : Vec F S1x2048 .f32) : Vec F S512x1 .f32 :=
  k0_pay21 (k0_pay7 x) w (k0_pay11 (k0_pay8 x) (k0_pay9 x)) (k0_pay14 (k0_pay12 (k0_pay8 x) (k0_pay9 x)) (k0_pay13 (k0_pay8 x) (k0_pay9 x)))
    (k0_pay17 (k0_pay15 (k0_pay10 (k0_pay8 x) (k0_pay9 x))) (k0_pay16 (k0_pay10 (k0_pay8 x) (k0_pay9 x)))) (k0_pay18 (k0_pay10 (k0_pay8 x) (k0_pay9 x))) (k0_pay19 (k0_pay10 (k0_pay8 x) (k0_pay9 x)))
/-- The first 128 of them. -/
def scaleTop (x : Vec F S512x2048 .bf16) (w : Vec F S1x2048 .f32) : Vec F S128x1 .f32 :=
  k0_pay25 (k0_pay7 x) w (k0_pay11 (k0_pay8 x) (k0_pay9 x)) (k0_pay14 (k0_pay12 (k0_pay8 x) (k0_pay9 x)) (k0_pay13 (k0_pay8 x) (k0_pay9 x)))
    (k0_pay17 (k0_pay15 (k0_pay10 (k0_pay8 x) (k0_pay9 x))) (k0_pay16 (k0_pay10 (k0_pay8 x) (k0_pay9 x)))) (k0_pay18 (k0_pay10 (k0_pay8 x) (k0_pay9 x))) (k0_pay19 (k0_pay10 (k0_pay8 x) (k0_pay9 x)))
/-- The block of scales over a block `y`: four rows of 128 lanes. -/
def scalesPut (y : Vec F S1x4x128 .f32) (x : Vec F S512x2048 .bf16) (w : Vec F S1x2048 .f32) : Vec F S1x4x128 .f32 :=
  put (put (put (put y ![0, 0, 0] S1x1x128.size (k0_pay26 k0_pay24 (Scalar.ofBits .f32 0x00000000#32) (scaleTop x w))) ![0, 1, 0] S1x1x128.size (k0_pay27 (scaleCol x w) k0_pay24))
    ![0, 2, 0] S1x1x128.size (k0_pay28 (scaleCol x w) k0_pay24)) ![0, 3, 0] S1x1x128.size (k0_pay29 (scaleCol x w) k0_pay24)
/-- The block of scales over a block of zeros. -/
def scalesBlk (x : Vec F S512x2048 .bf16) (w : Vec F S1x2048 .f32) : Vec F S1x4x128 .f32 := scalesPut (fun _ => Scalar.ofBits .f32 0x00000000#32) x w

/-- A load at a unit-stride rectangle reads a window of what the view reads. -/
theorem readAt_window {sig : RefSig} {κ : Kind} {sp : Space} {s : Shape} {e : EltTy} {Val : EltTy → Type} (v : View sig κ sp s e) (f : v.ty.Contents Val)
    {off size : Fin s.rank → ℕ} (inb : ∀ a, off a + size a ≤ s.size a) :
    v.readAt Val (Rect.unit off size inb).toLoadRect f = window (v.read Val f) off size inb := rfl

/-- A window of the shape's own sizes is the whole vector. -/
theorem window_full {α : Type} {s : Shape} (x : s.Idx → α) {off : Fin s.rank → ℕ} (inb : ∀ a, off a + s.size a ≤ s.size a) :
    window x off (no_index s.size) inb = x :=
  funext fun y => congrArg x (Rect.emb_unit_full inb y)

/-- A put of the shape's own sizes leaves the payload. -/
theorem put_full {α : Type} {s : Shape} (x : s.Idx → α) {off : Fin s.rank → ℕ} (w : s.Idx → α) (h : ∀ a, off a = 0) :
    put x off (no_index s.size) w = w :=
  funext fun y => (dif_pos fun a => ⟨by rw [h a]; exact Nat.zero_le _, by rw [h a, Nat.zero_add]; exact (y a).isLt⟩).trans
    (congrArg w (funext fun a => Fin.ext (by show (y a).val - off a = (y a).val; rw [h a, Nat.sub_zero])))

/-- A store over earlier stores puts its payload in what those leave. -/
theorem read_put {sig : RefSig} {κ : Kind} {sp : Space} {s : Shape} {e : EltTy} {Val : EltTy → Type} (v : View sig κ sp s e) (f : v.ty.Contents Val)
    {off size : Fin s.rank → ℕ} (inb : ∀ a, off a + size a ≤ s.size a) (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

/-- The library's read of a vector through a unit-stride rectangle is a window of it. -/
theorem ld_window {Val : EltTy → Type} {e : EltTy} {s : Shape} (x : s.Idx → Val e) (off size : Fin s.rank → ℕ) (inb : ∀ a, off a + size a ≤ s.size a) :
    View.ld (Val := Val) x (Rect.unit off size inb) = window x off size inb := rfl

/-- Outside the window the block under it is seen; inside, the payload. -/
theorem put_congr {s : Shape} {α : Type} (x x' : s.Idx → α) (off size : Fin s.rank → ℕ) (w : ((a : Fin s.rank) → Fin (size a)) → α) (y : s.Idx)
    (h : (¬ ∀ a, off a ≤ (y a).val ∧ (y a).val < off a + size a) → x y = x' y) : put x off size w y = put x' off size w y := by
  unfold put
  by_cases hc : ∀ a, off a ≤ (y a).val ∧ (y a).val < off a + size a
  · rw [dif_pos hc, dif_pos hc]
  · rw [dif_neg hc, dif_neg hc]; exact h hc

/-- Whether a place of the block of scales is in a row. -/
theorem in_row (y : S1x4x128.Idx) (p : ℕ) (h : (y 1).val = p) : ∀ a, (![0, p, 0] : Fin 3 → ℕ) a ≤ (y a).val ∧ (y a).val < (![0, p, 0] : Fin 3 → ℕ) a + S1x1x128.size a := fun a => by
  match a with
  | 0 => exact ⟨Nat.zero_le _, by have := (y 0).isLt; show (y 0).val < 0 + 1; exact this⟩
  | 1 => exact ⟨by show p ≤ (y 1).val; omega, by show (y 1).val < p + 1; omega⟩
  | 2 => exact ⟨Nat.zero_le _, by have := (y 2).isLt; show (y 2).val < 0 + 128; rw [Nat.zero_add]; exact this⟩

/-- The four rows cover the block, so what was under them does not matter. -/
theorem scalesPut_eq (y : Vec F S1x4x128 .f32) (x : Vec F S512x2048 .bf16) (w : Vec F S1x2048 .f32) : scalesPut y x w = scalesBlk x w := by
  unfold scalesBlk scalesPut
  funext j
  refine put_congr _ _ _ _ _ _ fun h3 => put_congr _ _ _ _ _ _ fun h2 => put_congr _ _ _ _ _ _ fun h1 => put_congr _ _ _ _ _ _ fun h0 => ?_
  have hj : (j 1).val < 4 := (j 1).isLt
  have n0 : (j 1).val ≠ 0 := fun h => h0 (in_row j 0 h)
  have n1 : (j 1).val ≠ 1 := fun h => h1 (in_row j 1 h)
  have n2 : (j 1).val ≠ 2 := fun h => h2 (in_row j 2 h)
  have n3 : (j 1).val ≠ 3 := fun h => h3 (in_row j 3 h)
  omega

/-- What the body holds before it runs: its inputs, and everything else at some contents. -/
def before (c : Dev nD) (arg1 : Memref sig .tc .smem S41 .i32) (harg1 : arg1.IsWhole) (arg2 : Memref sig .tc .vmem S512x2048 .bf16) (harg2 : arg2.IsWhole) (arg3 : Memref sig .tc .vmem S1x128 .i32) (harg3 : arg3.IsWhole) (arg4 : Memref sig .tc .vmem S1x2048 .f32) (harg4 : arg4.IsWhole) (arg5 : Memref sig .tc .vmem S2048x6144 .i8) (harg5 : arg5.IsWhole) (arg6 : Memref sig .tc .vmem S1x6144 .f32) (harg6 : arg6.IsWhole) (arg7 : Memref sig .tc .vmem S3x2048 .f32) (harg7 : arg7.IsWhole) (arg8 : Memref sig .tc .vmem S2048x2048 .i8) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S40x2x2048 .f32) (harg12 : arg12.IsWhole) (arg13 : Memref sig .tc .vmem S512x2048 .i8) (harg13 : arg13.IsWhole) (arg14 : Memref sig .tc .vmem S1x4x128 .f32) (harg14 : arg14.IsWhole) (arg15 : Memref sig .tc .vmem S512x2048 .i8) (harg15 : arg15.IsWhole) (arg16 : Memref sig .tc .vmem S1x4x128 .f32) (harg16 : arg16.IsWhole) (arg17 : Memref sig .tc .vmem S512x2048 .i8) (harg17 : arg17.IsWhole) (arg18 : Memref sig .tc .vmem S1x4x128 .f32) (harg18 : arg18.IsWhole) (arg19 : Memref sig .tc .vmem S512x2048 .bf16) (harg19 : arg19.IsWhole) (arg20 : Memref sig .tc .vmem S520x2048 .f32) (harg20 : arg20.IsWhole) (arg21 : Memref sig .tc .vmem S512x2048 .f32) (harg21 : arg21.IsWhole) (arg22 : Memref sig .tc .vmem S8x2048 .f32) (harg22 : arg22.IsWhole) (X1 : BufTy.Contents (Elt F) arg1.view.ty) (x2 : Vec F S512x2048 .bf16) (x3 : Vec F S1x128 .i32) (x4 : Vec F S1x2048 .f32) (x5 : Vec F S2048x6144 .i8) (x6 : Vec F S1x6144 .f32) (x7 : Vec F S3x2048 .f32) (x8 : Vec F S2048x2048 .i8) (x9 : Vec F S1x2048 .f32) (x10 : Vec F S1x2048 .f32) : sProp 𝕄 :=
  iprop((arg1.view.loc (c : Thread nD τ) ↦[arg1.view.set]{fullShare.right} X1) ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d))

/-- What it holds after: the same, with the first norm's codes and scales of the tile. -/
def after (c : Dev nD) (arg1 : Memref sig .tc .smem S41 .i32) (harg1 : arg1.IsWhole) (arg2 : Memref sig .tc .vmem S512x2048 .bf16) (harg2 : arg2.IsWhole) (arg3 : Memref sig .tc .vmem S1x128 .i32) (harg3 : arg3.IsWhole) (arg4 : Memref sig .tc .vmem S1x2048 .f32) (harg4 : arg4.IsWhole) (arg5 : Memref sig .tc .vmem S2048x6144 .i8) (harg5 : arg5.IsWhole) (arg6 : Memref sig .tc .vmem S1x6144 .f32) (harg6 : arg6.IsWhole) (arg7 : Memref sig .tc .vmem S3x2048 .f32) (harg7 : arg7.IsWhole) (arg8 : Memref sig .tc .vmem S2048x2048 .i8) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S40x2x2048 .f32) (harg12 : arg12.IsWhole) (arg13 : Memref sig .tc .vmem S512x2048 .i8) (harg13 : arg13.IsWhole) (arg14 : Memref sig .tc .vmem S1x4x128 .f32) (harg14 : arg14.IsWhole) (arg15 : Memref sig .tc .vmem S512x2048 .i8) (harg15 : arg15.IsWhole) (arg16 : Memref sig .tc .vmem S1x4x128 .f32) (harg16 : arg16.IsWhole) (arg17 : Memref sig .tc .vmem S512x2048 .i8) (harg17 : arg17.IsWhole) (arg18 : Memref sig .tc .vmem S1x4x128 .f32) (harg18 : arg18.IsWhole) (arg19 : Memref sig .tc .vmem S512x2048 .bf16) (harg19 : arg19.IsWhole) (arg20 : Memref sig .tc .vmem S520x2048 .f32) (harg20 : arg20.IsWhole) (arg21 : Memref sig .tc .vmem S512x2048 .f32) (harg21 : arg21.IsWhole) (arg22 : Memref sig .tc .vmem S8x2048 .f32) (harg22 : arg22.IsWhole) (X1 : BufTy.Contents (Elt F) arg1.view.ty) (x2 : Vec F S512x2048 .bf16) (x3 : Vec F S1x128 .i32) (x4 : Vec F S1x2048 .f32) (x5 : Vec F S2048x6144 .i8) (x6 : Vec F S1x6144 .f32) (x7 : Vec F S3x2048 .f32) (x8 : Vec F S2048x2048 .i8) (x9 : Vec F S1x2048 .f32) (x10 : Vec F S1x2048 .f32) : sProp 𝕄 :=
  iprop((arg1.view.loc (c : Thread nD τ) ↦[arg1.view.set]{fullShare.right} X1) ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare (codesBlk x2 x4) ∗ owns (c : Thread nD τ) arg14 fullShare (scalesBlk x2 x4) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d))

end Cert.FrontIdeal.Fr

end
-- ==== Proof.Front.RunA.lean ====
module

public import proofs.«01_k».proof.Proof.Front.Step

@[expose] public section

set_option maxRecDepth 16384

noncomputable section

namespace Cert.FrontIdeal.Fr

open Cert.FrontIdeal Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 20000000 in
/-- The body at the first point. -/
theorem run_A (c : Dev nD) (i : grid0.Coords) (arg1 : Memref sig .tc .smem S41 .i32) (harg1 : arg1.IsWhole) (arg2 : Memref sig .tc .vmem S512x2048 .bf16) (harg2 : arg2.IsWhole) (arg3 : Memref sig .tc .vmem S1x128 .i32) (harg3 : arg3.IsWhole) (arg4 : Memref sig .tc .vmem S1x2048 .f32) (harg4 : arg4.IsWhole) (arg5 : Memref sig .tc .vmem S2048x6144 .i8) (harg5 : arg5.IsWhole) (arg6 : Memref sig .tc .vmem S1x6144 .f32) (harg6 : arg6.IsWhole) (arg7 : Memref sig .tc .vmem S3x2048 .f32) (harg7 : arg7.IsWhole) (arg8 : Memref sig .tc .vmem S2048x2048 .i8) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S40x2x2048 .f32) (harg12 : arg12.IsWhole) (arg13 : Memref sig .tc .vmem S512x2048 .i8) (harg13 : arg13.IsWhole) (arg14 : Memref sig .tc .vmem S1x4x128 .f32) (harg14 : arg14.IsWhole) (arg15 : Memref sig .tc .vmem S512x2048 .i8) (harg15 : arg15.IsWhole) (arg16 : Memref sig .tc .vmem S1x4x128 .f32) (harg16 : arg16.IsWhole) (arg17 : Memref sig .tc .vmem S512x2048 .i8) (harg17 : arg17.IsWhole) (arg18 : Memref sig .tc .vmem S1x4x128 .f32) (harg18 : arg18.IsWhole) (arg19 : Memref sig .tc .vmem S512x2048 .bf16) (harg19 : arg19.IsWhole) (arg20 : Memref sig .tc .vmem S520x2048 .f32) (harg20 : arg20.IsWhole) (arg21 : Memref sig .tc .vmem S512x2048 .f32) (harg21 : arg21.IsWhole) (arg22 : Memref sig .tc .vmem S8x2048 .f32) (harg22 : arg22.IsWhole) (hc1 : k0_cond1 i = 1#1)
    (X1 : BufTy.Contents (Elt F) arg1.view.ty) (x2 : Vec F S512x2048 .bf16) (x3 : Vec F S1x128 .i32) (x4 : Vec F S1x2048 .f32) (x5 : Vec F S2048x6144 .i8) (x6 : Vec F S1x6144 .f32) (x7 : Vec F S3x2048 .f32) (x8 : Vec F S2048x2048 .i8) (x9 : Vec F S1x2048 .f32) (x10 : Vec F S1x2048 .f32) (E : Set ℕ) (K : PUnit → sProp 𝕄) :
    iprop(before c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X1 x2 x3 x4 x5 x6 x7 x8 x9 x10 ∗ (after c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X1 x2 x3 x4 x5 x6 x7 x8 x9 x10 -∗ K ⟨⟩))
      ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_front_eq_skeleton]; unfold cc0_front_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold before after owns
  iintro ⟨⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, %hf21, H21⟩, ⟨%d22, %f22, %hf22, H22⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  sl_exec (disch := first | sl_exact hc1)
  sl_step
  iapply Hk
  isplitl [H1]
  · iexact H1
  isplitl [H2]
  · iexists _; isplitr; swap; · iexact H2
    ipureintro; exact (harg2.read_unread _)
  isplitl [H3]
  · iexists _; isplitr; swap; · iexact H3
    ipureintro; exact (harg3.read_unread _)
  isplitl [H4]
  · iexists _; isplitr; swap; · iexact H4
    ipureintro; exact (harg4.read_unread _)
  isplitl [H5]
  · iexists _; isplitr; swap; · iexact H5
    ipureintro; exact (harg5.read_unread _)
  isplitl [H6]
  · iexists _; isplitr; swap; · iexact H6
    ipureintro; exact (harg6.read_unread _)
  isplitl [H7]
  · iexists _; isplitr; swap; · iexact H7
    ipureintro; exact (harg7.read_unread _)
  isplitl [H8]
  · iexists _; isplitr; swap; · iexact H8
    ipureintro; exact (harg8.read_unread _)
  isplitl [H9]
  · iexists _; isplitr; swap; · iexact H9
    ipureintro; exact (harg9.read_unread _)
  isplitl [H10]
  · iexists _; isplitr; swap; · iexact H10
    ipureintro; exact (harg10.read_unread _)
  isplitl [H11]
  · iexists _, _; isplitr; swap; · iexact H11
    ipureintro; rfl
  isplitl [H12]
  · iexists _, _; isplitr; swap; · iexact H12
    ipureintro; rfl
  isplitl [H13]
  · iexists _; isplitr; swap; · iexact H13
    ipureintro; (try sl_unfold_run_names); simp (disch := decide) only [codesBlk, scalesPut, scaleCol, scaleTop, View.readCov_full, View.readCov_fill, ld_window, readAt_window, read_put, View.writes_nil, Memref.IsWhole.read_unread, window_full, put_full]; try rfl
  isplitl [H14]
  · iexists _; isplitr; swap; · iexact H14
    ipureintro; refine Eq.trans ?_ (scalesPut_eq (arg14.view.read (Elt F) arg14.view.junk) _ _); (try sl_unfold_run_names); simp (disch := decide) only [codesBlk, scalesPut, scaleCol, scaleTop, View.readCov_full, View.readCov_fill, ld_window, readAt_window, read_put, View.writes_nil, Memref.IsWhole.read_unread, window_full, put_full]; try rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexists _, _; isplitr; swap; · iexact H22
  ipureintro; rfl

end Cert.FrontIdeal.Fr

end
-- ==== Proof.Front.RunB.lean ====
module

public import proofs.«01_k».proof.Proof.Front.Step

@[expose] public section

set_option maxRecDepth 16384

noncomputable section

namespace Cert.FrontIdeal.Fr

open Cert.FrontIdeal Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 20000000 in
/-- The body at a later point. -/
theorem run_B (c : Dev nD) (i : grid0.Coords) (arg1 : Memref sig .tc .smem S41 .i32) (harg1 : arg1.IsWhole) (arg2 : Memref sig .tc .vmem S512x2048 .bf16) (harg2 : arg2.IsWhole) (arg3 : Memref sig .tc .vmem S1x128 .i32) (harg3 : arg3.IsWhole) (arg4 : Memref sig .tc .vmem S1x2048 .f32) (harg4 : arg4.IsWhole) (arg5 : Memref sig .tc .vmem S2048x6144 .i8) (harg5 : arg5.IsWhole) (arg6 : Memref sig .tc .vmem S1x6144 .f32) (harg6 : arg6.IsWhole) (arg7 : Memref sig .tc .vmem S3x2048 .f32) (harg7 : arg7.IsWhole) (arg8 : Memref sig .tc .vmem S2048x2048 .i8) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S40x2x2048 .f32) (harg12 : arg12.IsWhole) (arg13 : Memref sig .tc .vmem S512x2048 .i8) (harg13 : arg13.IsWhole) (arg14 : Memref sig .tc .vmem S1x4x128 .f32) (harg14 : arg14.IsWhole) (arg15 : Memref sig .tc .vmem S512x2048 .i8) (harg15 : arg15.IsWhole) (arg16 : Memref sig .tc .vmem S1x4x128 .f32) (harg16 : arg16.IsWhole) (arg17 : Memref sig .tc .vmem S512x2048 .i8) (harg17 : arg17.IsWhole) (arg18 : Memref sig .tc .vmem S1x4x128 .f32) (harg18 : arg18.IsWhole) (arg19 : Memref sig .tc .vmem S512x2048 .bf16) (harg19 : arg19.IsWhole) (arg20 : Memref sig .tc .vmem S520x2048 .f32) (harg20 : arg20.IsWhole) (arg21 : Memref sig .tc .vmem S512x2048 .f32) (harg21 : arg21.IsWhole) (arg22 : Memref sig .tc .vmem S8x2048 .f32) (harg22 : arg22.IsWhole) (hc1 : ¬ k0_cond1 i = 1#1)
    (X1 : BufTy.Contents (Elt F) arg1.view.ty) (x2 : Vec F S512x2048 .bf16) (x3 : Vec F S1x128 .i32) (x4 : Vec F S1x2048 .f32) (x5 : Vec F S2048x6144 .i8) (x6 : Vec F S1x6144 .f32) (x7 : Vec F S3x2048 .f32) (x8 : Vec F S2048x2048 .i8) (x9 : Vec F S1x2048 .f32) (x10 : Vec F S1x2048 .f32) (E : Set ℕ) (K : PUnit → sProp 𝕄) :
    iprop(before c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X1 x2 x3 x4 x5 x6 x7 x8 x9 x10 ∗ (after c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X1 x2 x3 x4 x5 x6 x7 x8 x9 x10 -∗ K ⟨⟩))
      ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_front_eq_skeleton]; unfold cc0_front_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold before after owns
  iintro ⟨⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, %hf21, H21⟩, ⟨%d22, %f22, %hf22, H22⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  sl_exec (disch := first | sl_exact hc1)
  sl_step
  iapply Hk
  isplitl [H1]
  · iexact H1
  isplitl [H2]
  · iexists _; isplitr; swap; · iexact H2
    ipureintro; exact (harg2.read_unread _)
  isplitl [H3]
  · iexists _; isplitr; swap; · iexact H3
    ipureintro; exact (harg3.read_unread _)
  isplitl [H4]
  · iexists _; isplitr; swap; · iexact H4
    ipureintro; exact (harg4.read_unread _)
  isplitl [H5]
  · iexists _; isplitr; swap; · iexact H5
    ipureintro; exact (harg5.read_unread _)
  isplitl [H6]
  · iexists _; isplitr; swap; · iexact H6
    ipureintro; exact (harg6.read_unread _)
  isplitl [H7]
  · iexists _; isplitr; swap; · iexact H7
    ipureintro; exact (harg7.read_unread _)
  isplitl [H8]
  · iexists _; isplitr; swap; · iexact H8
    ipureintro; exact (harg8.read_unread _)
  isplitl [H9]
  · iexists _; isplitr; swap; · iexact H9
    ipureintro; exact (harg9.read_unread _)
  isplitl [H10]
  · iexists _; isplitr; swap; · iexact H10
    ipureintro; exact (harg10.read_unread _)
  isplitl [H11]
  · iexists _, _; isplitr; swap; · iexact H11
    ipureintro; rfl
  isplitl [H12]
  · iexists _, _; isplitr; swap; · iexact H12
    ipureintro; rfl
  isplitl [H13]
  · iexists _; isplitr; swap; · iexact H13
    ipureintro; (try sl_unfold_run_names); simp (disch := decide) only [codesBlk, scalesPut, scaleCol, scaleTop, View.readCov_full, View.readCov_fill, ld_window, readAt_window, read_put, View.writes_nil, Memref.IsWhole.read_unread, window_full, put_full]; try rfl
  isplitl [H14]
  · iexists _; isplitr; swap; · iexact H14
    ipureintro; refine Eq.trans ?_ (scalesPut_eq (arg14.view.read (Elt F) arg14.view.junk) _ _); (try sl_unfold_run_names); simp (disch := decide) only [codesBlk, scalesPut, scaleCol, scaleTop, View.readCov_full, View.readCov_fill, ld_window, readAt_window, read_put, View.writes_nil, Memref.IsWhole.read_unread, window_full, put_full]; try rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexists _, _; isplitr; swap; · iexact H22
  ipureintro; rfl

end Cert.FrontIdeal.Fr

end
-- ==== Proof.Front.Data.lean ====
module

public import proofs.«01_k».proof.Proof.Front.RunA
public import proofs.«01_k».proof.Proof.Front.RunB
public import Idealize.ShloMosaic.Lib.Claim

@[expose] public section

set_option maxRecDepth 16384

noncomputable section

namespace Cert.FrontIdeal.Fr

open Cert.FrontIdeal Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The region's entry: the table and the blocks -/

/-- The buffers as the region finds them: as launched. -/
abbrev V (c : Dev nD) (b : Ref sig .tc) : Buf (Elt F) ((c : Thread nD τ).loc b) := m ((c : Thread nD τ).loc b)

/-- The program is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The prefetched table's contents. -/
def tbl : pre0.Contents (Elt F) := fun j => V m (0 : Dev nD) (pre0.ref j)
/-- There is one device. -/
theorem V_pre (c : Dev nD) (j : Fin 1) : V m c (pre0.ref j) = tbl m j := by
  obtain rfl : c = 0 := Subsingleton.elim _ _; rfl
/-- No window's place depends on the table, so every table is admissible. -/
abbrev adm : (pcfg0 (F := F)).Adm := ⟨tbl m, trivial⟩
/-- The pipeline at the launch's table. -/
abbrev cfgM : Pipeline.Cfg sig Λ₀ := cfg0 (adm m)
/-- The table as the body is handed it. -/
abbrev tbM : Memref sig .tc .smem S41 .i32 := Memref.whole main_arg1

/-- The half of the table that the body holds. -/
theorem PhiT_eq (c : Dev nD) : (Pipeline.ΦT pre0 (tbl m) c : sProp 𝕄) = iprop(tbM.view.loc (c : Thread nD τ) ↦[tbM.view.set]{fullShare.right} (tbl m 0)) := by
  unfold Pipeline.ΦT Pipeline.prefHeld
  rw [show (Finset.univ : Finset (Fin 1)) = {(0 : Fin 1)} from by decide, bigSep_singleton]
  simp only [tbM, Memref.view_whole, View.set_whole]
  rfl

/-- A window's block at a point, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Window 0 holds its block before every point, whatever point fetched it. -/
theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 holds its block before every point, whatever point fetched it. -/
theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 holds its block before every point, whatever point fetched it. -/
theorem before_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 holds its block before every point, whatever point fetched it. -/
theorem before_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 holds its block before every point, whatever point fetched it. -/
theorem before_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5 holds its block before every point, whatever point fetched it. -/
theorem before_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6 holds its block before every point, whatever point fetched it. -/
theorem before_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7 holds its block before every point, whatever point fetched it. -/
theorem before_7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Window 8 holds its block before every point, whatever point fetched it. -/
theorem before_8_of {c : Dev nD} (dat : Dat τ (Elt F) Unit ℕ (UR sig nD τ) ℕ (cfgM m) c) (hA : dat.A 8 = V m c (Pipeline.arrRef spec0 8))
    (hafter : ∀ t, dat.after 8 t = iblk m c 8 t) (t : Fin (cfgM m).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The staging buffers and the scratch -/

abbrev ms0 (t : Fin (cfgM m).N) : Memref sig .tc .vmem S512x2048 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x128 .i32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x2048 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S2048x6144 .i8 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x6144 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S3x2048 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S2048x2048 .i8 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S1x2048 .f32 := spec0_7.stage ((cfgM m).slots t 7)
abbrev hs7 (t : Fin (cfgM m).N) : (ms7 m t).IsWhole := hstage0_7 (((cfgM m).slots t 7).cast nbuf0_7)
abbrev ms8 (t : Fin (cfgM m).N) : Memref sig .tc .vmem S1x2048 .f32 := spec0_8.stage ((cfgM m).slots t 8)
abbrev hs8 (t : Fin (cfgM m).N) : (ms8 m t).IsWhole := hstage0_8 (((cfgM m).slots t 8).cast nbuf0_8)
abbrev ms9 (t : Fin (cfgM m).N) : Memref sig .tc .vmem S512x2048 .f32 := spec0_9.stage ((cfgM m).slots t 9)
abbrev hs9 (t : Fin (cfgM m).N) : (ms9 m t).IsWhole := hstage0_9 (((cfgM m).slots t 9).cast nbuf0_9)
abbrev ms10 (t : Fin (cfgM m).N) : Memref sig .tc .vmem S40x2x2048 .f32 := spec0_10.stage ((cfgM m).slots t 10)
abbrev hs10 (t : Fin (cfgM m).N) : (ms10 m t).IsWhole := hstage0_10 (((cfgM m).slots t 10).cast nbuf0_10)
abbrev ms11 (t : Fin (cfgM m).N) : Memref sig .tc .vmem S512x2048 .i8 := spec0_11.stage ((cfgM m).slots t 11)
abbrev hs11 (t : Fin (cfgM m).N) : (ms11 m t).IsWhole := hstage0_11 (((cfgM m).slots t 11).cast nbuf0_11)
abbrev ms12 (t : Fin (cfgM m).N) : Memref sig .tc .vmem S1x4x128 .f32 := spec0_12.stage ((cfgM m).slots t 12)
abbrev hs12 (t : Fin (cfgM m).N) : (ms12 m t).IsWhole := hstage0_12 (((cfgM m).slots t 12).cast nbuf0_12)
abbrev ms13 (t : Fin (cfgM m).N) : Memref sig .tc .vmem S512x2048 .i8 := spec0_13.stage ((cfgM m).slots t 13)
abbrev hs13 (t : Fin (cfgM m).N) : (ms13 m t).IsWhole := hstage0_13 (((cfgM m).slots t 13).cast nbuf0_13)
abbrev ms14 (t : Fin (cfgM m).N) : Memref sig .tc .vmem S1x4x128 .f32 := spec0_14.stage ((cfgM m).slots t 14)
abbrev hs14 (t : Fin (cfgM m).N) : (ms14 m t).IsWhole := hstage0_14 (((cfgM m).slots t 14).cast nbuf0_14)
abbrev ms15 (t : Fin (cfgM m).N) : Memref sig .tc .vmem S512x2048 .i8 := spec0_15.stage ((cfgM m).slots t 15)
abbrev hs15 (t : Fin (cfgM m).N) : (ms15 m t).IsWhole := hstage0_15 (((cfgM m).slots t 15).cast nbuf0_15)
abbrev ms16 (t : Fin (cfgM m).N) : Memref sig .tc .vmem S1x4x128 .f32 := spec0_16.stage ((cfgM m).slots t 16)
abbrev hs16 (t : Fin (cfgM m).N) : (ms16 m t).IsWhole := hstage0_16 (((cfgM m).slots t 16).cast nbuf0_16)
abbrev sc0 : Memref sig .tc .vmem S512x2048 .bf16 := Memref.whole cc0_scratch0
abbrev sc1 : Memref sig .tc .vmem S520x2048 .f32 := Memref.whole cc0_scratch1
abbrev sc2 : Memref sig .tc .vmem S512x2048 .f32 := Memref.whole cc0_scratch2
abbrev sc3 : Memref sig .tc .vmem S8x2048 .f32 := Memref.whole cc0_scratch3

/-- The scratch and the generator register, as the launch hands them over. -/
theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ ∃ r, prngReg c r) := by
  unfold Pipeline.ΦA; rw [scopedRest0_eq]; simp only [sc0, sc1, sc2, sc3, owns_whole]; try rfl

/-- The body as the pipeline calls it at a point. -/
abbrev bodyAt0 (t : Fin (cfgM m).N) : Prog (TpuEff nD τ sig (Elt F) Λ₀ .tc) PUnit :=
  cc0_front (grid0.coords t) tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) (ms12 m t) (hs12 m t) (ms13 m t) (hs13 m t) (ms14 m t) (hs14 m t) (ms15 m t) (hs15 m t) (ms16 m t) (hs16 m t) sc0 (Memref.isWhole_whole _) sc1 (Memref.isWhole_whole _) sc2 (Memref.isWhole_whole _) sc3 (Memref.isWhole_whole _)

/-! ## The proof data -/

/-- The windows of whose contents nothing is named: every result but the first norm's codes and scales. -/
def forgets0 : Fin 17 → Bool := fun w => w.val == 9 || w.val == 10 || decide (13 ≤ w.val)

/-- The first norm's codes and scales of a point's tile. -/
def codesT (c : Dev nD) (t : Fin (cfgM m).N) : Vec F S512x2048 .i8 := codesBlk (iblk m c 0 t) (iblk m c 2 t)
/-- The first norm's scales of a point's tile. -/
def scalesT (c : Dev nD) (t : Fin (cfgM m).N) : Vec F S1x4x128 .f32 := scalesBlk (iblk m c 0 t) (iblk m c 2 t)

/-- The arrays as the region finds them; after a point, each input's buffer at its block, the first norm's codes and scales at the tile's. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := (cfgM m)) ⟨9, h⟩ t
    | ⟨10, h⟩ => Pipeline.Dat.unnamed (cfg := (cfgM m)) ⟨10, h⟩ t
    | ⟨11, _⟩ => codesT m c t
    | ⟨12, _⟩ => scalesT m c t
    | ⟨13, h⟩ => Pipeline.Dat.unnamed (cfg := (cfgM m)) ⟨13, h⟩ t
    | ⟨14, h⟩ => Pipeline.Dat.unnamed (cfg := (cfgM m)) ⟨14, h⟩ t
    | ⟨15, h⟩ => Pipeline.Dat.unnamed (cfg := (cfgM m)) ⟨15, h⟩ t
    | ⟨16, h⟩ => Pipeline.Dat.unnamed (cfg := (cfgM m)) ⟨16, h⟩ t
    | ⟨k + 17, h⟩ => absurd h (by show ¬ k + 17 < 17; omega)
  Φ _ := iprop(Pipeline.ΦA spec0 c ∗ Pipeline.ΦT pre0 (tbl m) c)
  q _ := fullShare
  owed _ := 0

/-- The arrays are the region-entry contents. -/
theorem A_eq (c : Dev nD) (w : Fin (cfgM m).W) : (dats m 0 c).A w = V m c (Pipeline.arrRef spec0 w) := by
  dsimp only [dats]

/-- The contents named for window 0 after a point. -/
theorem after0 (c : Dev nD) (t : Fin (cfgM m).N) : (dats m 0 c).after 0 t = iblk m c 0 t := by dsimp only [dats]; try rfl
/-- The contents named for window 1 after a point. -/
theorem after1 (c : Dev nD) (t : Fin (cfgM m).N) : (dats m 0 c).after 1 t = iblk m c 1 t := by dsimp only [dats]; try rfl
/-- The contents named for window 2 after a point. -/
theorem after2 (c : Dev nD) (t : Fin (cfgM m).N) : (dats m 0 c).after 2 t = iblk m c 2 t := by dsimp only [dats]; try rfl
/-- The contents named for window 3 after a point. -/
theorem after3 (c : Dev nD) (t : Fin (cfgM m).N) : (dats m 0 c).after 3 t = iblk m c 3 t := by dsimp only [dats]; try rfl
/-- The contents named for window 4 after a point. -/
theorem after4 (c : Dev nD) (t : Fin (cfgM m).N) : (dats m 0 c).after 4 t = iblk m c 4 t := by dsimp only [dats]; try rfl
/-- The contents named for window 5 after a point. -/
theorem after5 (c : Dev nD) (t : Fin (cfgM m).N) : (dats m 0 c).after 5 t = iblk m c 5 t := by dsimp only [dats]; try rfl
/-- The contents named for window 6 after a point. -/
theorem after6 (c : Dev nD) (t : Fin (cfgM m).N) : (dats m 0 c).after 6 t = iblk m c 6 t := by dsimp only [dats]; try rfl
/-- The contents named for window 7 after a point. -/
theorem after7 (c : Dev nD) (t : Fin (cfgM m).N) : (dats m 0 c).after 7 t = iblk m c 7 t := by dsimp only [dats]; try rfl
/-- The contents named for window 8 after a point. -/
theorem after8 (c : Dev nD) (t : Fin (cfgM m).N) : (dats m 0 c).after 8 t = iblk m c 8 t := by dsimp only [dats]; try rfl
/-- The contents named for window 11 after a point. -/
theorem after11 (c : Dev nD) (t : Fin (cfgM m).N) : (dats m 0 c).after 11 t = codesT m c t := by dsimp only [dats]; try rfl
/-- The contents named for window 12 after a point. -/
theorem after12 (c : Dev nD) (t : Fin (cfgM m).N) : (dats m 0 c).after 12 t = scalesT m c t := by dsimp only [dats]; try rfl
/-- Before a point, window 0 holds its block. -/
theorem before0 (c : Dev nD) (t : Fin (cfgM m).N) (d) : (dats m 0 c).before 0 t d = iblk m c 0 t := before_0_of m (dats m 0 c) (A_eq m c 0) (after0 m c) t d
/-- Before a point, window 1 holds its block. -/
theorem before1 (c : Dev nD) (t : Fin (cfgM m).N) (d) : (dats m 0 c).before 1 t d = iblk m c 1 t := before_1_of m (dats m 0 c) (A_eq m c 1) (after1 m c) t d
/-- Before a point, window 2 holds its block. -/
theorem before2 (c : Dev nD) (t : Fin (cfgM m).N) (d) : (dats m 0 c).before 2 t d = iblk m c 2 t := before_2_of m (dats m 0 c) (A_eq m c 2) (after2 m c) t d
/-- Before a point, window 3 holds its block. -/
theorem before3 (c : Dev nD) (t : Fin (cfgM m).N) (d) : (dats m 0 c).before 3 t d = iblk m c 3 t := before_3_of m (dats m 0 c) (A_eq m c 3) (after3 m c) t d
/-- Before a point, window 4 holds its block. -/
theorem before4 (c : Dev nD) (t : Fin (cfgM m).N) (d) : (dats m 0 c).before 4 t d = iblk m c 4 t := before_4_of m (dats m 0 c) (A_eq m c 4) (after4 m c) t d
/-- Before a point, window 5 holds its block. -/
theorem before5 (c : Dev nD) (t : Fin (cfgM m).N) (d) : (dats m 0 c).before 5 t d = iblk m c 5 t := before_5_of m (dats m 0 c) (A_eq m c 5) (after5 m c) t d
/-- Before a point, window 6 holds its block. -/
theorem before6 (c : Dev nD) (t : Fin (cfgM m).N) (d) : (dats m 0 c).before 6 t d = iblk m c 6 t := before_6_of m (dats m 0 c) (A_eq m c 6) (after6 m c) t d
/-- Before a point, window 7 holds its block. -/
theorem before7 (c : Dev nD) (t : Fin (cfgM m).N) (d) : (dats m 0 c).before 7 t d = iblk m c 7 t := before_7_of m (dats m 0 c) (A_eq m c 7) (after7 m c) t d
/-- Before a point, window 8 holds its block. -/
theorem before8 (c : Dev nD) (t : Fin (cfgM m).N) (d) : (dats m 0 c).before 8 t d = iblk m c 8 t := before_8_of m (dats m 0 c) (A_eq m c 8) (after8 m c) t d

/-! ## The body obligation -/

/-- What the body is called with at a point. -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d))
    ∗ (∃ d, owns (c : Thread nD τ) (ms8 m t) fullShare ((dats m 0 c).before 8 t d))
    ∗ (∃ d, owns (c : Thread nD τ) (ms9 m t) fullShare d)
    ∗ (∃ d, owns (c : Thread nD τ) (ms10 m t) fullShare d)
    ∗ (∃ d, owns (c : Thread nD τ) (ms11 m t) fullShare ((dats m 0 c).before 11 t d))
    ∗ (∃ d, owns (c : Thread nD τ) (ms12 m t) fullShare ((dats m 0 c).before 12 t d))
    ∗ (∃ d, owns (c : Thread nD τ) (ms13 m t) fullShare d)
    ∗ (∃ d, owns (c : Thread nD τ) (ms14 m t) fullShare d)
    ∗ (∃ d, owns (c : Thread nD τ) (ms15 m t) fullShare d)
    ∗ (∃ d, owns (c : Thread nD τ) (ms16 m t) fullShare d))
/-- What the body leaves. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t)
    ∗ owns (c : Thread nD τ) (ms7 m t) fullShare ((dats m 0 c).after 7 t)
    ∗ owns (c : Thread nD τ) (ms8 m t) fullShare ((dats m 0 c).after 8 t)
    ∗ (∃ d, owns (c : Thread nD τ) (ms9 m t) fullShare d)
    ∗ (∃ d, owns (c : Thread nD τ) (ms10 m t) fullShare d)
    ∗ owns (c : Thread nD τ) (ms11 m t) fullShare ((dats m 0 c).after 11 t)
    ∗ owns (c : Thread nD τ) (ms12 m t) fullShare ((dats m 0 c).after 12 t)
    ∗ (∃ d, owns (c : Thread nD τ) (ms13 m t) fullShare d)
    ∗ (∃ d, owns (c : Thread nD τ) (ms14 m t) fullShare d)
    ∗ (∃ d, owns (c : Thread nD τ) (ms15 m t) fullShare d)
    ∗ (∃ d, owns (c : Thread nD τ) (ms16 m t) fullShare d))

/-- The body at a point, either of the two cases. -/
theorem run (c : Dev nD) (i : grid0.Coords) (arg1 : Memref sig .tc .smem S41 .i32) (harg1 : arg1.IsWhole) (arg2 : Memref sig .tc .vmem S512x2048 .bf16) (harg2 : arg2.IsWhole) (arg3 : Memref sig .tc .vmem S1x128 .i32) (harg3 : arg3.IsWhole) (arg4 : Memref sig .tc .vmem S1x2048 .f32) (harg4 : arg4.IsWhole) (arg5 : Memref sig .tc .vmem S2048x6144 .i8) (harg5 : arg5.IsWhole) (arg6 : Memref sig .tc .vmem S1x6144 .f32) (harg6 : arg6.IsWhole) (arg7 : Memref sig .tc .vmem S3x2048 .f32) (harg7 : arg7.IsWhole) (arg8 : Memref sig .tc .vmem S2048x2048 .i8) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S40x2x2048 .f32) (harg12 : arg12.IsWhole) (arg13 : Memref sig .tc .vmem S512x2048 .i8) (harg13 : arg13.IsWhole) (arg14 : Memref sig .tc .vmem S1x4x128 .f32) (harg14 : arg14.IsWhole) (arg15 : Memref sig .tc .vmem S512x2048 .i8) (harg15 : arg15.IsWhole) (arg16 : Memref sig .tc .vmem S1x4x128 .f32) (harg16 : arg16.IsWhole) (arg17 : Memref sig .tc .vmem S512x2048 .i8) (harg17 : arg17.IsWhole) (arg18 : Memref sig .tc .vmem S1x4x128 .f32) (harg18 : arg18.IsWhole) (arg19 : Memref sig .tc .vmem S512x2048 .bf16) (harg19 : arg19.IsWhole) (arg20 : Memref sig .tc .vmem S520x2048 .f32) (harg20 : arg20.IsWhole) (arg21 : Memref sig .tc .vmem S512x2048 .f32) (harg21 : arg21.IsWhole) (arg22 : Memref sig .tc .vmem S8x2048 .f32) (harg22 : arg22.IsWhole)
    (X1 : BufTy.Contents (Elt F) arg1.view.ty) (x2 : Vec F S512x2048 .bf16) (x3 : Vec F S1x128 .i32) (x4 : Vec F S1x2048 .f32) (x5 : Vec F S2048x6144 .i8) (x6 : Vec F S1x6144 .f32) (x7 : Vec F S3x2048 .f32) (x8 : Vec F S2048x2048 .i8) (x9 : Vec F S1x2048 .f32) (x10 : Vec F S1x2048 .f32) (E : Set ℕ) (K : PUnit → sProp 𝕄) :
    iprop(before c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X1 x2 x3 x4 x5 x6 x7 x8 x9 x10 ∗ (after c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X1 x2 x3 x4 x5 x6 x7 x8 x9 x10 -∗ K ⟨⟩))
      ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  by_cases h : k0_cond1 i = 1#1
  · exact run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X1 x2 x3 x4 x5 x6 x7 x8 x9 x10 E K
  · exact run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X1 x2 x3 x4 x5 x6 x7 x8 x9 x10 E K

set_option maxHeartbeats 4000000 in
/-- The body's obligation at a point: the windows' blocks in, the first norm's codes and scales out. -/
theorem sound_body (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0, before1, before2, before3, before4, before5, before6, before7, before8]
  rw [show (dats m 0 c).Φ t.succ = (dats m 0 c).Φ t.castSucc from rfl, show (dats m 0 c).owesAt () t.succ = (dats m 0 c).owesAt () t.castSucc from rfl,
    after0, after1, after2, after3, after4, after5, after6, after7, after8, after11, after12]
  rw [show (dats m 0 c).Φ t.castSucc = iprop(Pipeline.ΦA spec0 c ∗ Pipeline.ΦT pre0 (tbl m) c) from rfl, PhiA_eq, PhiT_eq]
  iintro ⟨⟨⟨⟨S0, S1, S2, S3⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (run c (grid0.coords t) tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) (ms12 m t) (hs12 m t) (ms13 m t) (hs13 m t) (ms14 m t) (hs14 m t) (ms15 m t) (hs15 m t) (ms16 m t) (hs16 m t) sc0 (Memref.isWhole_whole _) sc1 (Memref.isWhole_whole _) sc2 (Memref.isWhole_whole _) sc3 (Memref.isWhole_whole _) (tbl m 0) (iblk m c 0 t) (iblk m c 1 t) (iblk m c 2 t) (iblk m c 3 t) (iblk m c 4 t) (iblk m c 5 t) (iblk m c 6 t) (iblk m c 7 t) (iblk m c 8 t) Set.univ _)
  unfold before after
  isplitl [HT H0 H1 H2 H3 H4 H5 H6 H7 H8 H9 H10 H11 H12 H13 H14 H15 H16 S0 S1 S2 S3]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [S0]; · iexact S0
    isplitl [S1]; · iexact S1
    isplitl [S2]; · iexact S2
    iexact S3
  iintro ⟨HT, H0, H1, H2, H3, H4, H5, H6, H7, H8, H9, H10, H11, H12, H13, H14, H15, H16, S0, S1, S2, S3⟩
  isplitl [S0 S1 S2 S3 Hg HT]
  · isplitl [S0 S1 S2 S3 Hg]
    · isplitl [S0 S1 S2 S3]
      · isplitl [S0]; · iexact S0
        isplitl [S1]; · iexact S1
        isplitl [S2]; · iexact S2
        iexact S3
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row is the body. -/
theorem defs₀_row (t : Fin (cfgM m).N) : defs₀ (F := F) .tc (cfgM m).body ((cfgM m).bodyArgs t ((cfgM m).slots t)) = bodyAt0 m t := by
  unfold defs₀; rw [Defs.onTc_tc]

/-- The obligation at every point. -/
theorem body_obligation (c : Dev nD) : BodyObligation (dats (F := F) m 0 c) (defs₀ (F := F)) Variants.none () Set.univ forgets0 := fun t => by
  rw [bigSep_W0, bigSep_W0, defs₀_row m]
  exact triple_restated (sound_body m c t) rfl .rfl fun _ => .rfl

/-! ## The run and the frame -/

set_option backward.isDefEq.respectTransparency.types false in
/-- Every weakly fair execution ends, with the inputs unchanged, the first norm's codes and scales as named, and every counter at zero. -/
theorem run_main_quiescent : θ_run defs (onTc (τ := τ) (main (F := F))) (s₀ m ρ) (fun r => (Pipeline.RDat.FramePost ((Pipeline.pin pcfgs fun _ => adm m) 0) (fun c => (dats m 0 c).toRForget forgets0) (V m)) r ∧ r.2.sem = fun _ => 0) :=
  Pipeline.θ_run_frameP_forget (Q' := _) pcfgs (fun _ => adm m) (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

/-- What the run ends with, array by array. -/
theorem run_main : θ_run defs (onTc (τ := τ) (main (F := F))) (s₀ m ρ) (fun r => (∀ c : Dev nD,
      r.2.mem ((c.tc : Thread nD τ).loc main_v0_2) = (dats m 0 c).arrAt 11 (cfgM m).N
      ∧ r.2.mem ((c.tc : Thread nD τ).loc main_v0_3) = (dats m 0 c).arrAt 12 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => ⟨((dats m 0 c).toRForget_arrAt_iff (fgt := forgets0) (w := 11) rfl (cfgM m).N _).mp ((h.1 c).1 11),
      ((dats m 0 c).toRForget_arrAt_iff (fgt := forgets0) (w := 12) rfl (cfgM m).N _).mp ((h.1 c).1 12),
      (Pipeline.RDat.FramePost.arr_in h.1 c 0 rfl).trans (A_eq m c 0),
      (h.1 c).2 main_arg1 (by decide : main_arg1 ∈ Pipeline.restRefs sig spec0),
      (Pipeline.RDat.FramePost.arr_in h.1 c 1 rfl).trans (A_eq m c 1),
      (Pipeline.RDat.FramePost.arr_in h.1 c 2 rfl).trans (A_eq m c 2),
      (Pipeline.RDat.FramePost.arr_in h.1 c 3 rfl).trans (A_eq m c 3),
      (Pipeline.RDat.FramePost.arr_in h.1 c 4 rfl).trans (A_eq m c 4),
      (Pipeline.RDat.FramePost.arr_in h.1 c 5 rfl).trans (A_eq m c 5),
      (Pipeline.RDat.FramePost.arr_in h.1 c 6 rfl).trans (A_eq m c 6),
      (Pipeline.RDat.FramePost.arr_in h.1 c 7 rfl).trans (A_eq m c 7),
      (Pipeline.RDat.FramePost.arr_in h.1 c 8 rfl).trans (A_eq m c 8)⟩, h.2⟩) (run_main_quiescent m ρ)

/-- The frame: from any memory every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => (h.1 c).2.2, h.2⟩) (run_main m ρ)

end Cert.FrontIdeal.Fr

end
-- ==== Proof.FrontBits.Step.lean ====
module

public import proofs.«01_k».proof.Proof.Gen.Front.Launch
public import proofs.«01_k».proof.Proof.Gen.Front.Skeleton
public import Idealize.ShloMosaic.Lib.Pipeline.FrameBody
public import Idealize.ShloMosaic.Lib.Pipeline.ReadBack
public import Idealize.ShloMosaic.Lib.VecWindow
public import Idealize.ShloMosaic.Lib.Tactic

@[expose] public section

set_option maxRecDepth 16384

noncomputable section

namespace Cert.Front.Fr

open Cert.Front Cert.Front.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

/-! ## The rows the loop over the sequences reads -/

/-- An in-range word's offset: a word between `512 n` and `512 (n + 1)`, less `512 n`, plus two. -/
theorem word_range (n : ℕ) (hn : n < 15) (x : BitVec 32) (h1 : (Scalar.muli (BitVec.ofNat 32 n) 512#32 : BitVec 32).toInt ≤ x.toInt)
    (h2 : x.toInt < (Scalar.muli (Scalar.addi (BitVec.ofNat 32 n) 1#32) 512#32 : BitVec 32).toInt) :
    (Scalar.addi (Scalar.subi x (Scalar.muli (BitVec.ofNat 32 n) 512#32)) 2#32 : BitVec 32).toNat + 1 ≤ 520 := by
  have hx := x.isLt
  simp only [Scalar.muli, Scalar.addi, Scalar.subi, IntOp.muli, IntOp.addi, IntOp.subi, BitVec.toInt_eq_toNat_cond, BitVec.toNat_mul, BitVec.toNat_add, BitVec.toNat_sub, BitVec.toNat_ofNat] at *
  omega

/-- A conjunction of three comparisons that came out true, as the loop's conditions compute it. -/
theorem three_true (a b c : BitVec 1) (h : Scalar.cmpi .ne (Scalar.extui (Scalar.andi (Scalar.andi a b) c) : BitVec 32) 0#32 = 1#1) : b = 1#1 ∧ c = 1#1 := by
  revert h
  revert a b c
  decide

/-- The row the loop reads is inside the buffer for every word of the table. -/
theorem chk_all (i : grid0.Coords) (v w : BitVec 32) : k0_chk1 i v w := by
  refine ⟨fun h a => ?_, fun h a => ?_⟩
  · have h' := three_true _ _ _ h
    have h1 : (Scalar.muli (BitVec.ofNat 32 (i 0).val) 512#32 : BitVec 32).toInt ≤ (Scalar.addi (Scalar.subi w 2#32) 0#32 : BitVec 32).toInt := by
      have e := h'.1
      by_contra hc
      simp [Scalar.cmpi, IntOp.cmpi, BitVec.sle, hc] at e
    have h2 : (Scalar.addi (Scalar.subi w 2#32) 0#32 : BitVec 32).toInt < (Scalar.muli (Scalar.addi (BitVec.ofNat 32 (i 0).val) 1#32) 512#32 : BitVec 32).toInt := by
      have e := h'.2
      by_contra hc
      simp [Scalar.cmpi, IntOp.cmpi, BitVec.slt, hc] at e
    match a with
    | 0 => exact word_range _ (i 0).isLt _ h1 h2
    | 1 => exact le_refl _
  · have h' := three_true _ _ _ h
    have h1 : (Scalar.muli (BitVec.ofNat 32 (i 0).val) 512#32 : BitVec 32).toInt ≤ (Scalar.addi (Scalar.subi w 2#32) 1#32 : BitVec 32).toInt := by
      have e := h'.1
      by_contra hc
      simp [Scalar.cmpi, IntOp.cmpi, BitVec.sle, hc] at e
    have h2 : (Scalar.addi (Scalar.subi w 2#32) 1#32 : BitVec 32).toInt < (Scalar.muli (Scalar.addi (BitVec.ofNat 32 (i 0).val) 1#32) 512#32 : BitVec 32).toInt := by
      have e := h'.2
      by_contra hc
      simp [Scalar.cmpi, IntOp.cmpi, BitVec.slt, hc] at e
    match a with
    | 0 => exact word_range _ (i 0).isLt _ h1 h2
    | 1 => exact le_refl _

/-- The loop over the sequences, whatever it writes into the block of conv states: it reads the table and the products, and holds the block at some contents. -/
@[sl_loop, reducible] def loopInv (𝒱 : Variants) (c : Dev nD) (bd : Option 𝒱.V) (E : Set ℕ) (i : grid0.Coords) (arg1 : Memref sig .tc .smem S41 .i32) (harg1 : arg1.IsWhole) (arg2 : Memref sig .tc .vmem S512x2048 .bf16) (harg2 : arg2.IsWhole) (arg3 : Memref sig .tc .vmem S1x128 .i32) (harg3 : arg3.IsWhole) (arg4 : Memref sig .tc .vmem S1x2048 .f32) (harg4 : arg4.IsWhole) (arg5 : Memref sig .tc .vmem S2048x6144 .i8) (harg5 : arg5.IsWhole) (arg6 : Memref sig .tc .vmem S1x6144 .f32) (harg6 : arg6.IsWhole) (arg7 : Memref sig .tc .vmem S3x2048 .f32) (harg7 : arg7.IsWhole) (arg8 : Memref sig .tc .vmem S2048x2048 .i8) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S40x2x2048 .f32) (harg12 : arg12.IsWhole) (arg13 : Memref sig .tc .vmem S512x2048 .i8) (harg13 : arg13.IsWhole) (arg14 : Memref sig .tc .vmem S1x4x128 .f32) (harg14 : arg14.IsWhole) (arg15 : Memref sig .tc .vmem S512x2048 .i8) (harg15 : arg15.IsWhole) (arg16 : Memref sig .tc .vmem S1x4x128 .f32) (harg16 : arg16.IsWhole) (arg17 : Memref sig .tc .vmem S512x2048 .i8) (harg17 : arg17.IsWhole) (arg18 : Memref sig .tc .vmem S1x4x128 .f32) (harg18 : arg18.IsWhole) (arg19 : Memref sig .tc .vmem S512x2048 .bf16) (harg19 : arg19.IsWhole) (arg20 : Memref sig .tc .vmem S520x2048 .f32) (harg20 : arg20.IsWhole) (arg21 : Memref sig .tc .vmem S512x2048 .f32) (harg21 : arg21.IsWhole) (arg22 : Memref sig .tc .vmem S8x2048 .f32) (harg22 : arg22.IsWhole)
    (X1 : BufTy.Contents (Elt F) arg1.view.ty) (X20 : BufTy.Contents (Elt F) arg20.view.ty) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) where
  inv _ _ := iprop((arg1.view.loc (c : Thread nD τ) ↦[arg1.view.set]{fullShare.right} X1) ∗ (arg20.view.loc (c : Thread nD τ) ↦[arg20.view.set]{fullShare} X20)
    ∗ (∃ f, arg12.view.loc (c : Thread nD τ) ↦[arg12.view.set]{fullShare} f))
  step k acc := by
    have hk : k.val < 40 := Nat.lt_of_lt_of_le k.isLt k0_t1_abs.2.1
    unfold k0_t1_body
    iintro ⟨H1, H20, %f, H12⟩
    by_cases k0_h2 : k0_cond2 i (arg1.view.readAt (Elt F) (Rect.unit (s := S41) (k0_off1 k) S1.size (k0_off1_inb k)).toLoadRect X1 (Shape.Idx.first (numel1_S1.symm ▸ Nat.one_pos))) (arg1.view.readAt (Elt F) (Rect.unit (s := S41) (k0_off2 k) S1.size (k0_off2_inb k)).toLoadRect X1 (Shape.Idx.first (numel1_S1.symm ▸ Nat.one_pos))) = 1#1 <;>
      by_cases k0_h3 : k0_cond3 i (arg1.view.readAt (Elt F) (Rect.unit (s := S41) (k0_off1 k) S1.size (k0_off1_inb k)).toLoadRect X1 (Shape.Idx.first (numel1_S1.symm ▸ Nat.one_pos))) (arg1.view.readAt (Elt F) (Rect.unit (s := S41) (k0_off2 k) S1.size (k0_off2_inb k)).toLoadRect X1 (Shape.Idx.first (numel1_S1.symm ▸ Nat.one_pos))) = 1#1
    all_goals
        sl_exec (disch := first | sl_exact (chk_all _ _ _) | sl_exact k0_h2 | sl_exact k0_h3)
        sl_step
        isplitl [H1]
        · iexact H1
        isplitl [H20]
        · iexact H20
        iexists _
        iexact H12

/-! ## What the first norm writes -/

/-- The first norm's codes of a tile. -/
def codesBlk (x : Vec F S512x2048 .bf16) (w : Vec F S1x2048 .f32) : Vec F S512x2048 .i8 :=
  k0_pay22 (k0_pay7 x) w (k0_pay11 (k0_pay8 x) (k0_pay9 x)) (k0_pay14 (k0_pay12 (k0_pay8 x) (k0_pay9 x)) (k0_pay13 (k0_pay8 x) (k0_pay9 x)))
    (k0_pay17 (k0_pay15 (k0_pay10 (k0_pay8 x) (k0_pay9 x))) (k0_pay16 (k0_pay10 (k0_pay8 x) (k0_pay9 x)))) (k0_pay18 (k0_pay10 (k0_pay8 x) (k0_pay9 x))) (k0_pay19 (k0_pay10 (k0_pay8 x) (k0_pay9 x)))
/-- The first norm's scales of a tile, as a column. -/
def scaleCol (x : Vec F S512x2048 .bf16) (w : Vec F S1x2048 .f32) : Vec F S512x1 .f32 :=
  k0_pay21 (k0_pay7 x) w (k0_pay11 (k0_pay8 x) (k0_pay9 x)) (k0_pay14 (k0_pay12 (k0_pay8 x) (k0_pay9 x)) (k0_pay13 (k0_pay8 x) (k0_pay9 x)))
    (k0_pay17 (k0_pay15 (k0_pay10 (k0_pay8 x) (k0_pay9 x))) (k0_pay16 (k0_pay10 (k0_pay8 x) (k0_pay9 x)))) (k0_pay18 (k0_pay10 (k0_pay8 x) (k0_pay9 x))) (k0_pay19 (k0_pay10 (k0_pay8 x) (k0_pay9 x)))
/-- The first 128 of them. -/
def scaleTop (x : Vec F S512x2048 .bf16) (w : Vec F S1x2048 .f32) : Vec F S128x1 .f32 :=
  k0_pay25 (k0_pay7 x) w (k0_pay11 (k0_pay8 x) (k0_pay9 x)) (k0_pay14 (k0_pay12 (k0_pay8 x) (k0_pay9 x)) (k0_pay13 (k0_pay8 x) (k0_pay9 x)))
    (k0_pay17 (k0_pay15 (k0_pay10 (k0_pay8 x) (k0_pay9 x))) (k0_pay16 (k0_pay10 (k0_pay8 x) (k0_pay9 x)))) (k0_pay18 (k0_pay10 (k0_pay8 x) (k0_pay9 x))) (k0_pay19 (k0_pay10 (k0_pay8 x) (k0_pay9 x)))
/-- The block of scales over a block `y`: four rows of 128 lanes. -/
def scalesPut (y : Vec F S1x4x128 .f32) (x : Vec F S512x2048 .bf16) (w : Vec F S1x2048 .f32) : Vec F S1x4x128 .f32 :=
  put (put (put (put y ![0, 0, 0] S1x1x128.size (k0_pay26 k0_pay24 (Scalar.ofBits .f32 0x00000000#32) (scaleTop x w))) ![0, 1, 0] S1x1x128.size (k0_pay27 (scaleCol x w) k0_pay24))
    ![0, 2, 0] S1x1x128.size (k0_pay28 (scaleCol x w) k0_pay24)) ![0, 3, 0] S1x1x128.size (k0_pay29 (scaleCol x w) k0_pay24)
/-- The block of scales over a block of zeros. -/
def scalesBlk (x : Vec F S512x2048 .bf16) (w : Vec F S1x2048 .f32) : Vec F S1x4x128 .f32 := scalesPut (fun _ => Scalar.ofBits .f32 0x00000000#32) x w

/-- A load at a unit-stride rectangle reads a window of what the view reads. -/
theorem readAt_window {sig : RefSig} {κ : Kind} {sp : Space} {s : Shape} {e : EltTy} {Val : EltTy → Type} (v : View sig κ sp s e) (f : v.ty.Contents Val)
    {off size : Fin s.rank → ℕ} (inb : ∀ a, off a + size a ≤ s.size a) :
    v.readAt Val (Rect.unit off size inb).toLoadRect f = window (v.read Val f) off size inb := rfl

/-- A window of the shape's own sizes is the whole vector. -/
theorem window_full {α : Type} {s : Shape} (x : s.Idx → α) {off : Fin s.rank → ℕ} (inb : ∀ a, off a + s.size a ≤ s.size a) :
    window x off (no_index s.size) inb = x :=
  funext fun y => congrArg x (Rect.emb_unit_full inb y)

/-- A put of the shape's own sizes leaves the payload. -/
theorem put_full {α : Type} {s : Shape} (x : s.Idx → α) {off : Fin s.rank → ℕ} (w : s.Idx → α) (h : ∀ a, off a = 0) :
    put x off (no_index s.size) w = w :=
  funext fun y => (dif_pos fun a => ⟨by rw [h a]; exact Nat.zero_le _, by rw [h a, Nat.zero_add]; exact (y a).isLt⟩).trans
    (congrArg w (funext fun a => Fin.ext (by show (y a).val - off a = (y a).val; rw [h a, Nat.sub_zero])))

/-- A store over earlier stores puts its payload in what those leave. -/
theorem read_put {sig : RefSig} {κ : Kind} {sp : Space} {s : Shape} {e : EltTy} {Val : EltTy → Type} (v : View sig κ sp s e) (f : v.ty.Contents Val)
    {off size : Fin s.rank → ℕ} (inb : ∀ a, off a + size a ≤ s.size a) (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

/-- The library's read of a vector through a unit-stride rectangle is a window of it. -/
theorem ld_window {Val : EltTy → Type} {e : EltTy} {s : Shape} (x : s.Idx → Val e) (off size : Fin s.rank → ℕ) (inb : ∀ a, off a + size a ≤ s.size a) :
    View.ld (Val := Val) x (Rect.unit off size inb) = window x off size inb := rfl

/-- Outside the window the block under it is seen; inside, the payload. -/
theorem put_congr {s : Shape} {α : Type} (x x' : s.Idx → α) (off size : Fin s.rank → ℕ) (w : ((a : Fin s.rank) → Fin (size a)) → α) (y : s.Idx)
    (h : (¬ ∀ a, off a ≤ (y a).val ∧ (y a).val < off a + size a) → x y = x' y) : put x off size w y = put x' off size w y := by
  unfold put
  by_cases hc : ∀ a, off a ≤ (y a).val ∧ (y a).val < off a + size a
  · rw [dif_pos hc, dif_pos hc]
  · rw [dif_neg hc, dif_neg hc]; exact h hc

/-- Whether a place of the block of scales is in a row. -/
theorem in_row (y : S1x4x128.Idx) (p : ℕ) (h : (y 1).val = p) : ∀ a, (![0, p, 0] : Fin 3 → ℕ) a ≤ (y a).val ∧ (y a).val < (![0, p, 0] : Fin 3 → ℕ) a + S1x1x128.size a := fun a => by
  match a with
  | 0 => exact ⟨Nat.zero_le _, by have := (y 0).isLt; show (y 0).val < 0 + 1; exact this⟩
  | 1 => exact ⟨by show p ≤ (y 1).val; omega, by show (y 1).val < p + 1; omega⟩
  | 2 => exact ⟨Nat.zero_le _, by have := (y 2).isLt; show (y 2).val < 0 + 128; rw [Nat.zero_add]; exact this⟩

/-- The four rows cover the block, so what was under them does not matter. -/
theorem scalesPut_eq (y : Vec F S1x4x128 .f32) (x : Vec F S512x2048 .bf16) (w : Vec F S1x2048 .f32) : scalesPut y x w = scalesBlk x w := by
  unfold scalesBlk scalesPut
  funext j
  refine put_congr _ _ _ _ _ _ fun h3 => put_congr _ _ _ _ _ _ fun h2 => put_congr _ _ _ _ _ _ fun h1 => put_congr _ _ _ _ _ _ fun h0 => ?_
  have hj : (j 1).val < 4 := (j 1).isLt
  have n0 : (j 1).val ≠ 0 := fun h => h0 (in_row j 0 h)
  have n1 : (j 1).val ≠ 1 := fun h => h1 (in_row j 1 h)
  have n2 : (j 1).val ≠ 2 := fun h => h2 (in_row j 2 h)
  have n3 : (j 1).val ≠ 3 := fun h => h3 (in_row j 3 h)
  omega

/-- What the body holds before it runs: its inputs, and everything else at some contents. -/
def before (c : Dev nD) (arg1 : Memref sig .tc .smem S41 .i32) (harg1 : arg1.IsWhole) (arg2 : Memref sig .tc .vmem S512x2048 .bf16) (harg2 : arg2.IsWhole) (arg3 : Memref sig .tc .vmem S1x128 .i32) (harg3 : arg3.IsWhole) (arg4 : Memref sig .tc .vmem S1x2048 .f32) (harg4 : arg4.IsWhole) (arg5 : Memref sig .tc .vmem S2048x6144 .i8) (harg5 : arg5.IsWhole) (arg6 : Memref sig .tc .vmem S1x6144 .f32) (harg6 : arg6.IsWhole) (arg7 : Memref sig .tc .vmem S3x2048 .f32) (harg7 : arg7.IsWhole) (arg8 : Memref sig .tc .vmem S2048x2048 .i8) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S40x2x2048 .f32) (harg12 : arg12.IsWhole) (arg13 : Memref sig .tc .vmem S512x2048 .i8) (harg13 : arg13.IsWhole) (arg14 : Memref sig .tc .vmem S1x4x128 .f32) (harg14 : arg14.IsWhole) (arg15 : Memref sig .tc .vmem S512x2048 .i8) (harg15 : arg15.IsWhole) (arg16 : Memref sig .tc .vmem S1x4x128 .f32) (harg16 : arg16.IsWhole) (arg17 : Memref sig .tc .vmem S512x2048 .i8) (harg17 : arg17.IsWhole) (arg18 : Memref sig .tc .vmem S1x4x128 .f32) (harg18 : arg18.IsWhole) (arg19 : Memref sig .tc .vmem S512x2048 .bf16) (harg19 : arg19.IsWhole) (arg20 : Memref sig .tc .vmem S520x2048 .f32) (harg20 : arg20.IsWhole) (arg21 : Memref sig .tc .vmem S512x2048 .f32) (harg21 : arg21.IsWhole) (arg22 : Memref sig .tc .vmem S8x2048 .f32) (harg22 : arg22.IsWhole) (X1 : BufTy.Contents (Elt F) arg1.view.ty) (x2 : Vec F S512x2048 .bf16) (x3 : Vec F S1x128 .i32) (x4 : Vec F S1x2048 .f32) (x5 : Vec F S2048x6144 .i8) (x6 : Vec F S1x6144 .f32) (x7 : Vec F S3x2048 .f32) (x8 : Vec F S2048x2048 .i8) (x9 : Vec F S1x2048 .f32) (x10 : Vec F S1x2048 .f32) : sProp 𝕄 :=
  iprop((arg1.view.loc (c : Thread nD τ) ↦[arg1.view.set]{fullShare.right} X1) ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d))

/-- What it holds after: the same, with the first norm's codes and scales of the tile. -/
def after (c : Dev nD) (arg1 : Memref sig .tc .smem S41 .i32) (harg1 : arg1.IsWhole) (arg2 : Memref sig .tc .vmem S512x2048 .bf16) (harg2 : arg2.IsWhole) (arg3 : Memref sig .tc .vmem S1x128 .i32) (harg3 : arg3.IsWhole) (arg4 : Memref sig .tc .vmem S1x2048 .f32) (harg4 : arg4.IsWhole) (arg5 : Memref sig .tc .vmem S2048x6144 .i8) (harg5 : arg5.IsWhole) (arg6 : Memref sig .tc .vmem S1x6144 .f32) (harg6 : arg6.IsWhole) (arg7 : Memref sig .tc .vmem S3x2048 .f32) (harg7 : arg7.IsWhole) (arg8 : Memref sig .tc .vmem S2048x2048 .i8) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S40x2x2048 .f32) (harg12 : arg12.IsWhole) (arg13 : Memref sig .tc .vmem S512x2048 .i8) (harg13 : arg13.IsWhole) (arg14 : Memref sig .tc .vmem S1x4x128 .f32) (harg14 : arg14.IsWhole) (arg15 : Memref sig .tc .vmem S512x2048 .i8) (harg15 : arg15.IsWhole) (arg16 : Memref sig .tc .vmem S1x4x128 .f32) (harg16 : arg16.IsWhole) (arg17 : Memref sig .tc .vmem S512x2048 .i8) (harg17 : arg17.IsWhole) (arg18 : Memref sig .tc .vmem S1x4x128 .f32) (harg18 : arg18.IsWhole) (arg19 : Memref sig .tc .vmem S512x2048 .bf16) (harg19 : arg19.IsWhole) (arg20 : Memref sig .tc .vmem S520x2048 .f32) (harg20 : arg20.IsWhole) (arg21 : Memref sig .tc .vmem S512x2048 .f32) (harg21 : arg21.IsWhole) (arg22 : Memref sig .tc .vmem S8x2048 .f32) (harg22 : arg22.IsWhole) (X1 : BufTy.Contents (Elt F) arg1.view.ty) (x2 : Vec F S512x2048 .bf16) (x3 : Vec F S1x128 .i32) (x4 : Vec F S1x2048 .f32) (x5 : Vec F S2048x6144 .i8) (x6 : Vec F S1x6144 .f32) (x7 : Vec F S3x2048 .f32) (x8 : Vec F S2048x2048 .i8) (x9 : Vec F S1x2048 .f32) (x10 : Vec F S1x2048 .f32) : sProp 𝕄 :=
  iprop((arg1.view.loc (c : Thread nD τ) ↦[arg1.view.set]{fullShare.right} X1) ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare (codesBlk x2 x4) ∗ owns (c : Thread nD τ) arg14 fullShare (scalesBlk x2 x4) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d))

end Cert.Front.Fr

end
-- ==== Proof.FrontBits.RunA.lean ====
module

public import proofs.«01_k».proof.Proof.FrontBits.Step

@[expose] public section

set_option maxRecDepth 16384

noncomputable section

namespace Cert.Front.Fr

open Cert.Front Cert.Front.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body at the first point. -/
theorem run_A (c : Dev nD) (i : grid0.Coords) (arg1 : Memref sig .tc .smem S41 .i32) (harg1 : arg1.IsWhole) (arg2 : Memref sig .tc .vmem S512x2048 .bf16) (harg2 : arg2.IsWhole) (arg3 : Memref sig .tc .vmem S1x128 .i32) (harg3 : arg3.IsWhole) (arg4 : Memref sig .tc .vmem S1x2048 .f32) (harg4 : arg4.IsWhole) (arg5 : Memref sig .tc .vmem S2048x6144 .i8) (harg5 : arg5.IsWhole) (arg6 : Memref sig .tc .vmem S1x6144 .f32) (harg6 : arg6.IsWhole) (arg7 : Memref sig .tc .vmem S3x2048 .f32) (harg7 : arg7.IsWhole) (arg8 : Memref sig .tc .vmem S2048x2048 .i8) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S40x2x2048 .f32) (harg12 : arg12.IsWhole) (arg13 : Memref sig .tc .vmem S512x2048 .i8) (harg13 : arg13.IsWhole) (arg14 : Memref sig .tc .vmem S1x4x128 .f32) (harg14 : arg14.IsWhole) (arg15 : Memref sig .tc .vmem S512x2048 .i8) (harg15 : arg15.IsWhole) (arg16 : Memref sig .tc .vmem S1x4x128 .f32) (harg16 : arg16.IsWhole) (arg17 : Memref sig .tc .vmem S512x2048 .i8) (harg17 : arg17.IsWhole) (arg18 : Memref sig .tc .vmem S1x4x128 .f32) (harg18 : arg18.IsWhole) (arg19 : Memref sig .tc .vmem S512x2048 .bf16) (harg19 : arg19.IsWhole) (arg20 : Memref sig .tc .vmem S520x2048 .f32) (harg20 : arg20.IsWhole) (arg21 : Memref sig .tc .vmem S512x2048 .f32) (harg21 : arg21.IsWhole) (arg22 : Memref sig .tc .vmem S8x2048 .f32) (harg22 : arg22.IsWhole) (hc1 : k0_cond1 i = 1#1)
    (X1 : BufTy.Contents (Elt F) arg1.view.ty) (x2 : Vec F S512x2048 .bf16) (x3 : Vec F S1x128 .i32) (x4 : Vec F S1x2048 .f32) (x5 : Vec F S2048x6144 .i8) (x6 : Vec F S1x6144 .f32) (x7 : Vec F S3x2048 .f32) (x8 : Vec F S2048x2048 .i8) (x9 : Vec F S1x2048 .f32) (x10 : Vec F S1x2048 .f32) (E : Set ℕ) (K : PUnit → sProp 𝕄) :
    iprop(before c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X1 x2 x3 x4 x5 x6 x7 x8 x9 x10 ∗ (after c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X1 x2 x3 x4 x5 x6 x7 x8 x9 x10 -∗ K ⟨⟩))
      ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_front_eq_skeleton]; unfold cc0_front_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold before after owns
  iintro ⟨⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, %hf21, H21⟩, ⟨%d22, %f22, %hf22, H22⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  sl_exec (disch := first | sl_exact hc1)
  sl_step
  iapply Hk
  isplitl [H1]
  · iexact H1
  isplitl [H2]
  · iexists _; isplitr; swap; · iexact H2
    ipureintro; exact (harg2.read_unread _)
  isplitl [H3]
  · iexists _; isplitr; swap; · iexact H3
    ipureintro; exact (harg3.read_unread _)
  isplitl [H4]
  · iexists _; isplitr; swap; · iexact H4
    ipureintro; exact (harg4.read_unread _)
  isplitl [H5]
  · iexists _; isplitr; swap; · iexact H5
    ipureintro; exact (harg5.read_unread _)
  isplitl [H6]
  · iexists _; isplitr; swap; · iexact H6
    ipureintro; exact (harg6.read_unread _)
  isplitl [H7]
  · iexists _; isplitr; swap; · iexact H7
    ipureintro; exact (harg7.read_unread _)
  isplitl [H8]
  · iexists _; isplitr; swap; · iexact H8
    ipureintro; exact (harg8.read_unread _)
  isplitl [H9]
  · iexists _; isplitr; swap; · iexact H9
    ipureintro; exact (harg9.read_unread _)
  isplitl [H10]
  · iexists _; isplitr; swap; · iexact H10
    ipureintro; exact (harg10.read_unread _)
  isplitl [H11]
  · iexists _, _; isplitr; swap; · iexact H11
    ipureintro; rfl
  isplitl [H12]
  · iexists _, _; isplitr; swap; · iexact H12
    ipureintro; rfl
  isplitl [H13]
  · iexists _; isplitr; swap; · iexact H13
    ipureintro; (try sl_unfold_run_names); simp (disch := decide) only [codesBlk, scalesPut, scaleCol, scaleTop, View.readCov_full, View.readCov_fill, ld_window, readAt_window, read_put, View.writes_nil, Memref.IsWhole.read_unread, window_full, put_full]; try rfl
  isplitl [H14]
  · iexists _; isplitr; swap; · iexact H14
    ipureintro; refine Eq.trans ?_ (scalesPut_eq (arg14.view.read (Elt F) arg14.view.junk) _ _); (try sl_unfold_run_names); simp (disch := decide) only [codesBlk, scalesPut, scaleCol, scaleTop, View.readCov_full, View.readCov_fill, ld_window, readAt_window, read_put, View.writes_nil, Memref.IsWhole.read_unread, window_full, put_full]; try rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexists _, _; isplitr; swap; · iexact H22
  ipureintro; rfl

end Cert.Front.Fr

end
-- ==== Proof.FrontBits.RunB.lean ====
module

public import proofs.«01_k».proof.Proof.FrontBits.Step

@[expose] public section

set_option maxRecDepth 16384

noncomputable section

namespace Cert.Front.Fr

open Cert.Front Cert.Front.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body at a later point. -/
theorem run_B (c : Dev nD) (i : grid0.Coords) (arg1 : Memref sig .tc .smem S41 .i32) (harg1 : arg1.IsWhole) (arg2 : Memref sig .tc .vmem S512x2048 .bf16) (harg2 : arg2.IsWhole) (arg3 : Memref sig .tc .vmem S1x128 .i32) (harg3 : arg3.IsWhole) (arg4 : Memref sig .tc .vmem S1x2048 .f32) (harg4 : arg4.IsWhole) (arg5 : Memref sig .tc .vmem S2048x6144 .i8) (harg5 : arg5.IsWhole) (arg6 : Memref sig .tc .vmem S1x6144 .f32) (harg6 : arg6.IsWhole) (arg7 : Memref sig .tc .vmem S3x2048 .f32) (harg7 : arg7.IsWhole) (arg8 : Memref sig .tc .vmem S2048x2048 .i8) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S40x2x2048 .f32) (harg12 : arg12.IsWhole) (arg13 : Memref sig .tc .vmem S512x2048 .i8) (harg13 : arg13.IsWhole) (arg14 : Memref sig .tc .vmem S1x4x128 .f32) (harg14 : arg14.IsWhole) (arg15 : Memref sig .tc .vmem S512x2048 .i8) (harg15 : arg15.IsWhole) (arg16 : Memref sig .tc .vmem S1x4x128 .f32) (harg16 : arg16.IsWhole) (arg17 : Memref sig .tc .vmem S512x2048 .i8) (harg17 : arg17.IsWhole) (arg18 : Memref sig .tc .vmem S1x4x128 .f32) (harg18 : arg18.IsWhole) (arg19 : Memref sig .tc .vmem S512x2048 .bf16) (harg19 : arg19.IsWhole) (arg20 : Memref sig .tc .vmem S520x2048 .f32) (harg20 : arg20.IsWhole) (arg21 : Memref sig .tc .vmem S512x2048 .f32) (harg21 : arg21.IsWhole) (arg22 : Memref sig .tc .vmem S8x2048 .f32) (harg22 : arg22.IsWhole) (hc1 : ¬ k0_cond1 i = 1#1)
    (X1 : BufTy.Contents (Elt F) arg1.view.ty) (x2 : Vec F S512x2048 .bf16) (x3 : Vec F S1x128 .i32) (x4 : Vec F S1x2048 .f32) (x5 : Vec F S2048x6144 .i8) (x6 : Vec F S1x6144 .f32) (x7 : Vec F S3x2048 .f32) (x8 : Vec F S2048x2048 .i8) (x9 : Vec F S1x2048 .f32) (x10 : Vec F S1x2048 .f32) (E : Set ℕ) (K : PUnit → sProp 𝕄) :
    iprop(before c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X1 x2 x3 x4 x5 x6 x7 x8 x9 x10 ∗ (after c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X1 x2 x3 x4 x5 x6 x7 x8 x9 x10 -∗ K ⟨⟩))
      ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_front_eq_skeleton]; unfold cc0_front_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold before after owns
  iintro ⟨⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, %hf21, H21⟩, ⟨%d22, %f22, %hf22, H22⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  sl_exec (disch := first | sl_exact hc1)
  sl_step
  iapply Hk
  isplitl [H1]
  · iexact H1
  isplitl [H2]
  · iexists _; isplitr; swap; · iexact H2
    ipureintro; exact (harg2.read_unread _)
  isplitl [H3]
  · iexists _; isplitr; swap; · iexact H3
    ipureintro; exact (harg3.read_unread _)
  isplitl [H4]
  · iexists _; isplitr; swap; · iexact H4
    ipureintro; exact (harg4.read_unread _)
  isplitl [H5]
  · iexists _; isplitr; swap; · iexact H5
    ipureintro; exact (harg5.read_unread _)
  isplitl [H6]
  · iexists _; isplitr; swap; · iexact H6
    ipureintro; exact (harg6.read_unread _)
  isplitl [H7]
  · iexists _; isplitr; swap; · iexact H7
    ipureintro; exact (harg7.read_unread _)
  isplitl [H8]
  · iexists _; isplitr; swap; · iexact H8
    ipureintro; exact (harg8.read_unread _)
  isplitl [H9]
  · iexists _; isplitr; swap; · iexact H9
    ipureintro; exact (harg9.read_unread _)
  isplitl [H10]
  · iexists _; isplitr; swap; · iexact H10
    ipureintro; exact (harg10.read_unread _)
  isplitl [H11]
  · iexists _, _; isplitr; swap; · iexact H11
    ipureintro; rfl
  isplitl [H12]
  · iexists _, _; isplitr; swap; · iexact H12
    ipureintro; rfl
  isplitl [H13]
  · iexists _; isplitr; swap; · iexact H13
    ipureintro; (try sl_unfold_run_names); simp (disch := decide) only [codesBlk, scalesPut, scaleCol, scaleTop, View.readCov_full, View.readCov_fill, ld_window, readAt_window, read_put, View.writes_nil, Memref.IsWhole.read_unread, window_full, put_full]; try rfl
  isplitl [H14]
  · iexists _; isplitr; swap; · iexact H14
    ipureintro; refine Eq.trans ?_ (scalesPut_eq (arg14.view.read (Elt F) arg14.view.junk) _ _); (try sl_unfold_run_names); simp (disch := decide) only [codesBlk, scalesPut, scaleCol, scaleTop, View.readCov_full, View.readCov_fill, ld_window, readAt_window, read_put, View.writes_nil, Memref.IsWhole.read_unread, window_full, put_full]; try rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexists _, _; isplitr; swap; · iexact H22
  ipureintro; rfl

end Cert.Front.Fr

end
-- ==== Proof.FrontBits.Data.lean ====
module

public import proofs.«01_k».proof.Proof.FrontBits.RunA
public import proofs.«01_k».proof.Proof.FrontBits.RunB
public import Idealize.ShloMosaic.Lib.Claim

@[expose] public section

set_option maxRecDepth 16384

noncomputable section

namespace Cert.Front.Fr

open Cert.Front Cert.Front.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry: the table and the blocks -/

/-- The buffers as the region finds them: as launched. -/
abbrev V (c : Dev nD) (b : Ref sig .tc) : Buf (Elt F) ((c : Thread nD τ).loc b) := m ((c : Thread nD τ).loc b)

/-- The program is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The prefetched table's contents. -/
def tbl : pre0.Contents (Elt F) := fun j => V m (0 : Dev nD) (pre0.ref j)
/-- There is one device. -/
theorem V_pre (c : Dev nD) (j : Fin 1) : V m c (pre0.ref j) = tbl m j := by
  obtain rfl : c = 0 := Subsingleton.elim _ _; rfl
/-- No window's place depends on the table, so every table is admissible. -/
abbrev adm : (pcfg0 (F := F)).Adm := ⟨tbl m, trivial⟩
/-- The pipeline at the launch's table. -/
abbrev cfgM : Pipeline.Cfg sig Λ₀ := cfg0 (adm m)
/-- The table as the body is handed it. -/
abbrev tbM : Memref sig .tc .smem S41 .i32 := Memref.whole main_arg1

/-- The half of the table that the body holds. -/
theorem PhiT_eq (c : Dev nD) : (Pipeline.ΦT pre0 (tbl m) c : sProp 𝕄) = iprop(tbM.view.loc (c : Thread nD τ) ↦[tbM.view.set]{fullShare.right} (tbl m 0)) := by
  unfold Pipeline.ΦT Pipeline.prefHeld
  rw [show (Finset.univ : Finset (Fin 1)) = {(0 : Fin 1)} from by decide, bigSep_singleton]
  simp only [tbM, Memref.view_whole, View.set_whole]
  rfl

/-- A window's block at a point, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Window 0 holds its block before every point, whatever point fetched it. -/
theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 holds its block before every point, whatever point fetched it. -/
theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 holds its block before every point, whatever point fetched it. -/
theorem before_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 holds its block before every point, whatever point fetched it. -/
theorem before_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 holds its block before every point, whatever point fetched it. -/
theorem before_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5 holds its block before every point, whatever point fetched it. -/
theorem before_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6 holds its block before every point, whatever point fetched it. -/
theorem before_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7 holds its block before every point, whatever point fetched it. -/
theorem before_7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Window 8 holds its block before every point, whatever point fetched it. -/
theorem before_8_of {c : Dev nD} (dat : Dat τ (Elt F) Unit ℕ (UR sig nD τ) ℕ (cfgM m) c) (hA : dat.A 8 = V m c (Pipeline.arrRef spec0 8))
    (hafter : ∀ t, dat.after 8 t = iblk m c 8 t) (t : Fin (cfgM m).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The staging buffers and the scratch -/

abbrev ms0 (t : Fin (cfgM m).N) : Memref sig .tc .vmem S512x2048 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x128 .i32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x2048 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S2048x6144 .i8 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x6144 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S3x2048 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S2048x2048 .i8 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S1x2048 .f32 := spec0_7.stage ((cfgM m).slots t 7)
abbrev hs7 (t : Fin (cfgM m).N) : (ms7 m t).IsWhole := hstage0_7 (((cfgM m).slots t 7).cast nbuf0_7)
abbrev ms8 (t : Fin (cfgM m).N) : Memref sig .tc .vmem S1x2048 .f32 := spec0_8.stage ((cfgM m).slots t 8)
abbrev hs8 (t : Fin (cfgM m).N) : (ms8 m t).IsWhole := hstage0_8 (((cfgM m).slots t 8).cast nbuf0_8)
abbrev ms9 (t : Fin (cfgM m).N) : Memref sig .tc .vmem S512x2048 .f32 := spec0_9.stage ((cfgM m).slots t 9)
abbrev hs9 (t : Fin (cfgM m).N) : (ms9 m t).IsWhole := hstage0_9 (((cfgM m).slots t 9).cast nbuf0_9)
abbrev ms10 (t : Fin (cfgM m).N) : Memref sig .tc .vmem S40x2x2048 .f32 := spec0_10.stage ((cfgM m).slots t 10)
abbrev hs10 (t : Fin (cfgM m).N) : (ms10 m t).IsWhole := hstage0_10 (((cfgM m).slots t 10).cast nbuf0_10)
abbrev ms11 (t : Fin (cfgM m).N) : Memref sig .tc .vmem S512x2048 .i8 := spec0_11.stage ((cfgM m).slots t 11)
abbrev hs11 (t : Fin (cfgM m).N) : (ms11 m t).IsWhole := hstage0_11 (((cfgM m).slots t 11).cast nbuf0_11)
abbrev ms12 (t : Fin (cfgM m).N) : Memref sig .tc .vmem S1x4x128 .f32 := spec0_12.stage ((cfgM m).slots t 12)
abbrev hs12 (t : Fin (cfgM m).N) : (ms12 m t).IsWhole := hstage0_12 (((cfgM m).slots t 12).cast nbuf0_12)
abbrev ms13 (t : Fin (cfgM m).N) : Memref sig .tc .vmem S512x2048 .i8 := spec0_13.stage ((cfgM m).slots t 13)
abbrev hs13 (t : Fin (cfgM m).N) : (ms13 m t).IsWhole := hstage0_13 (((cfgM m).slots t 13).cast nbuf0_13)
abbrev ms14 (t : Fin (cfgM m).N) : Memref sig .tc .vmem S1x4x128 .f32 := spec0_14.stage ((cfgM m).slots t 14)
abbrev hs14 (t : Fin (cfgM m).N) : (ms14 m t).IsWhole := hstage0_14 (((cfgM m).slots t 14).cast nbuf0_14)
abbrev ms15 (t : Fin (cfgM m).N) : Memref sig .tc .vmem S512x2048 .i8 := spec0_15.stage ((cfgM m).slots t 15)
abbrev hs15 (t : Fin (cfgM m).N) : (ms15 m t).IsWhole := hstage0_15 (((cfgM m).slots t 15).cast nbuf0_15)
abbrev ms16 (t : Fin (cfgM m).N) : Memref sig .tc .vmem S1x4x128 .f32 := spec0_16.stage ((cfgM m).slots t 16)
abbrev hs16 (t : Fin (cfgM m).N) : (ms16 m t).IsWhole := hstage0_16 (((cfgM m).slots t 16).cast nbuf0_16)
abbrev sc0 : Memref sig .tc .vmem S512x2048 .bf16 := Memref.whole cc0_scratch0
abbrev sc1 : Memref sig .tc .vmem S520x2048 .f32 := Memref.whole cc0_scratch1
abbrev sc2 : Memref sig .tc .vmem S512x2048 .f32 := Memref.whole cc0_scratch2
abbrev sc3 : Memref sig .tc .vmem S8x2048 .f32 := Memref.whole cc0_scratch3

/-- The scratch and the generator register, as the launch hands them over. -/
theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ ∃ r, prngReg c r) := by
  unfold Pipeline.ΦA; rw [scopedRest0_eq]; simp only [sc0, sc1, sc2, sc3, owns_whole]; try rfl

/-- The body as the pipeline calls it at a point. -/
abbrev bodyAt0 (t : Fin (cfgM m).N) : Prog (TpuEff nD τ sig (Elt F) Λ₀ .tc) PUnit :=
  cc0_front (grid0.coords t) tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) (ms12 m t) (hs12 m t) (ms13 m t) (hs13 m t) (ms14 m t) (hs14 m t) (ms15 m t) (hs15 m t) (ms16 m t) (hs16 m t) sc0 (Memref.isWhole_whole _) sc1 (Memref.isWhole_whole _) sc2 (Memref.isWhole_whole _) sc3 (Memref.isWhole_whole _)

/-! ## The proof data -/

/-- The windows of whose contents nothing is named: every result but the first norm's codes and scales. -/
def forgets0 : Fin 17 → Bool := fun w => w.val == 9 || w.val == 10 || decide (13 ≤ w.val)

/-- The first norm's codes and scales of a point's tile. -/
def codesT (c : Dev nD) (t : Fin (cfgM m).N) : Vec F S512x2048 .i8 := codesBlk (iblk m c 0 t) (iblk m c 2 t)
/-- The first norm's scales of a point's tile. -/
def scalesT (c : Dev nD) (t : Fin (cfgM m).N) : Vec F S1x4x128 .f32 := scalesBlk (iblk m c 0 t) (iblk m c 2 t)

/-- The arrays as the region finds them; after a point, each input's buffer at its block, the first norm's codes and scales at the tile's. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := (cfgM m)) ⟨9, h⟩ t
    | ⟨10, h⟩ => Pipeline.Dat.unnamed (cfg := (cfgM m)) ⟨10, h⟩ t
    | ⟨11, _⟩ => codesT m c t
    | ⟨12, _⟩ => scalesT m c t
    | ⟨13, h⟩ => Pipeline.Dat.unnamed (cfg := (cfgM m)) ⟨13, h⟩ t
    | ⟨14, h⟩ => Pipeline.Dat.unnamed (cfg := (cfgM m)) ⟨14, h⟩ t
    | ⟨15, h⟩ => Pipeline.Dat.unnamed (cfg := (cfgM m)) ⟨15, h⟩ t
    | ⟨16, h⟩ => Pipeline.Dat.unnamed (cfg := (cfgM m)) ⟨16, h⟩ t
    | ⟨k + 17, h⟩ => absurd h (by show ¬ k + 17 < 17; omega)
  Φ _ := iprop(Pipeline.ΦA spec0 c ∗ Pipeline.ΦT pre0 (tbl m) c)
  q _ := fullShare
  owed _ := 0

/-- The arrays are the region-entry contents. -/
theorem A_eq (c : Dev nD) (w : Fin (cfgM m).W) : (dats m 0 c).A w = V m c (Pipeline.arrRef spec0 w) := by
  dsimp only [dats]

/-- The contents named for window 0 after a point. -/
theorem after0 (c : Dev nD) (t : Fin (cfgM m).N) : (dats m 0 c).after 0 t = iblk m c 0 t := by dsimp only [dats]; try rfl
/-- The contents named for window 1 after a point. -/
theorem after1 (c : Dev nD) (t : Fin (cfgM m).N) : (dats m 0 c).after 1 t = iblk m c 1 t := by dsimp only [dats]; try rfl
/-- The contents named for window 2 after a point. -/
theorem after2 (c : Dev nD) (t : Fin (cfgM m).N) : (dats m 0 c).after 2 t = iblk m c 2 t := by dsimp only [dats]; try rfl
/-- The contents named for window 3 after a point. -/
theorem after3 (c : Dev nD) (t : Fin (cfgM m).N) : (dats m 0 c).after 3 t = iblk m c 3 t := by dsimp only [dats]; try rfl
/-- The contents named for window 4 after a point. -/
theorem after4 (c : Dev nD) (t : Fin (cfgM m).N) : (dats m 0 c).after 4 t = iblk m c 4 t := by dsimp only [dats]; try rfl
/-- The contents named for window 5 after a point. -/
theorem after5 (c : Dev nD) (t : Fin (cfgM m).N) : (dats m 0 c).after 5 t = iblk m c 5 t := by dsimp only [dats]; try rfl
/-- The contents named for window 6 after a point. -/
theorem after6 (c : Dev nD) (t : Fin (cfgM m).N) : (dats m 0 c).after 6 t = iblk m c 6 t := by dsimp only [dats]; try rfl
/-- The contents named for window 7 after a point. -/
theorem after7 (c : Dev nD) (t : Fin (cfgM m).N) : (dats m 0 c).after 7 t = iblk m c 7 t := by dsimp only [dats]; try rfl
/-- The contents named for window 8 after a point. -/
theorem after8 (c : Dev nD) (t : Fin (cfgM m).N) : (dats m 0 c).after 8 t = iblk m c 8 t := by dsimp only [dats]; try rfl
/-- The contents named for window 11 after a point. -/
theorem after11 (c : Dev nD) (t : Fin (cfgM m).N) : (dats m 0 c).after 11 t = codesT m c t := by dsimp only [dats]; try rfl
/-- The contents named for window 12 after a point. -/
theorem after12 (c : Dev nD) (t : Fin (cfgM m).N) : (dats m 0 c).after 12 t = scalesT m c t := by dsimp only [dats]; try rfl
/-- Before a point, window 0 holds its block. -/
theorem before0 (c : Dev nD) (t : Fin (cfgM m).N) (d) : (dats m 0 c).before 0 t d = iblk m c 0 t := before_0_of m (dats m 0 c) (A_eq m c 0) (after0 m c) t d
/-- Before a point, window 1 holds its block. -/
theorem before1 (c : Dev nD) (t : Fin (cfgM m).N) (d) : (dats m 0 c).before 1 t d = iblk m c 1 t := before_1_of m (dats m 0 c) (A_eq m c 1) (after1 m c) t d
/-- Before a point, window 2 holds its block. -/
theorem before2 (c : Dev nD) (t : Fin (cfgM m).N) (d) : (dats m 0 c).before 2 t d = iblk m c 2 t := before_2_of m (dats m 0 c) (A_eq m c 2) (after2 m c) t d
/-- Before a point, window 3 holds its block. -/
theorem before3 (c : Dev nD) (t : Fin (cfgM m).N) (d) : (dats m 0 c).before 3 t d = iblk m c 3 t := before_3_of m (dats m 0 c) (A_eq m c 3) (after3 m c) t d
/-- Before a point, window 4 holds its block. -/
theorem before4 (c : Dev nD) (t : Fin (cfgM m).N) (d) : (dats m 0 c).before 4 t d = iblk m c 4 t := before_4_of m (dats m 0 c) (A_eq m c 4) (after4 m c) t d
/-- Before a point, window 5 holds its block. -/
theorem before5 (c : Dev nD) (t : Fin (cfgM m).N) (d) : (dats m 0 c).before 5 t d = iblk m c 5 t := before_5_of m (dats m 0 c) (A_eq m c 5) (after5 m c) t d
/-- Before a point, window 6 holds its block. -/
theorem before6 (c : Dev nD) (t : Fin (cfgM m).N) (d) : (dats m 0 c).before 6 t d = iblk m c 6 t := before_6_of m (dats m 0 c) (A_eq m c 6) (after6 m c) t d
/-- Before a point, window 7 holds its block. -/
theorem before7 (c : Dev nD) (t : Fin (cfgM m).N) (d) : (dats m 0 c).before 7 t d = iblk m c 7 t := before_7_of m (dats m 0 c) (A_eq m c 7) (after7 m c) t d
/-- Before a point, window 8 holds its block. -/
theorem before8 (c : Dev nD) (t : Fin (cfgM m).N) (d) : (dats m 0 c).before 8 t d = iblk m c 8 t := before_8_of m (dats m 0 c) (A_eq m c 8) (after8 m c) t d

/-! ## The body obligation -/

/-- What the body is called with at a point. -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d))
    ∗ (∃ d, owns (c : Thread nD τ) (ms8 m t) fullShare ((dats m 0 c).before 8 t d))
    ∗ (∃ d, owns (c : Thread nD τ) (ms9 m t) fullShare d)
    ∗ (∃ d, owns (c : Thread nD τ) (ms10 m t) fullShare d)
    ∗ (∃ d, owns (c : Thread nD τ) (ms11 m t) fullShare ((dats m 0 c).before 11 t d))
    ∗ (∃ d, owns (c : Thread nD τ) (ms12 m t) fullShare ((dats m 0 c).before 12 t d))
    ∗ (∃ d, owns (c : Thread nD τ) (ms13 m t) fullShare d)
    ∗ (∃ d, owns (c : Thread nD τ) (ms14 m t) fullShare d)
    ∗ (∃ d, owns (c : Thread nD τ) (ms15 m t) fullShare d)
    ∗ (∃ d, owns (c : Thread nD τ) (ms16 m t) fullShare d))
/-- What the body leaves. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t)
    ∗ owns (c : Thread nD τ) (ms7 m t) fullShare ((dats m 0 c).after 7 t)
    ∗ owns (c : Thread nD τ) (ms8 m t) fullShare ((dats m 0 c).after 8 t)
    ∗ (∃ d, owns (c : Thread nD τ) (ms9 m t) fullShare d)
    ∗ (∃ d, owns (c : Thread nD τ) (ms10 m t) fullShare d)
    ∗ owns (c : Thread nD τ) (ms11 m t) fullShare ((dats m 0 c).after 11 t)
    ∗ owns (c : Thread nD τ) (ms12 m t) fullShare ((dats m 0 c).after 12 t)
    ∗ (∃ d, owns (c : Thread nD τ) (ms13 m t) fullShare d)
    ∗ (∃ d, owns (c : Thread nD τ) (ms14 m t) fullShare d)
    ∗ (∃ d, owns (c : Thread nD τ) (ms15 m t) fullShare d)
    ∗ (∃ d, owns (c : Thread nD τ) (ms16 m t) fullShare d))

/-- The body at a point, either of the two cases. -/
theorem run (c : Dev nD) (i : grid0.Coords) (arg1 : Memref sig .tc .smem S41 .i32) (harg1 : arg1.IsWhole) (arg2 : Memref sig .tc .vmem S512x2048 .bf16) (harg2 : arg2.IsWhole) (arg3 : Memref sig .tc .vmem S1x128 .i32) (harg3 : arg3.IsWhole) (arg4 : Memref sig .tc .vmem S1x2048 .f32) (harg4 : arg4.IsWhole) (arg5 : Memref sig .tc .vmem S2048x6144 .i8) (harg5 : arg5.IsWhole) (arg6 : Memref sig .tc .vmem S1x6144 .f32) (harg6 : arg6.IsWhole) (arg7 : Memref sig .tc .vmem S3x2048 .f32) (harg7 : arg7.IsWhole) (arg8 : Memref sig .tc .vmem S2048x2048 .i8) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S40x2x2048 .f32) (harg12 : arg12.IsWhole) (arg13 : Memref sig .tc .vmem S512x2048 .i8) (harg13 : arg13.IsWhole) (arg14 : Memref sig .tc .vmem S1x4x128 .f32) (harg14 : arg14.IsWhole) (arg15 : Memref sig .tc .vmem S512x2048 .i8) (harg15 : arg15.IsWhole) (arg16 : Memref sig .tc .vmem S1x4x128 .f32) (harg16 : arg16.IsWhole) (arg17 : Memref sig .tc .vmem S512x2048 .i8) (harg17 : arg17.IsWhole) (arg18 : Memref sig .tc .vmem S1x4x128 .f32) (harg18 : arg18.IsWhole) (arg19 : Memref sig .tc .vmem S512x2048 .bf16) (harg19 : arg19.IsWhole) (arg20 : Memref sig .tc .vmem S520x2048 .f32) (harg20 : arg20.IsWhole) (arg21 : Memref sig .tc .vmem S512x2048 .f32) (harg21 : arg21.IsWhole) (arg22 : Memref sig .tc .vmem S8x2048 .f32) (harg22 : arg22.IsWhole)
    (X1 : BufTy.Contents (Elt F) arg1.view.ty) (x2 : Vec F S512x2048 .bf16) (x3 : Vec F S1x128 .i32) (x4 : Vec F S1x2048 .f32) (x5 : Vec F S2048x6144 .i8) (x6 : Vec F S1x6144 .f32) (x7 : Vec F S3x2048 .f32) (x8 : Vec F S2048x2048 .i8) (x9 : Vec F S1x2048 .f32) (x10 : Vec F S1x2048 .f32) (E : Set ℕ) (K : PUnit → sProp 𝕄) :
    iprop(before c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X1 x2 x3 x4 x5 x6 x7 x8 x9 x10 ∗ (after c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X1 x2 x3 x4 x5 x6 x7 x8 x9 x10 -∗ K ⟨⟩))
      ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  by_cases h : k0_cond1 i = 1#1
  · exact run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X1 x2 x3 x4 x5 x6 x7 x8 x9 x10 E K
  · exact run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X1 x2 x3 x4 x5 x6 x7 x8 x9 x10 E K

set_option maxHeartbeats 4000000 in
/-- The body's obligation at a point: the windows' blocks in, the first norm's codes and scales out. -/
theorem sound_body (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0, before1, before2, before3, before4, before5, before6, before7, before8]
  rw [show (dats m 0 c).Φ t.succ = (dats m 0 c).Φ t.castSucc from rfl, show (dats m 0 c).owesAt () t.succ = (dats m 0 c).owesAt () t.castSucc from rfl,
    after0, after1, after2, after3, after4, after5, after6, after7, after8, after11, after12]
  rw [show (dats m 0 c).Φ t.castSucc = iprop(Pipeline.ΦA spec0 c ∗ Pipeline.ΦT pre0 (tbl m) c) from rfl, PhiA_eq, PhiT_eq]
  iintro ⟨⟨⟨⟨S0, S1, S2, S3⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (run c (grid0.coords t) tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) (ms12 m t) (hs12 m t) (ms13 m t) (hs13 m t) (ms14 m t) (hs14 m t) (ms15 m t) (hs15 m t) (ms16 m t) (hs16 m t) sc0 (Memref.isWhole_whole _) sc1 (Memref.isWhole_whole _) sc2 (Memref.isWhole_whole _) sc3 (Memref.isWhole_whole _) (tbl m 0) (iblk m c 0 t) (iblk m c 1 t) (iblk m c 2 t) (iblk m c 3 t) (iblk m c 4 t) (iblk m c 5 t) (iblk m c 6 t) (iblk m c 7 t) (iblk m c 8 t) Set.univ _)
  unfold before after
  isplitl [HT H0 H1 H2 H3 H4 H5 H6 H7 H8 H9 H10 H11 H12 H13 H14 H15 H16 S0 S1 S2 S3]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [S0]; · iexact S0
    isplitl [S1]; · iexact S1
    isplitl [S2]; · iexact S2
    iexact S3
  iintro ⟨HT, H0, H1, H2, H3, H4, H5, H6, H7, H8, H9, H10, H11, H12, H13, H14, H15, H16, S0, S1, S2, S3⟩
  isplitl [S0 S1 S2 S3 Hg HT]
  · isplitl [S0 S1 S2 S3 Hg]
    · isplitl [S0 S1 S2 S3]
      · isplitl [S0]; · iexact S0
        isplitl [S1]; · iexact S1
        isplitl [S2]; · iexact S2
        iexact S3
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row is the body. -/
theorem defs₀_row (t : Fin (cfgM m).N) : defs₀ (F := F) .tc (cfgM m).body ((cfgM m).bodyArgs t ((cfgM m).slots t)) = bodyAt0 m t := by
  unfold defs₀; rw [Defs.onTc_tc]

/-- The obligation at every point. -/
theorem body_obligation (c : Dev nD) : BodyObligation (dats (F := F) m 0 c) (defs₀ (F := F)) Variants.none () Set.univ forgets0 := fun t => by
  rw [bigSep_W0, bigSep_W0, defs₀_row m]
  exact triple_restated (sound_body m c t) rfl .rfl fun _ => .rfl

/-! ## The run and the frame -/

set_option backward.isDefEq.respectTransparency.types false in
/-- Every weakly fair execution ends, with the inputs unchanged, the first norm's codes and scales as named, and every counter at zero. -/
theorem run_main_quiescent : θ_run defs (onTc (τ := τ) (main (F := F))) (s₀ m ρ) (fun r => (Pipeline.RDat.FramePost ((Pipeline.pin pcfgs fun _ => adm m) 0) (fun c => (dats m 0 c).toRForget forgets0) (V m)) r ∧ r.2.sem = fun _ => 0) :=
  Pipeline.θ_run_frameP_forget (Q' := _) pcfgs (fun _ => adm m) (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

/-- What the run ends with, array by array. -/
theorem run_main : θ_run defs (onTc (τ := τ) (main (F := F))) (s₀ m ρ) (fun r => (∀ c : Dev nD,
      r.2.mem ((c.tc : Thread nD τ).loc main_v0_2) = (dats m 0 c).arrAt 11 (cfgM m).N
      ∧ r.2.mem ((c.tc : Thread nD τ).loc main_v0_3) = (dats m 0 c).arrAt 12 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => ⟨((dats m 0 c).toRForget_arrAt_iff (fgt := forgets0) (w := 11) rfl (cfgM m).N _).mp ((h.1 c).1 11),
      ((dats m 0 c).toRForget_arrAt_iff (fgt := forgets0) (w := 12) rfl (cfgM m).N _).mp ((h.1 c).1 12),
      (Pipeline.RDat.FramePost.arr_in h.1 c 0 rfl).trans (A_eq m c 0),
      (h.1 c).2 main_arg1 (by decide : main_arg1 ∈ Pipeline.restRefs sig spec0),
      (Pipeline.RDat.FramePost.arr_in h.1 c 1 rfl).trans (A_eq m c 1),
      (Pipeline.RDat.FramePost.arr_in h.1 c 2 rfl).trans (A_eq m c 2),
      (Pipeline.RDat.FramePost.arr_in h.1 c 3 rfl).trans (A_eq m c 3),
      (Pipeline.RDat.FramePost.arr_in h.1 c 4 rfl).trans (A_eq m c 4),
      (Pipeline.RDat.FramePost.arr_in h.1 c 5 rfl).trans (A_eq m c 5),
      (Pipeline.RDat.FramePost.arr_in h.1 c 6 rfl).trans (A_eq m c 6),
      (Pipeline.RDat.FramePost.arr_in h.1 c 7 rfl).trans (A_eq m c 7),
      (Pipeline.RDat.FramePost.arr_in h.1 c 8 rfl).trans (A_eq m c 8)⟩, h.2⟩) (run_main_quiescent m ρ)

/-- The frame: from any memory every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => (h.1 c).2.2, h.2⟩) (run_main m ρ)

end Cert.Front.Fr

end
-- ==== Proof.Front.Spec.lean ====
/-
  The mathematics of the first norm, on the extended reals: a row over the root of its mean square, times the gain, and the row's symmetric
  8-bit quantisation.
-/
module

public import proofs.«01_k».proof.FrontIdeal
public import proofs.«01_k».proof.Proof.Mlp.Spec

@[expose] public section

noncomputable section

namespace Cert.FrontSpec

open Idealize.ShloMosaic
open Cert.FrontIdeal (S7680x2048 S1x2048 S15x4x128)
open Cert.Mlp (scale rowMax code)

/-- The root of a row's mean square, a small constant added under the root. -/
def rms (v : Fin 2048 → EReal) : EReal := Ideal.sqrt (Ideal.div (∑ k, v k * v k) ((2048 : ℝ) : EReal) + Ideal.ofBits .f32 0x3727C5AC#32)

/-- The normalised row, times the gain. -/
def norm (v g : Fin 2048 → EReal) (k : Fin 2048) : EReal := Ideal.div (v k) (rms v) * g k

variable (A0 : Vec Ideal S7680x2048 .bf16) (A3 : Vec Ideal S1x2048 .f32)

/-- The normalised rows, from the activations `A0` and the gain `A3`. -/
def normed (r : Fin 7680) (k : Fin 2048) : EReal := norm (fun q => A0 (ix2 r q)) (fun q => A3 (ix2 0 q)) k

/-- A row's scale. -/
def rowScale (r : Fin 7680) : EReal := scale (rowMax (normed A0 A3 r))

/-- The norm's codes. -/
def codes : Vec Ideal S7680x2048 .i8 := fun i => code (normed A0 A3 (i 0) (i 1)) (rowScale A0 A3 (i 0))

/-- The norm's scales, in rows of 128 lanes, four rows a tile. -/
def scales : Vec Ideal S15x4x128 .f32 := fun i => rowScale A0 A3 ⟨512 * (i 0).val + 128 * (i 1).val + (i 2).val, by
  have h0 : (i 0).val < 15 := (i 0).isLt
  have h1 : (i 1).val < 4 := (i 1).isLt
  have h2 : (i 2).val < 128 := (i 2).isLt
  omega⟩

/-- The pattern of 2048. -/
theorem ofBits_2048 : Ideal.ofBits .f32 0x45000000#32 = ((2048 : ℝ) : EReal) := by
  simp [Ideal.ofBits, Ideal.ieee, -EReal.coe_mul]; norm_num

/-- The pattern of one over 2048. -/
theorem ofBits_inv2048 : Ideal.ofBits .f32 0x3A000000#32 = ((1 / 2048 : ℝ) : EReal) := by
  simp [Ideal.ofBits, Ideal.ieee, -EReal.coe_mul]; norm_num

/-- Dividing by 2048 is multiplying by its reciprocal. -/
theorem div2048 (a : EReal) : a * ((1 / 2048 : ℝ) : EReal) = Ideal.div a ((2048 : ℝ) : EReal) :=
  (Ideal.div_coe (y := 2048) (by norm_num) a).symm

end Cert.FrontSpec

end
-- ==== Proof.Front.Sums.lean ====
/-
  The row sums of the first norm, on the extended reals: sums of lane tiles, of transposed slices and of rotations are the sum of the row.
-/
module

public import proofs.«01_k».proof.Proof.Front.Step
public import proofs.«01_k».proof.Proof.Front.Spec
public import Idealize.ShloMosaic.PureOps.IdealRules
public import Idealize.ShloMosaic.Lib.Pipeline.ValueKit

@[expose] public section

set_option maxRecDepth 16384

noncomputable section

namespace Cert.FrontIdeal.Fr

open Cert.FrontIdeal Cert.FrontIdeal.Gen Cert.FrontSpec
open Cert.Mlp (scale rowMax code ofBits_bot div127)
open Idealize.ShloMosaic Idealize.ShloMosaic.TcCoe
open Idealize.ShloMosaic.VecWindow (window put)

/-! ## The row sums -/

/-- Sixteen slices of eight rows, added. -/
def tileSum (v : FVec Ideal S128x128 .f32) : FVec Ideal S8x128 .f32 :=
  addf (addf (addf (addf (addf (addf (addf (addf (addf (addf (addf (addf (addf (addf (addf
    (extractStridedSlice S8x128 ![0, 0] v slices_S128x128_o0_0_S8x128)
    (extractStridedSlice S8x128 ![8, 0] v slices_S128x128_o8_0_S8x128))
    (extractStridedSlice S8x128 ![16, 0] v slices_S128x128_o16_0_S8x128))
    (extractStridedSlice S8x128 ![24, 0] v slices_S128x128_o24_0_S8x128))
    (extractStridedSlice S8x128 ![32, 0] v slices_S128x128_o32_0_S8x128))
    (extractStridedSlice S8x128 ![40, 0] v slices_S128x128_o40_0_S8x128))
    (extractStridedSlice S8x128 ![48, 0] v slices_S128x128_o48_0_S8x128))
    (extractStridedSlice S8x128 ![56, 0] v slices_S128x128_o56_0_S8x128))
    (extractStridedSlice S8x128 ![64, 0] v slices_S128x128_o64_0_S8x128))
    (extractStridedSlice S8x128 ![72, 0] v slices_S128x128_o72_0_S8x128))
    (extractStridedSlice S8x128 ![80, 0] v slices_S128x128_o80_0_S8x128))
    (extractStridedSlice S8x128 ![88, 0] v slices_S128x128_o88_0_S8x128))
    (extractStridedSlice S8x128 ![96, 0] v slices_S128x128_o96_0_S8x128))
    (extractStridedSlice S8x128 ![104, 0] v slices_S128x128_o104_0_S8x128))
    (extractStridedSlice S8x128 ![112, 0] v slices_S128x128_o112_0_S8x128))
    (extractStridedSlice S8x128 ![120, 0] v slices_S128x128_o120_0_S8x128)

/-- Eight rows and their rotations by four and by two, added. -/
def half (v : FVec Ideal S8x128 .f32) : FVec Ideal S8x128 .f32 :=
  addf (addf v (dynamicRotate 0 4#32 none v rotates_S8x128_d0)) (dynamicRotate 0 2#32 none (addf v (dynamicRotate 0 4#32 none v rotates_S8x128_d0)) rotates_S8x128_d0)

/-- The last rotation by one added, and the first row turned into a column repeated along the lanes. -/
def spread (v : FVec Ideal S8x128 .f32) : FVec Ideal S128x128 .f32 :=
  transpose S128x128 [1, 0] (broadcastTo S128x128 (shapeCast S1x128 (extractStridedSlice S1x128 ![0, 0]
    (addf v (dynamicRotate 0 1#32 none v rotates_S8x128_d0)) slices_S8x128_o0_0_S1x128) shapeCasts_S1x128_S1x128) broadcasts_S1x128_S128x128) transposes_S128x128_p1_0_S128x128

/-- The sum of a slice of sixteen rows, at a place. -/
theorem tileSum_at (v : FVec Ideal S128x128 .f32) (s : Fin 8) (j : Fin 128) : tileSum v (ix2 s j) = ∑ i : Fin 16, v (ix2 ⟨8 * i.val + s.val, by omega⟩ j) := by
  unfold tileSum
  pointwise
  simp only [Fin.sum_univ_castSucc, Fin.sum_univ_zero, zero_add]
  rw [show (⟨s.val, by omega⟩ : Fin 128) = ⟨8 * 0 + s.val, by omega⟩ from Fin.ext (by show s.val = 8 * 0 + s.val; omega)]
  rfl

/-- The sum of the eight rows, in every place of a row. -/
theorem spread_at (v : FVec Ideal S8x128 .f32) (j l : Fin 128) : spread (half v) (ix2 j l) = ∑ s : Fin 8, v (ix2 s j) := by
  unfold spread half
  pointwise
  rw [Fin.sum_univ_eight]
  generalize (v (ix2 0 j) : EReal) = a0
  generalize (v (ix2 1 j) : EReal) = a1
  generalize (v (ix2 2 j) : EReal) = a2
  generalize (v (ix2 3 j) : EReal) = a3
  generalize (v (ix2 4 j) : EReal) = a4
  generalize (v (ix2 5 j) : EReal) = a5
  generalize (v (ix2 6 j) : EReal) = a6
  generalize (v (ix2 7 j) : EReal) = a7
  show a0 + a4 + (a6 + a2) + (a7 + a3 + (a5 + a1)) = a0 + a1 + a2 + a3 + a4 + a5 + a6 + a7
  abel

/-- A number below 128 as a row of eight and a place in it. -/
theorem sum_rows (f : Fin 128 → EReal) : ∑ s : Fin 8, ∑ i : Fin 16, f ⟨8 * i.val + s.val, by omega⟩ = ∑ j, f j := by
  rw [Finset.sum_comm, ← Finset.sum_product', Finset.univ_product_univ]
  exact Fintype.sum_equiv (finProdFinEquiv (m := 16) (n := 8)) _ _ fun p => congrArg f (Fin.ext (by
    show 8 * p.1.val + p.2.val = p.2.val + 8 * p.1.val; omega))

/-- A number below 2048 as a tile of 128 and a place in it. -/
theorem sum_tiles (f : Fin 2048 → EReal) : ∑ j : Fin 128, ∑ i : Fin 16, f ⟨128 * i.val + j.val, by omega⟩ = ∑ k, f k := by
  rw [Finset.sum_comm, ← Finset.sum_product', Finset.univ_product_univ]
  exact Fintype.sum_equiv (finProdFinEquiv (m := 16) (n := 128)) _ _ fun p => congrArg f (Fin.ext (by
    show 128 * p.1.val + p.2.val = p.2.val + 128 * p.1.val; omega))

/-- The squares of a tile of activations, the sixteen lane tiles added. -/
theorem squares_at (x : Vec Ideal S512x2048 .bf16) (r : Fin 512) (j : Fin 128) :
    addf (k0_pay8 x) (k0_pay9 x) (ix2 r j) = ∑ i : Fin 16, x (ix2 r ⟨128 * i.val + j.val, by omega⟩) * x (ix2 r ⟨128 * i.val + j.val, by omega⟩) := by
  unfold k0_pay8 k0_pay9 k0_pay7
  pointwise
  simp only [Fin.sum_univ_castSucc, Fin.sum_univ_zero, zero_add]
  rw [show (⟨j.val, by omega⟩ : Fin 2048) = ⟨128 * 0 + j.val, by omega⟩ from Fin.ext (by show j.val = 128 * 0 + j.val; omega)]
  rfl

/-- The row sums of one block of 128 rows. -/
def blockSum (v : FVec Ideal S128x128 .f32) : FVec Ideal S128x128 .f32 := spread (half (tileSum (transpose S128x128 [1, 0] v transposes_S128x128_p1_0_S128x128)))

/-- A row's sum, in every lane of the row. -/
theorem blockSum_at (v : FVec Ideal S128x128 .f32) (r l : Fin 128) : blockSum v (ix2 r l) = ∑ j : Fin 128, v (ix2 r j) := by
  unfold blockSum
  rw [spread_at]
  simp only [tileSum_at]
  refine Eq.trans (Finset.sum_congr rfl fun s _ => Finset.sum_congr rfl fun i _ => ?_) (sum_rows fun j => v (ix2 r j))
  pointwise

/-- The row sums of a tile, as the call stacks them. -/
def rowSums (x : Vec Ideal S512x2048 .bf16) : FVec Ideal S512x128 .f32 :=
  concatenate S512x128 0 [⟨S128x128, blockSum (extractStridedSlice S128x128 ![0, 0] (addf (k0_pay8 x) (k0_pay9 x)) slices_S512x128_o0_0_S128x128)⟩,
    ⟨S128x128, blockSum (extractStridedSlice S128x128 ![128, 0] (addf (k0_pay8 x) (k0_pay9 x)) slices_S512x128_o128_0_S128x128)⟩,
    ⟨S128x128, blockSum (extractStridedSlice S128x128 ![256, 0] (addf (k0_pay8 x) (k0_pay9 x)) slices_S512x128_o256_0_S128x128)⟩,
    ⟨S128x128, blockSum (extractStridedSlice S128x128 ![384, 0] (addf (k0_pay8 x) (k0_pay9 x)) slices_S512x128_o384_0_S128x128)⟩]
    concatenates_S128x128_S128x128_S128x128_S128x128_S512x128_d0

/-- The same, at a place: the sum of the row's squares. -/
theorem rowSums_at (x : Vec Ideal S512x2048 .bf16) (r : Fin 512) : rowSums x (ix2 r 0) = ∑ k : Fin 2048, x (ix2 r k) * x (ix2 r k) := by
  have e : rowSums x (ix2 r 0) = ∑ j : Fin 128, addf (k0_pay8 x) (k0_pay9 x) (ix2 r j) := by
    unfold rowSums
    generalize addf (k0_pay8 x) (k0_pay9 x) = v
    have h (o : ℕ) (hs : Shape.Slices S512x128 ![o, 0] S128x128) (q l : Fin 128) (ho : o + 128 ≤ 512) :
        blockSum (extractStridedSlice S128x128 ![o, 0] v hs) (ix2 q l) = ∑ j : Fin 128, v (ix2 ⟨o + q.val, by omega⟩ j) := by
      rw [blockSum_at]
      exact Finset.sum_congr rfl fun j _ => congrArg v (funext fun a => Fin.ext (by
        match a with
        | 0 => rfl
        | 1 => show 0 + j.val = j.val; omega))
    generalize h0 : blockSum (extractStridedSlice S128x128 ![0, 0] v slices_S512x128_o0_0_S128x128) = b0
    generalize h1 : blockSum (extractStridedSlice S128x128 ![128, 0] v slices_S512x128_o128_0_S128x128) = b1
    generalize h2 : blockSum (extractStridedSlice S128x128 ![256, 0] v slices_S512x128_o256_0_S128x128) = b2
    generalize h3 : blockSum (extractStridedSlice S128x128 ![384, 0] v slices_S512x128_o384_0_S128x128) = b3
    pointwise
    by_cases c0 : r.val < 128
    · rw [dif_pos c0, ← h0, h 0 _ _ _ (by omega)]
      exact Finset.sum_congr rfl fun j _ => congrArg (fun q => v (ix2 q j)) (Fin.ext (by show 0 + r.val = r.val; omega))
    · rw [dif_neg c0]
      by_cases c1 : r.val - 128 < 128
      · rw [dif_pos c1, ← h1, h 128 _ _ _ (by omega)]
        exact Finset.sum_congr rfl fun j _ => congrArg (fun q => v (ix2 q j)) (Fin.ext (by show 128 + (r.val - 128) = r.val; omega))
      · rw [dif_neg c1]
        by_cases c2 : r.val - 128 - 128 < 128
        · rw [dif_pos c2, ← h2, h 256 _ _ _ (by omega)]
          exact Finset.sum_congr rfl fun j _ => congrArg (fun q => v (ix2 q j)) (Fin.ext (by show 256 + (r.val - 128 - 128) = r.val; omega))
        · rw [dif_neg c2, ← h3, h 384 _ _ _ (by omega)]
          exact Finset.sum_congr rfl fun j _ => congrArg (fun q => v (ix2 q j)) (Fin.ext (by show 384 + (r.val - 128 - 128 - 128) = r.val; omega))
  rw [e]
  simp only [squares_at]
  exact sum_tiles fun k => x (ix2 r k) * x (ix2 r k)

/-- The normalised tile. -/
def normBlk (x : Vec Ideal S512x2048 .bf16) (w : Vec Ideal S1x2048 .f32) : FVec Ideal S512x2048 .f32 :=
  mulf (divf (k0_pay7 x) (broadcastTo S512x2048 (extractStridedSlice S512x1 ![0, 0] (sqrt (addf (mulf (rowSums x) (broadcast S512x128 (Scalar.ofBits .f32 0x3A000000#32)))
    (broadcast S512x128 (Scalar.ofBits .f32 0x3727C5AC#32)))) slices_S512x128_o0_0_S512x1) broadcasts_S512x1_S512x2048)) (broadcastTo S512x2048 w broadcasts_S1x2048_S512x2048)

/-- It is what the body computes. -/
theorem pay20_eq (x : Vec Ideal S512x2048 .bf16) (w : Vec Ideal S1x2048 .f32) :
    k0_pay20 (k0_pay7 x) w (k0_pay11 (k0_pay8 x) (k0_pay9 x)) (k0_pay14 (k0_pay12 (k0_pay8 x) (k0_pay9 x)) (k0_pay13 (k0_pay8 x) (k0_pay9 x)))
      (k0_pay17 (k0_pay15 (k0_pay10 (k0_pay8 x) (k0_pay9 x))) (k0_pay16 (k0_pay10 (k0_pay8 x) (k0_pay9 x)))) (k0_pay18 (k0_pay10 (k0_pay8 x) (k0_pay9 x))) (k0_pay19 (k0_pay10 (k0_pay8 x) (k0_pay9 x)))
      = normBlk x w := rfl

end Cert.FrontIdeal.Fr

end
-- ==== Proof.Front.Point.lean ====
/-
  The payloads of the first norm read at one index, on the extended reals.
-/
module

public import proofs.«01_k».proof.Proof.Front.Sums
public import proofs.«01_k».proof.Proof.Front.Spec
public import Idealize.ShloMosaic.PureOps.IdealRules
public import Idealize.ShloMosaic.Lib.Pipeline.ValueKit

@[expose] public section

set_option maxRecDepth 16384

noncomputable section

namespace Cert.FrontIdeal.Fr

open Cert.FrontIdeal Cert.FrontIdeal.Gen Cert.FrontSpec
open Cert.Mlp (scale rowMax code ofBits_bot div127)
open Idealize.ShloMosaic Idealize.ShloMosaic.TcCoe
open Idealize.ShloMosaic.VecWindow (window put)

/-- The named constant is 1/127. -/
theorem inv127 : Named.named (F := Ideal) κ "inv127" (φ := .f32) 0x3C010204#32 = ((1 / 127 : ℝ) : EReal) :=
  IdealRules.named_const.ideal_named_scalar _ _ _ _ rfl

/-- The normalised tile at a place. -/
theorem normBlk_at (x : Vec Ideal S512x2048 .bf16) (w : Vec Ideal S1x2048 .f32) (r : Fin 512) (k : Fin 2048) :
    normBlk x w (ix2 r k) = FrontSpec.norm (fun q => x (ix2 r q)) (fun q => w (ix2 0 q)) k := by
  unfold FrontSpec.norm rms
  rw [← rowSums_at, ← div2048, ← ofBits_inv2048]
  unfold normBlk k0_pay7
  generalize rowSums x = v
  pointwise
  done

/-- The tile's scales. -/
theorem scaleCol_at (x : Vec Ideal S512x2048 .bf16) (w : Vec Ideal S1x2048 .f32) (r : Fin 512) :
    scaleCol x w (ix2 r 0) = scale (rowMax fun k => normBlk x w (ix2 r k)) := by
  unfold scaleCol k0_pay21 scale rowMax
  rw [pay20_eq]
  generalize normBlk x w = v
  pointwise
  rw [ofBits_bot, inv127, div127]
  rfl

/-- The tile's codes. -/
theorem codesBlk_at (x : Vec Ideal S512x2048 .bf16) (w : Vec Ideal S1x2048 .f32) (r : Fin 512) (k : Fin 2048) :
    codesBlk x w (ix2 r k) = code (normBlk x w (ix2 r k)) (scaleCol x w (ix2 r 0)) := by
  unfold codesBlk k0_pay22 code
  rw [pay20_eq]
  change _ = _
  generalize hs : scaleCol x w = s
  unfold scaleCol at hs
  rw [hs]
  generalize normBlk x w = v
  pointwise
  rw [show (127#32 : BitVec 32).toInt = 127 from by decide, show (4294967169#32 : BitVec 32).toInt = -127 from by decide]
  norm_num
  rfl

/-! ## The block of scales -/

/-- Two numbers below 128 are equal when their words are. -/
theorem select_words (a b : ℕ) (ha : a < 128) (hb : b < 128) (x y : EReal) :
    Scalar.select (IntOp.cmpi .eq (BitVec.ofNat 32 a) (BitVec.ofNat 32 b)) x y = if a = b then x else y := by
  have hw : BitVec.ofNat 32 a = BitVec.ofNat 32 b ↔ a = b := by
    rw [← BitVec.toNat_inj, BitVec.toNat_ofNat, BitVec.toNat_ofNat]
    omega
  by_cases h : a = b
  · subst h
    simp [IntOp.cmpi, Scalar.select]
  · have h' : ¬BitVec.ofNat 32 a = BitVec.ofNat 32 b := fun e => h (hw.mp e)
    rw [if_neg h]
    show (if BitVec.ofBool (BitVec.ofNat 32 a == BitVec.ofNat 32 b) = 1#1 then x else y) = y
    rw [beq_eq_false_iff_ne.mpr h']; rfl

/-- The sum that keeps one entry, picked by comparing numbers as words. -/
theorem sum_pick (f : Fin 128 → EReal) (r : Fin 128) :
    (∑ x : Fin 128, Scalar.select (IntOp.cmpi .eq (BitVec.ofNat 32 x.val) (BitVec.ofNat 32 r.val)) (f x) 0) = f r := by
  rw [Finset.sum_congr rfl fun x _ => select_words x.val r.val x.isLt r.isLt (f x) 0]
  simp [Fin.val_inj]

/-- The first 128 scales are those of the column. -/
theorem scaleTop_at (x : Vec Ideal S512x2048 .bf16) (w : Vec Ideal S1x2048 .f32) (q : Fin 128) : scaleTop x w (ix2 q 0) = scaleCol x w (ix2 ⟨q.val, by omega⟩ 0) := by
  unfold scaleTop k0_pay25
  generalize hs : scaleCol x w = s
  unfold scaleCol at hs
  rw [hs]
  pointwise

/-- The first 128 scales, laid along the lanes. -/
theorem pay26_at (s : Vec Ideal S128x1 .f32) (r : Fin 128) : k0_pay26 (F := Ideal) k0_pay24 (Scalar.ofBits .f32 0x00000000#32) s (ix3 0 0 r) = s (ix2 r 0) := by
  unfold k0_pay26 k0_pay24
  pointwise
  exact sum_pick (fun q : Fin 128 => s (ix2 q 0)) r
/-- Rows 128 to 255. -/
theorem pay27_at (s : Vec Ideal S512x1 .f32) (r : Fin 128) : k0_pay27 (F := Ideal) s k0_pay24 (ix3 0 0 r) = s (ix2 ⟨128 + r.val, by omega⟩ 0) := by
  unfold k0_pay27 k0_pay24
  pointwise
  exact sum_pick (fun q : Fin 128 => s (ix2 ⟨128 + q.val, by omega⟩ 0)) r
/-- Rows 256 to 383. -/
theorem pay28_at (s : Vec Ideal S512x1 .f32) (r : Fin 128) : k0_pay28 (F := Ideal) s k0_pay24 (ix3 0 0 r) = s (ix2 ⟨256 + r.val, by omega⟩ 0) := by
  unfold k0_pay28 k0_pay24
  pointwise
  exact sum_pick (fun q : Fin 128 => s (ix2 ⟨256 + q.val, by omega⟩ 0)) r
/-- Rows 384 to 511. -/
theorem pay29_at (s : Vec Ideal S512x1 .f32) (r : Fin 128) : k0_pay29 (F := Ideal) s k0_pay24 (ix3 0 0 r) = s (ix2 ⟨384 + r.val, by omega⟩ 0) := by
  unfold k0_pay29 k0_pay24
  pointwise
  exact sum_pick (fun q : Fin 128 => s (ix2 ⟨384 + q.val, by omega⟩ 0)) r

/-- A row put over the block of scales, read in that row and in another. -/
theorem put_row (x : Vec Ideal S1x4x128 .f32) (w : Vec Ideal S1x1x128 .f32) (p : Fin 4) (q : Fin 128) : put x ![0, p.val, 0] S1x1x128.size w (ix3 0 p q) = w (ix3 0 0 q) := by
  unfold put
  rw [dif_pos fun a => by
    match a with
    | 0 => exact ⟨Nat.zero_le _, by show 0 < 0 + 1; omega⟩
    | 1 => exact ⟨le_refl _, by show p.val < p.val + 1; omega⟩
    | 2 => exact ⟨Nat.zero_le _, by show q.val < 0 + 128; omega⟩]
  exact congrArg w (funext fun a => Fin.ext (by
    match a with
    | 0 => rfl
    | 1 => show p.val - p.val = 0; omega
    | 2 => rfl))
/-- Storing one row leaves the other rows as they were. -/
theorem put_row_ne (x : Vec Ideal S1x4x128 .f32) (w : Vec Ideal S1x1x128 .f32) (p p' : Fin 4) (h : p' ≠ p) (q : Fin 128) :
    put x ![0, p.val, 0] S1x1x128.size w (ix3 0 p' q) = x (ix3 0 p' q) := by
  unfold put
  exact dif_neg fun hall => h (Fin.ext (by have := hall 1; have h1 : p.val ≤ p'.val := this.1; have h2 : p'.val < p.val + 1 := this.2; omega))

/-- The block of scales: row `p`, lane `q` has the scale of row `128 p + q` of the tile. -/
theorem scalesBlk_at (x : Vec Ideal S512x2048 .bf16) (w : Vec Ideal S1x2048 .f32) (p : Fin 4) (q : Fin 128) :
    scalesBlk x w (ix3 0 p q) = scaleCol x w (ix2 ⟨128 * p.val + q.val, by omega⟩ 0) := by
  unfold scalesBlk scalesPut
  match p with
  | 0 => exact (put_row_ne _ _ 3 0 (by decide) q).trans ((put_row_ne _ _ 2 0 (by decide) q).trans ((put_row_ne _ _ 1 0 (by decide) q).trans ((put_row _ _ 0 q).trans
      ((pay26_at _ q).trans ((scaleTop_at x w q).trans (congrArg (fun r => scaleCol x w (ix2 r 0)) (Fin.ext (by show q.val = 128 * 0 + q.val; omega))))))))
  | 1 => exact (put_row_ne _ _ 3 1 (by decide) q).trans ((put_row_ne _ _ 2 1 (by decide) q).trans ((put_row _ _ 1 q).trans (pay27_at _ q)))
  | 2 => exact (put_row_ne _ _ 3 2 (by decide) q).trans ((put_row _ _ 2 q).trans (pay28_at _ q))
  | 3 => exact (put_row _ _ 3 q).trans (pay29_at _ q)

end Cert.FrontIdeal.Fr

end
-- ==== Proof.Front.Value.lean ====
/-
  What the call leaves in the arrays of the first norm's codes and scales, on the extended reals: the functions `codes` and `scales` of its arguments.
-/
module

public import proofs.«01_k».proof.Proof.Front.Data
public import proofs.«01_k».proof.Proof.Front.Point

@[expose] public section

set_option maxRecDepth 16384

noncomputable section

namespace Cert.FrontIdeal.Fr

open Cert.FrontIdeal Cert.FrontIdeal.Gen Cert.FrontSpec
open Cert.Mlp (scale rowMax code)
open Idealize.ShloMosaic Idealize.ShloMosaic.TcCoe

variable (m : (ℓ : Loc nD τ sig) → Buf (Elt Ideal) ℓ) (c : Dev nD)

abbrev a0 : Vec Ideal S7680x2048 .bf16 := m ((c : Thread nD τ).loc main_arg0)
abbrev a3 : Vec Ideal S1x2048 .f32 := m ((c : Thread nD τ).loc main_arg3)

/-! ## Where each window's blocks lie -/

/-- The block index of the activations at a point. -/
theorem idx0 : ∀ t : Fin grid0.N, cc0_transform_0 (grid0.coords t) 0 = t.val ∧ cc0_transform_0 (grid0.coords t) 1 = 0 := by decide +kernel
/-- The block index of the gain at a point. -/
theorem idx2 : ∀ t : Fin grid0.N, cc0_transform_2 (grid0.coords t) 0 = 0 ∧ cc0_transform_2 (grid0.coords t) 1 = 0 := by decide +kernel
/-- The block index of the codes at a point. -/
theorem idx11 : ∀ t : Fin grid0.N, cc0_transform_11 (grid0.coords t) 0 = t.val ∧ cc0_transform_11 (grid0.coords t) 1 = 0 := by decide +kernel
/-- The block index of the scales at a point. -/
theorem idx12 : ∀ t : Fin grid0.N, cc0_transform_12 (grid0.coords t) 0 = t.val ∧ cc0_transform_12 (grid0.coords t) 1 = 0 ∧ cc0_transform_12 (grid0.coords t) 2 = 0 := by decide +kernel

/-- The block of the activations at a point. -/
abbrev X0 (t : Fin (cfgM m).N) : Vec Ideal S512x2048 .bf16 := iblk m c 0 t
/-- The gain, as a point's block. -/
abbrev X2 (t : Fin (cfgM m).N) : Vec Ideal S1x2048 .f32 := iblk m c 2 t

/-- A row of the activations, by tile and row in it. -/
def row (t : Fin 15) (r : Fin 512) : Fin 7680 := ⟨512 * t.val + r.val, by omega⟩

/-- The block of the activations, in terms of argument 0. -/
theorem b0 (t : Fin 15) (r : Fin 512) (q : Fin 2048) : X0 m c (t.cast N_0.symm) (ix2 r q) = a0 m c (ix2 (row t r) q) := by
  have h := idx0 (t.cast N_0.symm)
  show a0 m c _ = _
  refine congrArg (a0 m c) (funext fun (a : Fin 2) => Fin.ext ?_)
  match a with
  | 0 => exact (congrArg (fun z => z * 512 + 1 * r.val) h.1).trans (by show t.val * 512 + 1 * r.val = 512 * t.val + r.val; omega)
  | 1 => exact (congrArg (fun z => z * 2048 + 1 * q.val) h.2).trans (by show 0 * 2048 + 1 * q.val = q.val; omega)
/-- The block of the gain, in terms of argument 3. -/
theorem b2 (t : Fin (cfgM m).N) (q : Fin 2048) : X2 m c t (ix2 0 q) = a3 m c (ix2 0 q) := by
  have h := idx2 t
  show a3 m c _ = _
  refine congrArg (a3 m c) (funext fun (a : Fin 2) => Fin.ext ?_)
  match a with
  | 0 => exact (congrArg (fun z => z * 1 + 1 * 0) h.1).trans (by rfl)
  | 1 => exact (congrArg (fun z => z * 2048 + 1 * q.val) h.2).trans (by show 0 * 2048 + 1 * q.val = q.val; omega)

/-- The normalised tile, from the arguments. -/
theorem normBlk_eq (t : Fin 15) (r : Fin 512) (k : Fin 2048) : normBlk (X0 m c (t.cast N_0.symm)) (X2 m c (t.cast N_0.symm)) (ix2 r k) = normed (a0 m c) (a3 m c) (row t r) k := by
  rw [normBlk_at, funext fun q => b0 m c t r q, funext fun q => b2 m c (t.cast N_0.symm) q]
  rfl
/-- The tile's scales, from the arguments. -/
theorem scaleCol_eq (t : Fin 15) (r : Fin 512) : scaleCol (X0 m c (t.cast N_0.symm)) (X2 m c (t.cast N_0.symm)) (ix2 r 0) = rowScale (a0 m c) (a3 m c) (row t r) := by
  rw [scaleCol_at, funext fun k => normBlk_eq m c t r k]
  rfl
/-- The tile's codes, from the arguments. -/
theorem codesT_at (t : Fin 15) (r : Fin 512) (k : Fin 2048) : codesT m c (t.cast N_0.symm) (ix2 r k) = codes (a0 m c) (a3 m c) (ix2 (row t r) k) := by
  exact (codesBlk_at (X0 m c (t.cast N_0.symm)) (X2 m c (t.cast N_0.symm)) r k).trans (congr (congrArg code (normBlk_eq m c t r k)) (scaleCol_eq m c t r))
/-- The tile's block of scales, from the arguments. -/
theorem scalesT_at (t : Fin 15) (p : Fin 4) (q : Fin 128) : scalesT m c (t.cast N_0.symm) (ix3 0 p q) = scales (a0 m c) (a3 m c) (ix3 t p q) := by
  refine (scalesBlk_at (X0 m c (t.cast N_0.symm)) (X2 m c (t.cast N_0.symm)) p q).trans ((scaleCol_eq m c t _).trans ?_)
  refine congrArg (rowScale (a0 m c) (a3 m c)) (Fin.ext ?_)
  show 512 * t.val + (128 * p.val + q.val) = 512 * t.val + 128 * p.val + q.val
  omega

/-! ## The result arrays -/

/-- A table of zeros: where the blocks lie does not depend on it. -/
def zeros : pre0.Contents (Elt Ideal) := fun | 0 => fun _ => 0#32

/-- The blocks of codes that are written back cover their array. -/
theorem covers11 (a : (pcfg0 (F := Ideal)).Adm) : ((cfg0 a).win 11).Covers := by
  have h : ((cfg0 (F := Ideal) ⟨zeros, trivial⟩).win 11).Covers := by decide +kernel
  exact h
/-- The blocks of scales that are written back cover their array. -/
theorem covers12 (a : (pcfg0 (F := Ideal)).Adm) : ((cfg0 a).win 12).Covers := by
  have h : ((cfg0 (F := Ideal) ⟨zeros, trivial⟩).win 12).Covers := by decide +kernel
  exact h

/-- The array of the codes after the call. -/
theorem final11 : (dats m 0 c).arrAt 11 (cfgM m).N = codes (a0 m c) (a3 m c) := by
  refine (dats m 0 c).arrAt_eq_of_covers 11 _ (covers11 (adm m)) fun t hf (y : S512x2048.Idx) => ?_
  have h := idx11 t
  have hN : t.val < 15 := lt_of_lt_of_eq t.isLt N_0
  rw [after11]
  refine (congrArg (codesT m c t) (eq_ix2 (n0 := 512) (n1 := 2048) y)).trans ((codesT_at m c ⟨t.val, hN⟩ (y 0) (y 1)).trans ?_)
  show _ = codes (a0 m c) (a3 m c) _
  generalize codes (a0 m c) (a3 m c) = G
  refine congrArg G (funext fun (a : Fin 2) => Fin.ext ?_)
  match a with
  | 0 => exact Eq.trans (by show 512 * t.val + (y 0).val = t.val * 512 + 1 * (y 0).val; omega) (congrArg (fun z => z * 512 + 1 * (y 0).val) h.1).symm
  | 1 => exact Eq.trans (by show (y 1).val = 0 * 2048 + 1 * (y 1).val; omega) (congrArg (fun z => z * 2048 + 1 * (y 1).val) h.2).symm

/-- The array of the scales after the call. -/
theorem final12 : (dats m 0 c).arrAt 12 (cfgM m).N = scales (a0 m c) (a3 m c) := by
  refine (dats m 0 c).arrAt_eq_of_covers 12 _ (covers12 (adm m)) fun t hf (y : S1x4x128.Idx) => ?_
  have h := idx12 t
  have hN : t.val < 15 := lt_of_lt_of_eq t.isLt N_0
  rw [after12]
  have y0 : (show Fin 1 from y 0) = 0 := Subsingleton.elim _ _
  refine (congrArg (scalesT m c t) ((eq_ix3 (n0 := 1) (n1 := 4) (n2 := 128) y).trans (congrArg (fun z => ix3 z (y 1) (y 2)) y0))).trans ((scalesT_at m c ⟨t.val, hN⟩ (y 1) (y 2)).trans ?_)
  show _ = scales (a0 m c) (a3 m c) _
  generalize scales (a0 m c) (a3 m c) = G
  refine congrArg G (funext fun (a : Fin 3) => Fin.ext ?_)
  match a with
  | 0 => exact Eq.trans (by have := congrArg Fin.val y0; have e : (y 0).val = 0 := this; show t.val = t.val * 1 + 1 * (y 0).val; omega) (congrArg (fun z => z * 1 + 1 * (y 0).val) h.1).symm
  | 1 => exact Eq.trans (by show (y 1).val = 0 * 4 + 1 * (y 1).val; omega) (congrArg (fun z => z * 4 + 1 * (y 1).val) h.2.1).symm
  | 2 => exact Eq.trans (by show (y 2).val = 0 * 128 + 1 * (y 2).val; omega) (congrArg (fun z => z * 128 + 1 * (y 2).val) h.2.2).symm

end Cert.FrontIdeal.Fr

end
-- ==== Proof.Front.RefRun.lean ====
/-
  The reference's run, on the extended reals: its result arrays end at the functions `codes` and `scales` of its arguments.
-/
module

public import proofs.«01_k».proof.Proof.Gen.FrontReferenceIdeal.Frame
public import proofs.«01_k».proof.Proof.Front.Spec
public import Idealize.ShloMosaic.Lib.Pipeline.ValueKit

@[expose] public section

set_option maxRecDepth 16384

noncomputable section

namespace Cert.FrontReferenceIdeal.Fr

open Cert.FrontReferenceIdeal Cert.FrontReferenceIdeal.Gen Cert.FrontSpec
open Cert.Mlp (scale rowMax code ofBits_bot ofBits_127)
open Idealize.ShloMosaic Idealize.ShloMosaic.TcCoe

variable (m : (ℓ : Loc nD τ sig) → Buf (Elt Ideal) ℓ) (c : Dev nD)

/-! ## The values of the body -/

variable (x : Vec Ideal S7680x2048 .bf16) (w : Vec Ideal S1x2048 .f32)

/-- The sum of a row. -/
theorem rowSum_at (a : FVec Ideal S7680x2048 .f32) (h1 h2 h3) (r : Fin 7680) :
    multiReduction .add [1] S7680 a 0x00000000#32 h1 h2 h3 (ix1 r) = ∑ k : Fin 2048, a (ix2 r k) := by
  pointwise

/-- The largest absolute value of a row. -/
theorem rowMax_at (a : FVec Ideal S7680x2048 .f32) (h1 h2 h3) (r : Fin 7680) :
    multiReduction .maximumf [1] S7680 (absf a) 0xFF800000#32 h1 h2 h3 (ix1 r) = rowMax fun k => a (ix2 r k) := by
  generalize hz : (rowMax fun k => a (ix2 r k)) = z
  pointwise
  rw [ofBits_bot, ← hz]
  rfl

/-- A vector as a column, at a row. -/
theorem column_at (a : FVec Ideal S7680 .f32) (h) (r : Fin 7680) : shapeCast S7680x1 a h (ix2 r 0) = a (ix1 r) := by
  pointwise

/-- A row over the root of its mean square, times the gain. -/
theorem norm_at (s : FVec Ideal S7680x1 .f32) (h1 : S7680x1.Broadcasts S7680x2048) (h2 : S1x2048.Broadcasts S7680x2048) (r : Fin 7680) (k : Fin 2048) :
    mulf (divf (extf .f32 x bitsLt_bf16_f32) (broadcastTo S7680x2048 (sqrt (addf (divf s (broadcast S7680x1 (Scalar.ofBits .f32 0x45000000#32))) (broadcast S7680x1 (Scalar.ofBits .f32 0x3727C5AC#32)))) h1))
      (broadcastTo S7680x2048 w h2) (ix2 r k)
      = Ideal.div (x (ix2 r k)) (Ideal.sqrt (Ideal.div (s (ix2 r 0)) ((2048 : ℝ) : EReal) + Ideal.ofBits .f32 0x3727C5AC#32)) * w (ix2 0 k) := by
  pointwise
  rw [ofBits_2048]

/-- The normalised rows. -/
theorem pay1_at (r : Fin 7680) (k : Fin 2048) : k0_pay1 x w (ix2 r k) = normed x w r k := by
  refine (norm_at x w _ _ _ r k).trans (Eq.trans (congrArg (fun z : EReal => Ideal.div (x (ix2 r k)) (Ideal.sqrt (Ideal.div z ((2048 : ℝ) : EReal) + Ideal.ofBits .f32 0x3727C5AC#32)) * w (ix2 0 k))
    ((column_at _ _ r).trans (rowSum_at _ _ _ _ r))) ?_)
  rfl

/-- One for a row of zeros, otherwise the maximum over 127. -/
theorem scale_at (b : FVec Ideal S7680x1 .f32) (r : Fin 7680) :
    select (cmpf .oeq b (broadcast S7680x1 (Scalar.ofBits .f32 0x00000000#32))) (broadcast S7680x1 (Scalar.ofBits .f32 0x3F800000#32))
      (divf b (broadcast S7680x1 (Scalar.ofBits .f32 0x42FE0000#32))) (ix2 r 0) = scale (b (ix2 r 0)) := by
  unfold scale
  pointwise
  rw [ofBits_127]

/-- The scale of a row. -/
theorem pay2_at (r : Fin 7680) : k0_pay2 x w (ix2 r 0) = rowScale x w r :=
  (scale_at _ r).trans (congrArg scale ((column_at _ _ r).trans ((rowMax_at _ _ _ _ r).trans (congrArg rowMax (funext fun k => pay1_at x w r k)))))

/-- A code, from the normalised rows and the scales. -/
theorem code_at (v : FVec Ideal S7680x2048 .f32) (s : FVec Ideal S7680x1 .f32) (h : S7680x1.Broadcasts S7680x2048) (r : Fin 7680) (k : Fin 2048) :
    fptosi 8 (minimumf (broadcast S7680x2048 (Scalar.sitofp .f32 127#32)) (maximumf (broadcast S7680x2048 (Scalar.sitofp .f32 4294967169#32))
      (roundeven (divf v (broadcastTo S7680x2048 s h))))) (ix2 r k) = code (v (ix2 r k)) (s (ix2 r 0)) := by
  unfold code
  pointwise
  rw [show (127#32 : BitVec 32).toInt = 127 from by decide, show (4294967169#32 : BitVec 32).toInt = -127 from by decide]
  norm_num
  rfl

/-- The codes. -/
theorem pay3_at (r : Fin 7680) (k : Fin 2048) : k0_pay3 x w (ix2 r k) = codes x w (ix2 r k) := by
  refine (code_at (k0_pay1 x w) (k0_pay2 x w) _ r k).trans ?_
  rw [pay1_at, pay2_at]
  rfl

/-! ## The arguments and the blocks -/

abbrev a0 : Vec Ideal S7680x2048 .bf16 := m ((c : Thread nD τ).loc main_arg0)
abbrev a3 : Vec Ideal S1x2048 .f32 := m ((c : Thread nD τ).loc main_arg3)

/-- Every operand is one block, at index zero. -/
theorem idx : ∀ (w : Fin 4) (t : Fin grid0.N) a, (cfg0.win w).index t a = 0 := by decide +kernel

abbrev x0 (t : Fin grid0.N) : Vec Ideal S7680x2048 .bf16 := iblk m c 0 t
abbrev x1 (t : Fin grid0.N) : Vec Ideal S1x2048 .f32 := iblk m c 1 t

/-- Operand 0 of the reference's call is argument 0. -/
theorem b0 (t : Fin grid0.N) : x0 m c t = a0 m c := by
  funext y
  rw [eq_ix2 (n0 := 7680) (n1 := 2048) y]
  blk_ext! [x0, iblk, V, idx 0 t]
/-- Operand 1 of the reference's call is argument 3. -/
theorem b1 (t : Fin grid0.N) : x1 m c t = a3 m c := by
  funext y
  rw [eq_ix2 (n0 := 1) (n1 := 2048) y]
  blk_ext! [x1, iblk, V, idx 1 t]

/-! ## The result arrays -/

/-- The scales as a column. -/
def scaleCol : Vec Ideal S7680x1 .f32 := fun i => rowScale (a0 m c) (a3 m c) (i 0)

/-- The array of the codes after the call. -/
theorem final2 : (dats m 0 c).arrAt 2 cfg0.N = codes (a0 m c) (a3 m c) := by
  refine (dats m 0 c).arrAt_eq_of_covers 2 _ (by decide +kernel) fun t hf y => ?_
  blk_simp
  rw [after0_2]
  frame_out
  refine ((congrArg _ (eq_ix2 (n0 := 7680) (n1 := 2048) y)).trans (pay3_at (x0 m c t) (x1 m c t) (y 0) (y 1))).trans ?_
  rw [b0, b1]
  generalize codes (a0 m c) (a3 m c) = G
  blk_ext! [idx 2 t]

/-- The array of the scales after the call, as a column. -/
theorem final3 : (dats m 0 c).arrAt 3 cfg0.N = scaleCol m c := by
  refine (dats m 0 c).arrAt_eq_of_covers 3 _ (by decide +kernel) fun t hf y => ?_
  blk_simp
  rw [after0_3]
  frame_out
  have y1 : (show Fin 1 from y 1) = 0 := Subsingleton.elim _ _
  refine ((congrArg _ ((eq_ix2 (n0 := 7680) (n1 := 1) y).trans (congrArg (fun z => ix2 (y 0) z) y1))).trans (pay2_at (x0 m c t) (x1 m c t) (y 0))).trans ?_
  rw [b0, b1]
  show scaleCol m c (ix2 (y 0) 0) = _
  generalize scaleCol m c = G
  blk_ext! [idx 3 t]

/-- The column of scales, reshaped into tiles of rows of lanes. -/
theorem tiles_at (b : FVec Ideal S7680x1 .f32) (h) (i : Fin 15) (p : Fin 4) (q : Fin 128) :
    shapeCast S15x4x128 b h (ix3 i p q) = b (ix2 ⟨512 * i.val + 128 * p.val + q.val, by omega⟩ 0) := by
  pointwise
  exact congrArg (fun R => b (ix2 R 0)) (Fin.ext (by show i.val * 512 + p.val * 128 + q.val = 512 * i.val + 128 * p.val + q.val; omega))

/-- The host reshapes the column of scales to the tiles of the array returned. -/
theorem tail : Pipeline.afterTail₀ cfgs (dats m) 0 (V0 m) [hostOps1] c main_v1 = scales (a0 m c) (a3 m c) := by
  unfold Pipeline.afterTail₀
  generalize hW : Pipeline.withArrays _ c (V0 m c) _ = W
  have e : W (Proc.devRef .tc main_v0_1) = scaleCol m c := by
    rw [← hW]
    exact (Pipeline.withArrays_arr spec0 (by decide) c _ _ 3).trans (final3 m c)
  show StableHlo.after hostOps1 _ _ = _
  unfold hostOps1
  after_results
  refine (congrArg (fun z => shapeCast S15x4x128 z shapeCasts_S7680x1_S15x4x128) e).trans (funext fun i => ?_)
  rw [eq_ix3 (n0 := 15) (n1 := 4) (n2 := 128) i]
  exact tiles_at (scaleCol m c) _ (i 0) (i 1) (i 2)

/-- Every run of the reference ends with its results at these functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v0_0) = codes (a0 m c) (a3 m c)
    ∧ r.2.mem ((c.tc : Thread nD τ).loc main_v1) = scales (a0 m c) (a3 m c)) :=
  (θ_run defs _ _).mono (fun _ h c => ⟨((h c).1 2).trans (final2 m c),
    ((h c).2 main_v1 (Pipeline.mem_restRefs_of main_v1 (by decide) (by decide))).trans (tail m c)⟩) (run_main m ρ)

end Cert.FrontReferenceIdeal.Fr

end
-- ==== Proof.Front.Algebraic.lean ====
/-
  The first call and its reference end with equal codes and scales of the first norm, on the extended reals.
-/
module

public import proofs.«01_k».proof.Defs
public import proofs.«01_k».proof.Proof.Front.Value
public import proofs.«01_k».proof.Proof.Front.RefRun

@[expose] public section

set_option maxRecDepth 16384

noncomputable section

namespace Cert.FrontSpec

open Idealize.ShloMosaic Idealize.ShloMosaic.TcCoe Idealize.SL.Sem

/-- From memories that agree on the arguments, the first call and its reference end with equal results: the codes of the first norm and their scales. Each
    also leaves its arguments as they were. -/
theorem algebraic [Cert.FrontIdeal.Facts] [Cert.FrontReferenceIdeal.Facts] : Cert.algebraic_FrontIdeal_FrontReferenceIdeal := by
  intro m ρ m' ρ' _ hagree
  refine ⟨fun c => codes (Cert.FrontIdeal.Fr.a0 m c) (Cert.FrontIdeal.Fr.a3 m c), fun c => scales (Cert.FrontIdeal.Fr.a0 m c) (Cert.FrontIdeal.Fr.a3 m c), ?_, ?_⟩
  · exact (θ_run Cert.FrontIdeal.defs _ _).mono (fun _ h c => ⟨(h.1 c).1.trans (Cert.FrontIdeal.Fr.final11 m c), (h.1 c).2.1.trans (Cert.FrontIdeal.Fr.final12 m c), (h.1 c).2.2⟩)
      (Cert.FrontIdeal.Fr.run_main m ρ)
  · refine (θ_run Cert.FrontReferenceIdeal.defs _ _).mono (fun _ h c => ⟨(h.1 c).1.trans ?_, (h.1 c).2.trans ?_, h.2 c⟩)
      (θ_run_and (Cert.FrontReferenceIdeal.Fr.run m' ρ') (Cert.FrontReferenceIdeal.Gen.unchanged m' ρ'))
    all_goals
      obtain ⟨h0, _, _, h3, _⟩ := hagree c
      have e0 : Cert.FrontReferenceIdeal.Fr.a0 m' c = Cert.FrontIdeal.Fr.a0 m c := h0
      have e3 : Cert.FrontReferenceIdeal.Fr.a3 m' c = Cert.FrontIdeal.Fr.a3 m c := h3
    · have e := congr (congrArg codes e0) e3
      exact e
    · have e := congr (congrArg scales e0) e3
      exact e

end Cert.FrontSpec

end
-- ==== Proof.lean ====
module

public import proofs.«01_k».proof.Defs
public import proofs.«01_k».proof.Proof.Gen.ReferenceIdeal.Frame
public import proofs.«01_k».proof.Proof.Mlp.Data
public import proofs.«01_k».proof.Proof.MlpBits.Data
public import proofs.«01_k».proof.Proof.Mlp.Algebraic
public import proofs.«01_k».proof.Proof.Gen.FrontReferenceIdeal.Frame
public import proofs.«01_k».proof.Proof.Front.Data
public import proofs.«01_k».proof.Proof.FrontBits.Data
public import proofs.«01_k».proof.Proof.Front.Algebraic
public import Idealize.ShloMosaic.PureOps.IdealRules

@[expose] public section

noncomputable section

namespace Cert.Proof

open Idealize.ShloMosaic Idealize.SL.Sem

/-- The printed kernel runs to completion from any memory, leaves its arguments unchanged and every counter at zero. -/
theorem frame_kernel [h : Cert.Kernel.Facts] : Cert.quiescent_Kernel := fun m ρ _ => Cert.Kernel.Mlp.frame m ρ

/-- So does its idealization. -/
theorem frame_ideal [h : Cert.KernelIdeal.Facts] : Cert.quiescent_KernelIdeal := fun m ρ _ => Cert.KernelIdeal.Mlp.frame m ρ

/-- So does the reference. -/
theorem frame_reference [h : Cert.ReferenceIdeal.Facts] : Cert.quiescent_ReferenceIdeal := fun m ρ _ => Cert.ReferenceIdeal.Gen.frame m ρ

/-- The named constant is exactly 1/127. -/
theorem preserves : Cert.preserves_Kernel_KernelIdeal :=
  IdealRules.named_const.statement Cert.KernelIdeal.κ "inv127" .f32 0x3C010204#32 ((1 / 127 : ℝ) : EReal) rfl

/-- The printed first call runs to completion from any memory, leaves its arguments unchanged and every counter at zero. -/
theorem frame_front [h : Cert.Front.Facts] : Cert.quiescent_Front := fun m ρ _ => Cert.Front.Fr.frame m ρ

/-- So does its idealization. -/
theorem frame_front_ideal [h : Cert.FrontIdeal.Facts] : Cert.quiescent_FrontIdeal := fun m ρ _ => Cert.FrontIdeal.Fr.frame m ρ

/-- So does its reference. -/
theorem frame_front_reference [h : Cert.FrontReferenceIdeal.Facts] : Cert.quiescent_FrontReferenceIdeal := fun m ρ _ => Cert.FrontReferenceIdeal.Gen.frame m ρ

/-- The named constant is exactly 1/127 in the first call too. -/
theorem preserves_front : Cert.preserves_Front_FrontIdeal :=
  IdealRules.named_const.statement Cert.FrontIdeal.κ "inv127" .f32 0x3C010204#32 ((1 / 127 : ℝ) : EReal) rfl

theorem claim : Cert.Claim := ⟨Cert.Kernel.Gen.facts, Cert.KernelIdeal.Gen.facts, Cert.ReferenceIdeal.Gen.facts,
  Cert.Front.Gen.facts, Cert.FrontIdeal.Gen.facts, Cert.FrontReferenceIdeal.Gen.facts,
  frame_kernel, frame_ideal, frame_reference, frame_front, frame_front_ideal, frame_front_reference, preserves, Cert.Mlp.algebraic, preserves_front, Cert.FrontSpec.algebraic⟩

end Cert.Proof

end
